-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_embed_finite [hPre_embed_finite : Cert.Pre_embed_finite.Facts] (m : (ℓ : Loc Cert.KernelIdeal.nD Cert.KernelIdeal.τ Cert.KernelIdeal.sig) → Buf (Elt Ideal) ℓ) : Prop :=
  ∀ c : Dev Cert.KernelIdeal.nD,
    (Cert.Pre_embed_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_embed_finite [hPre_embed_finite : Cert.Pre_embed_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_embed_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_embed_finite [hKernelIdeal : Cert.KernelIdeal.Facts] [hPre_embed_finite : Cert.Pre_embed_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_embed_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_embed_finite [hReferenceIdeal : Cert.ReferenceIdeal.Facts] [hPre_embed_finite : Cert.Pre_embed_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_embed_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_embed_finite [hKernelIdeal : Cert.KernelIdeal.Facts] [hReferenceIdeal : Cert.ReferenceIdeal.Facts] [hPre_embed_finite : Cert.Pre_embed_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_embed_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_embed_finite : Cert.Pre_embed_finite.Facts),
    quiescent_Kernel (hKernel := hKernel)
    ∧ quiescent_KernelIdeal (hKernelIdeal := hKernelIdeal)
    ∧ quiescent_KernelIdeal_pre_embed_finite (hKernelIdeal := hKernelIdeal) (hPre_embed_finite := hPre_embed_finite)
    ∧ quiescent_ReferenceIdeal (hReferenceIdeal := hReferenceIdeal)
    ∧ quiescent_ReferenceIdeal_pre_embed_finite (hReferenceIdeal := hReferenceIdeal) (hPre_embed_finite := hPre_embed_finite)
    ∧ preserves_Kernel_KernelIdeal
    ∧ algebraic_KernelIdeal_ReferenceIdeal_pre_embed_finite (hKernelIdeal := hKernelIdeal) (hReferenceIdeal := hReferenceIdeal) (hPre_embed_finite := hPre_embed_finite)
-- ==== Pre_embed_finite.lean ====
abbrev S2048x16x32 : Shape := ⟨3, ![2048, 16, 32]⟩
abbrev S512x1024 : Shape := ⟨2, ![512, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S8x1024x1024 : Shape := ⟨3, ![8, 1024, 1024]⟩
abbrev S_ : Shape := ⟨0, ![]⟩

class Facts : Prop where
  bcast_S_S8x1024x1024 : S_.BroadcastsInDim S8x1024x1024 (![] : Fin 0 → Fin S8x1024x1024.rank)

variable [Facts]

def fn {F : FTy → Type} [FloatOps F] (main_arg0 : FVec F S2048x16x32 .f32) (main_arg1 : FVec F S512x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x512 .f32) (main_arg12 : FVec F S512 .f32) (main_arg13 : FVec F S8x1024x1024 .f32) : IVec S8x1024x1024 1 :=
  let main_v0 : FVec F S8x1024x1024 .f32 := Host.absf main_arg13
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  main_v2
-- ==== Kernel.lean ====
abbrev S2048x16x32 : Shape := ⟨3, ![2048, 16, 32]⟩
abbrev S512x1024 : Shape := ⟨2, ![512, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S8x1024x1024 : Shape := ⟨3, ![8, 1024, 1024]⟩
abbrev S2048x512 : Shape := ⟨2, ![2048, 512]⟩
abbrev S1x1024 : Shape := ⟨2, ![1, 1024]⟩
abbrev S2048x1024 : Shape := ⟨2, ![2048, 1024]⟩
abbrev S512x512 : Shape := ⟨2, ![512, 512]⟩
abbrev S1x512 : Shape := ⟨2, ![1, 512]⟩
abbrev S8x1x2048 : Shape := ⟨3, ![8, 1, 2048]⟩
abbrev S1x1 : Shape := ⟨2, ![1, 1]⟩
abbrev S1x1024x1024 : Shape := ⟨3, ![1, 1024, 1024]⟩
abbrev S1x1x512 : Shape := ⟨3, ![1, 1, 512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1x512x512 : Shape := ⟨3, ![1, 512, 512]⟩
abbrev S8x2048 : Shape := ⟨2, ![8, 2048]⟩
abbrev S2048x8 : Shape := ⟨2, ![2048, 8]⟩
abbrev S_ : Shape := ⟨0, ![]⟩

abbrev nBuf : Space → Nat
  | .hbm => 32
  | .vmem => 31
  | .smem => 0
  | _ => 0

abbrev bufTy : (tb : Table) → Fin (tcTables nBuf tb) → BufTy
  | .hbm, ⟨0, _⟩ => ⟨S2048x16x32, .f32⟩
  | .hbm, ⟨1, _⟩ => ⟨S512x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x512, .f32⟩
  | .hbm, ⟨12, _⟩ => ⟨S512, .f32⟩
  | .hbm, ⟨13, _⟩ => ⟨S8x1024x1024, .f32⟩
  | .hbm, ⟨14, _⟩ => ⟨S2048x512, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S2048x1024, .f32⟩
  | .hbm, ⟨19, _⟩ => ⟨S1x1024, .f32⟩
  | .hbm, ⟨20, _⟩ => ⟨S1x1024, .f32⟩
  | .hbm, ⟨21, _⟩ => ⟨S1x512, .f32⟩
  | .hbm, ⟨22, _⟩ => ⟨S8x1x2048, .i32⟩
  | .hbm, ⟨23, _⟩ => ⟨S2048x512, .f32⟩
  | .hbm, ⟨24, _⟩ => ⟨S1x1, .f32⟩
  | .hbm, ⟨25, _⟩ => ⟨S1x1, .f32⟩
  | .hbm, ⟨26, _⟩ => ⟨S2048x16x32, .f32⟩
  | .hbm, ⟨27, _⟩ => ⟨S8x2048, .i32⟩
  | .hbm, ⟨28, _⟩ => ⟨S2048x8, .i32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S1x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S2048x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S2048x512, .f32⟩
  | .local _ .vmem, ⟨14, _⟩ => ⟨S1024x1024, .f32⟩
  | .local _ .vmem, ⟨15, _⟩ => ⟨S1x1024, .f32⟩
  | .local _ .vmem, ⟨16, _⟩ => ⟨S1024x1024, .f32⟩
  | .local _ .vmem, ⟨17, _⟩ => ⟨S1x1024, .f32⟩
  | .local _ .vmem, ⟨18, _⟩ => ⟨S1024x512, .f32⟩
  | .local _ .vmem, ⟨19, _⟩ => ⟨S1x512, .f32⟩
  | .local _ .vmem, ⟨20, _⟩ => ⟨S1x1x512, .i32⟩
  | .local _ .vmem, ⟨21, _⟩ => ⟨S1x1x512, .i32⟩
  | .local _ .vmem, ⟨22, _⟩ => ⟨S512x512, .f32⟩
  | .local _ .vmem, ⟨23, _⟩ => ⟨S512x512, .f32⟩
  | .local _ .vmem, ⟨24, _⟩ => ⟨S1x1, .f32⟩
  | .local _ .vmem, ⟨25, _⟩ => ⟨S1x1, .f32⟩
  | .local _ .vmem, ⟨26, _⟩ => ⟨S2048x1024, .f32⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1x1024, .f32⟩
  | _, _ => ⟨S2048x16x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v8_3 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg10_1 : Ref sig .tc := ⟨.vmem, 23, rfl⟩
abbrev cc1_stg11_0 : Ref sig .tc := ⟨.vmem, 24, rfl⟩
abbrev cc1_stg12_0 : Ref sig .tc := ⟨.vmem, 25, rfl⟩
abbrev cc1_scratch0 : Ref sig .tc := ⟨.vmem, 26, rfl⟩
abbrev cc1_scratch1 : Ref sig .tc := ⟨.vmem, 27, rfl⟩
abbrev cc1_scratch2 : Ref sig .tc := ⟨.vmem, 28, rfl⟩
abbrev cc1_scratch3 : Ref sig .tc := ⟨.vmem, 29, rfl⟩
abbrev cc1_scratch4 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc1_sem10_0 : DmaSem sig := 22
abbrev cc1_sem10_1 : DmaSem sig := 23
abbrev cc1_sem11_0 : DmaSem sig := 24
abbrev cc1_sem12_0 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![8, 4], ![false, false]⟩

def k1_cond3 (i : grid1.Coords) : BitVec 1 :=
  let arg0 : BitVec 32 := BitVec.ofNat 32 (i 0).val
  let c0_i32_6 : BitVec 32 := 0#32
  let v11 : BitVec 1 := Scalar.cmpi .eq arg0 c0_i32_6
  let v12 : BitVec 32 := Scalar.extui v11
  let c0_i32_7 : BitVec 32 := 0#32
  let v13 : BitVec 1 := Scalar.cmpi .ne v12 c0_i32_7
  v13

def k1_off1 (i : grid1.Coords) : Fin 2 → Nat :=
  let arg1 : BitVec 32 := BitVec.ofNat 32 (i 1).val
  let c512_i32 : BitVec 32 := 512#32
  let v0 : BitVec 32 := Scalar.muli arg1 c512_i32
  let v80 : Index := Scalar.indexCast v0
  let c0_38 : Index := 0#32
  ![v80.toNat, 0]
def k1_off2 (i : grid1.Coords) : Fin 2 → Nat :=
  let arg1 : BitVec 32 := BitVec.ofNat 32 (i 1).val
  let c512_i32 : BitVec 32 := 512#32
  let v0 : BitVec 32 := Scalar.muli arg1 c512_i32
  let v14 : Index := Scalar.indexCast v0
  let c0_8 : Index := 0#32
  ![v14.toNat, 0]
def k1_cond4 (i : grid1.Coords) : BitVec 1 :=
  let arg0 : BitVec 32 := BitVec.ofNat 32 (i 0).val
  let c7_i32 : BitVec 32 := 7#32
  let v76 : BitVec 1 := Scalar.cmpi .eq arg0 c7_i32
  let v77 : BitVec 32 := Scalar.extui v76
  let c0_i32_36 : BitVec 32 := 0#32
  let v78 : BitVec 1 := Scalar.cmpi .ne v77 c0_i32_36
  v78

def k1_off3 (i : grid1.Coords) : Fin 2 → Nat :=
  let arg1 : BitVec 32 := BitVec.ofNat 32 (i 1).val
  let c512_i32 : BitVec 32 := 512#32
  let v0 : BitVec 32 := Scalar.muli arg1 c512_i32
  let v102 : Index := Scalar.indexCast v0
  let c0_56 : Index := 0#32
  ![v102.toNat, 0]
def k1_cond1 (i : grid1.Coords) : BitVec 1 :=
  let arg0 : BitVec 32 := BitVec.ofNat 32 (i 0).val
  let c0_i32 : BitVec 32 := 0#32
  let v1 : BitVec 1 := Scalar.cmpi .eq arg0 c0_i32
  let arg1 : BitVec 32 := BitVec.ofNat 32 (i 1).val
  let c0_i32_0 : BitVec 32 := 0#32
  let v2 : BitVec 1 := Scalar.cmpi .eq arg1 c0_i32_0
  let v3 : BitVec 1 := Scalar.andi v1 v2
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S2048x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1024x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S1x1x512 .i32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S512x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![false, true]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]
-- ==== ReferenceIdeal.lean ====
abbrev S2048x16x32 : Shape := ⟨3, ![2048, 16, 32]⟩
abbrev S512x1024 : Shape := ⟨2, ![512, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S8x1024x1024 : Shape := ⟨3, ![8, 1024, 1024]⟩
abbrev S2048x512 : Shape := ⟨2, ![2048, 512]⟩
abbrev S2048x1024 : Shape := ⟨2, ![2048, 1024]⟩
abbrev S1x1024 : Shape := ⟨2, ![1, 1024]⟩
abbrev S_ : Shape := ⟨0, ![]⟩
abbrev S1x1024x1024 : Shape := ⟨3, ![1, 1024, 1024]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S2048x8 : Shape := ⟨2, ![2048, 8]⟩
abbrev S1x512 : Shape := ⟨2, ![1, 512]⟩

abbrev nBuf : Space → Nat
  | .hbm => 607
  | .vmem => 0
  | .smem => 0
  | _ => 0

abbrev hbmTy0_0 (i : Nat) : BufTy := match i % 128 with
  | 0 => ⟨S2048x16x32, .f32⟩
  | 1 => ⟨S512x1024, .f32⟩
  | 2 => ⟨S1024, .f32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S1024x512, .f32⟩
  | 12 => ⟨S512, .f32⟩
  | 13 => ⟨S8x1024x1024, .f32⟩
  | 14 => ⟨S2048x512, .f32⟩
  | 15 => ⟨S2048x1024, .f32⟩
  | 16 => ⟨S1x1024, .f32⟩
  | 17 => ⟨S2048x1024, .f32⟩
  | 18 => ⟨S2048x1024, .f32⟩
  | 19 => ⟨S_, .f32⟩
  | 20 => ⟨S2048x1024, .f32⟩
  | 21 => ⟨S2048x1024, .f32⟩
  | 22 => ⟨S2048x1024, .f32⟩
  | 23 => ⟨S1x1024, .f32⟩
  | 24 => ⟨S2048x1024, .f32⟩
  | 25 => ⟨S2048x1024, .f32⟩
  | 26 => ⟨S_, .f32⟩
  | 27 => ⟨S2048x1024, .f32⟩
  | 28 => ⟨S2048x1024, .f32⟩
  | 29 => ⟨S2048x1024, .f32⟩
  | 30 => ⟨S1x1024, .f32⟩
  | 31 => ⟨S2048x1024, .f32⟩
  | 32 => ⟨S2048x1024, .f32⟩
  | 33 => ⟨S_, .f32⟩
  | 34 => ⟨S2048x1024, .f32⟩
  | 35 => ⟨S1x1024x1024, .f32⟩
  | 36 => ⟨S1024x1024, .f32⟩
  | 37 => ⟨S2048x1024, .f32⟩
  | 38 => ⟨S_, .f32⟩
  | 39 => ⟨S2048, .f32⟩
  | 40 => ⟨S2048x1, .f32⟩
  | 41 => ⟨S_, .f32⟩
  | 42 => ⟨S2048x1024, .f32⟩
  | 43 => ⟨S2048x1024, .f32⟩
  | 44 => ⟨S1024x1024, .f32⟩
  | 45 => ⟨S2048x1024, .f32⟩
  | 46 => ⟨S2048x1024, .f32⟩
  | 47 => ⟨S2048x1024, .f32⟩
  | 48 => ⟨S1024x1024, .f32⟩
  | 49 => ⟨S_, .f32⟩
  | 50 => ⟨S1024, .f32⟩
  | 51 => ⟨S1x1024, .f32⟩
  | 52 => ⟨S2048x1024, .f32⟩
  | 53 => ⟨S2048x1024, .f32⟩
  | 54 => ⟨S2048x1024, .i32⟩
  | 55 => ⟨S_, .f32⟩
  | 56 => ⟨S_, .i32⟩
  | 57 => ⟨S2048, .f32⟩
  | 58 => ⟨S2048, .i32⟩
  | 59 => ⟨S_, .i32⟩
  | 60 => ⟨S2048, .i32⟩
  | 61 => ⟨S2048, .i1⟩
  | 62 => ⟨S_, .i32⟩
  | 63 => ⟨S2048, .i32⟩
  | 64 => ⟨S2048, .i32⟩
  | 65 => ⟨S2048, .i32⟩
  | 66 => ⟨S2048x1, .i32⟩
  | 67 => ⟨S1, .i32⟩
  | 68 => ⟨S_, .i32⟩
  | 69 => ⟨S2048x1, .i32⟩
  | 70 => ⟨S2048x1, .i1⟩
  | 71 => ⟨S1x1, .i32⟩
  | 72 => ⟨S2048x1, .i32⟩
  | 73 => ⟨S2048x1, .i1⟩
  | 74 => ⟨S2048x1, .i1⟩
  | 75 => ⟨S_, .i1⟩
  | 76 => ⟨S2048, .i1⟩
  | 77 => ⟨S2048x1024, .f32⟩
  | 78 => ⟨S2048x1024, .i1⟩
  | 79 => ⟨S_, .f32⟩
  | 80 => ⟨S2048x1024, .f32⟩
  | 81 => ⟨S2048x1024, .f32⟩
  | 82 => ⟨S2048x1024, .f32⟩
  | 83 => ⟨S2048x1024, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S2048x1024, .f32⟩
  | 91 => ⟨S2048x1024, .f32⟩
  | 92 => ⟨S_, .f32⟩
  | 93 => ⟨S_, .f32⟩
  | 94 => ⟨S_, .f32⟩
  | 95 => ⟨S_, .f32⟩
  | 96 => ⟨S_, .f32⟩
  | 97 => ⟨S2048x1024, .f32⟩
  | 98 => ⟨S2048x1024, .f32⟩
  | 99 => ⟨S2048x1024, .f32⟩
  | 100 => ⟨S2048x1024, .f32⟩
  | 101 => ⟨S_, .f32⟩
  | 102 => ⟨S_, .f32⟩
  | 103 => ⟨S1x1024x1024, .f32⟩
  | 104 => ⟨S1024x1024, .f32⟩
  | 105 => ⟨S2048x1024, .f32⟩
  | 106 => ⟨S_, .f32⟩
  | 107 => ⟨S2048, .f32⟩
  | 108 => ⟨S2048x1, .f32⟩
  | 109 => ⟨S_, .f32⟩
  | 110 => ⟨S2048x1024, .f32⟩
  | 111 => ⟨S2048x1024, .f32⟩
  | 112 => ⟨S1024x1024, .f32⟩
  | 113 => ⟨S2048x1024, .f32⟩
  | 114 => ⟨S2048x1024, .f32⟩
  | 115 => ⟨S2048x1024, .f32⟩
  | 116 => ⟨S1024x1024, .f32⟩
  | 117 => ⟨S_, .f32⟩
  | 118 => ⟨S1024, .f32⟩
  | 119 => ⟨S1x1024, .f32⟩
  | 120 => ⟨S2048x1024, .f32⟩
  | 121 => ⟨S2048x1024, .f32⟩
  | 122 => ⟨S2048x1024, .i32⟩
  | 123 => ⟨S_, .f32⟩
  | 124 => ⟨S_, .i32⟩
  | 125 => ⟨S2048, .f32⟩
  | 126 => ⟨S2048, .i32⟩
  | 127 => ⟨S_, .i32⟩
  | _ => ⟨S2048x16x32, .f32⟩

abbrev hbmTy0_1 (i : Nat) : BufTy := match i % 128 with
  | 0 => ⟨S2048, .i32⟩
  | 1 => ⟨S2048, .i1⟩
  | 2 => ⟨S_, .i32⟩
  | 3 => ⟨S2048, .i32⟩
  | 4 => ⟨S2048, .i32⟩
  | 5 => ⟨S2048, .i32⟩
  | 6 => ⟨S2048x1, .i32⟩
  | 7 => ⟨S1, .i32⟩
  | 8 => ⟨S_, .i32⟩
  | 9 => ⟨S2048x1, .i32⟩
  | 10 => ⟨S2048x1, .i1⟩
  | 11 => ⟨S1x1, .i32⟩
  | 12 => ⟨S2048x1, .i32⟩
  | 13 => ⟨S2048x1, .i1⟩
  | 14 => ⟨S2048x1, .i1⟩
  | 15 => ⟨S_, .i1⟩
  | 16 => ⟨S2048, .i1⟩
  | 17 => ⟨S2048x1024, .f32⟩
  | 18 => ⟨S2048x1024, .i1⟩
  | 19 => ⟨S_, .f32⟩
  | 20 => ⟨S2048x1024, .f32⟩
  | 21 => ⟨S2048x1024, .f32⟩
  | 22 => ⟨S2048x1024, .f32⟩
  | 23 => ⟨S2048x1024, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S2048x1024, .f32⟩
  | 31 => ⟨S2048x1024, .f32⟩
  | 32 => ⟨S_, .f32⟩
  | 33 => ⟨S_, .f32⟩
  | 34 => ⟨S_, .f32⟩
  | 35 => ⟨S_, .f32⟩
  | 36 => ⟨S_, .f32⟩
  | 37 => ⟨S2048x1024, .f32⟩
  | 38 => ⟨S2048x1024, .f32⟩
  | 39 => ⟨S2048x1024, .f32⟩
  | 40 => ⟨S2048x1024, .f32⟩
  | 41 => ⟨S_, .f32⟩
  | 42 => ⟨S1x1024x1024, .f32⟩
  | 43 => ⟨S1024x1024, .f32⟩
  | 44 => ⟨S2048x1024, .f32⟩
  | 45 => ⟨S_, .f32⟩
  | 46 => ⟨S2048, .f32⟩
  | 47 => ⟨S2048x1, .f32⟩
  | 48 => ⟨S_, .f32⟩
  | 49 => ⟨S2048x1024, .f32⟩
  | 50 => ⟨S2048x1024, .f32⟩
  | 51 => ⟨S1024x1024, .f32⟩
  | 52 => ⟨S2048x1024, .f32⟩
  | 53 => ⟨S2048x1024, .f32⟩
  | 54 => ⟨S2048x1024, .f32⟩
  | 55 => ⟨S1024x1024, .f32⟩
  | 56 => ⟨S_, .f32⟩
  | 57 => ⟨S1024, .f32⟩
  | 58 => ⟨S1x1024, .f32⟩
  | 59 => ⟨S2048x1024, .f32⟩
  | 60 => ⟨S2048x1024, .f32⟩
  | 61 => ⟨S2048x1024, .i32⟩
  | 62 => ⟨S_, .f32⟩
  | 63 => ⟨S_, .i32⟩
  | 64 => ⟨S2048, .f32⟩
  | 65 => ⟨S2048, .i32⟩
  | 66 => ⟨S_, .i32⟩
  | 67 => ⟨S2048, .i32⟩
  | 68 => ⟨S2048, .i1⟩
  | 69 => ⟨S_, .i32⟩
  | 70 => ⟨S2048, .i32⟩
  | 71 => ⟨S2048, .i32⟩
  | 72 => ⟨S2048, .i32⟩
  | 73 => ⟨S2048x1, .i32⟩
  | 74 => ⟨S1, .i32⟩
  | 75 => ⟨S_, .i32⟩
  | 76 => ⟨S2048x1, .i32⟩
  | 77 => ⟨S2048x1, .i1⟩
  | 78 => ⟨S1x1, .i32⟩
  | 79 => ⟨S2048x1, .i32⟩
  | 80 => ⟨S2048x1, .i1⟩
  | 81 => ⟨S2048x1, .i1⟩
  | 82 => ⟨S_, .i1⟩
  | 83 => ⟨S2048, .i1⟩
  | 84 => ⟨S2048x1024, .f32⟩
  | 85 => ⟨S2048x1024, .i1⟩
  | 86 => ⟨S_, .f32⟩
  | 87 => ⟨S2048x1024, .f32⟩
  | 88 => ⟨S2048x1024, .f32⟩
  | 89 => ⟨S2048x1024, .f32⟩
  | 90 => ⟨S2048x1024, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S2048x1024, .f32⟩
  | 98 => ⟨S2048x1024, .f32⟩
  | 99 => ⟨S_, .f32⟩
  | 100 => ⟨S_, .f32⟩
  | 101 => ⟨S_, .f32⟩
  | 102 => ⟨S_, .f32⟩
  | 103 => ⟨S_, .f32⟩
  | 104 => ⟨S2048x1024, .f32⟩
  | 105 => ⟨S2048x1024, .f32⟩
  | 106 => ⟨S2048x1024, .f32⟩
  | 107 => ⟨S2048x1024, .f32⟩
  | 108 => ⟨S_, .f32⟩
  | 109 => ⟨S1x1024x1024, .f32⟩
  | 110 => ⟨S1024x1024, .f32⟩
  | 111 => ⟨S2048x1024, .f32⟩
  | 112 => ⟨S_, .f32⟩
  | 113 => ⟨S2048, .f32⟩
  | 114 => ⟨S2048x1, .f32⟩
  | 115 => ⟨S_, .f32⟩
  | 116 => ⟨S2048x1024, .f32⟩
  | 117 => ⟨S2048x1024, .f32⟩
  | 118 => ⟨S1024x1024, .f32⟩
  | 119 => ⟨S2048x1024, .f32⟩
  | 120 => ⟨S2048x1024, .f32⟩
  | 121 => ⟨S2048x1024, .f32⟩
  | 122 => ⟨S1024x1024, .f32⟩
  | 123 => ⟨S_, .f32⟩
  | 124 => ⟨S1024, .f32⟩
  | 125 => ⟨S1x1024, .f32⟩
  | 126 => ⟨S2048x1024, .f32⟩
  | 127 => ⟨S2048x1024, .f32⟩
  | _ => ⟨S2048x16x32, .f32⟩

abbrev hbmTy0_2 (i : Nat) : BufTy := match i % 128 with
  | 0 => ⟨S2048x1024, .i32⟩
  | 1 => ⟨S_, .f32⟩
  | 2 => ⟨S_, .i32⟩
  | 3 => ⟨S2048, .f32⟩
  | 4 => ⟨S2048, .i32⟩
  | 5 => ⟨S_, .i32⟩
  | 6 => ⟨S2048, .i32⟩
  | 7 => ⟨S2048, .i1⟩
  | 8 => ⟨S_, .i32⟩
  | 9 => ⟨S2048, .i32⟩
  | 10 => ⟨S2048, .i32⟩
  | 11 => ⟨S2048, .i32⟩
  | 12 => ⟨S2048x1, .i32⟩
  | 13 => ⟨S1, .i32⟩
  | 14 => ⟨S_, .i32⟩
  | 15 => ⟨S2048x1, .i32⟩
  | 16 => ⟨S2048x1, .i1⟩
  | 17 => ⟨S1x1, .i32⟩
  | 18 => ⟨S2048x1, .i32⟩
  | 19 => ⟨S2048x1, .i1⟩
  | 20 => ⟨S2048x1, .i1⟩
  | 21 => ⟨S_, .i1⟩
  | 22 => ⟨S2048, .i1⟩
  | 23 => ⟨S2048x1024, .f32⟩
  | 24 => ⟨S2048x1024, .i1⟩
  | 25 => ⟨S_, .f32⟩
  | 26 => ⟨S2048x1024, .f32⟩
  | 27 => ⟨S2048x1024, .f32⟩
  | 28 => ⟨S2048x1024, .f32⟩
  | 29 => ⟨S2048x1024, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S2048x1024, .f32⟩
  | 37 => ⟨S2048x1024, .f32⟩
  | 38 => ⟨S_, .f32⟩
  | 39 => ⟨S_, .f32⟩
  | 40 => ⟨S_, .f32⟩
  | 41 => ⟨S_, .f32⟩
  | 42 => ⟨S_, .f32⟩
  | 43 => ⟨S2048x1024, .f32⟩
  | 44 => ⟨S2048x1024, .f32⟩
  | 45 => ⟨S2048x1024, .f32⟩
  | 46 => ⟨S2048x1024, .f32⟩
  | 47 => ⟨S_, .f32⟩
  | 48 => ⟨S1x1024x1024, .f32⟩
  | 49 => ⟨S1024x1024, .f32⟩
  | 50 => ⟨S2048x1024, .f32⟩
  | 51 => ⟨S_, .f32⟩
  | 52 => ⟨S2048, .f32⟩
  | 53 => ⟨S2048x1, .f32⟩
  | 54 => ⟨S_, .f32⟩
  | 55 => ⟨S2048x1024, .f32⟩
  | 56 => ⟨S2048x1024, .f32⟩
  | 57 => ⟨S1024x1024, .f32⟩
  | 58 => ⟨S2048x1024, .f32⟩
  | 59 => ⟨S2048x1024, .f32⟩
  | 60 => ⟨S2048x1024, .f32⟩
  | 61 => ⟨S1024x1024, .f32⟩
  | 62 => ⟨S_, .f32⟩
  | 63 => ⟨S1024, .f32⟩
  | 64 => ⟨S1x1024, .f32⟩
  | 65 => ⟨S2048x1024, .f32⟩
  | 66 => ⟨S2048x1024, .f32⟩
  | 67 => ⟨S2048x1024, .i32⟩
  | 68 => ⟨S_, .f32⟩
  | 69 => ⟨S_, .i32⟩
  | 70 => ⟨S2048, .f32⟩
  | 71 => ⟨S2048, .i32⟩
  | 72 => ⟨S_, .i32⟩
  | 73 => ⟨S2048, .i32⟩
  | 74 => ⟨S2048, .i1⟩
  | 75 => ⟨S_, .i32⟩
  | 76 => ⟨S2048, .i32⟩
  | 77 => ⟨S2048, .i32⟩
  | 78 => ⟨S2048, .i32⟩
  | 79 => ⟨S2048x1, .i32⟩
  | 80 => ⟨S1, .i32⟩
  | 81 => ⟨S_, .i32⟩
  | 82 => ⟨S2048x1, .i32⟩
  | 83 => ⟨S2048x1, .i1⟩
  | 84 => ⟨S1x1, .i32⟩
  | 85 => ⟨S2048x1, .i32⟩
  | 86 => ⟨S2048x1, .i1⟩
  | 87 => ⟨S2048x1, .i1⟩
  | 88 => ⟨S_, .i1⟩
  | 89 => ⟨S2048, .i1⟩
  | 90 => ⟨S2048x1024, .f32⟩
  | 91 => ⟨S2048x1024, .i1⟩
  | 92 => ⟨S_, .f32⟩
  | 93 => ⟨S2048x1024, .f32⟩
  | 94 => ⟨S2048x1024, .f32⟩
  | 95 => ⟨S2048x1024, .f32⟩
  | 96 => ⟨S2048x1024, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S2048x1024, .f32⟩
  | 104 => ⟨S2048x1024, .f32⟩
  | 105 => ⟨S_, .f32⟩
  | 106 => ⟨S_, .f32⟩
  | 107 => ⟨S_, .f32⟩
  | 108 => ⟨S_, .f32⟩
  | 109 => ⟨S_, .f32⟩
  | 110 => ⟨S2048x1024, .f32⟩
  | 111 => ⟨S2048x1024, .f32⟩
  | 112 => ⟨S2048x1024, .f32⟩
  | 113 => ⟨S2048x1024, .f32⟩
  | 114 => ⟨S_, .f32⟩
  | 115 => ⟨S1x1024x1024, .f32⟩
  | 116 => ⟨S1024x1024, .f32⟩
  | 117 => ⟨S2048x1024, .f32⟩
  | 118 => ⟨S_, .f32⟩
  | 119 => ⟨S2048, .f32⟩
  | 120 => ⟨S2048x1, .f32⟩
  | 121 => ⟨S_, .f32⟩
  | 122 => ⟨S2048x1024, .f32⟩
  | 123 => ⟨S2048x1024, .f32⟩
  | 124 => ⟨S1024x1024, .f32⟩
  | 125 => ⟨S2048x1024, .f32⟩
  | 126 => ⟨S2048x1024, .f32⟩
  | 127 => ⟨S2048x1024, .f32⟩
  | _ => ⟨S2048x16x32, .f32⟩

abbrev hbmTy0_3 (i : Nat) : BufTy := match i % 128 with
  | 0 => ⟨S1024x1024, .f32⟩
  | 1 => ⟨S_, .f32⟩
  | 2 => ⟨S1024, .f32⟩
  | 3 => ⟨S1x1024, .f32⟩
  | 4 => ⟨S2048x1024, .f32⟩
  | 5 => ⟨S2048x1024, .f32⟩
  | 6 => ⟨S2048x1024, .i32⟩
  | 7 => ⟨S_, .f32⟩
  | 8 => ⟨S_, .i32⟩
  | 9 => ⟨S2048, .f32⟩
  | 10 => ⟨S2048, .i32⟩
  | 11 => ⟨S_, .i32⟩
  | 12 => ⟨S2048, .i32⟩
  | 13 => ⟨S2048, .i1⟩
  | 14 => ⟨S_, .i32⟩
  | 15 => ⟨S2048, .i32⟩
  | 16 => ⟨S2048, .i32⟩
  | 17 => ⟨S2048, .i32⟩
  | 18 => ⟨S2048x1, .i32⟩
  | 19 => ⟨S1, .i32⟩
  | 20 => ⟨S_, .i32⟩
  | 21 => ⟨S2048x1, .i32⟩
  | 22 => ⟨S2048x1, .i1⟩
  | 23 => ⟨S1x1, .i32⟩
  | 24 => ⟨S2048x1, .i32⟩
  | 25 => ⟨S2048x1, .i1⟩
  | 26 => ⟨S2048x1, .i1⟩
  | 27 => ⟨S_, .i1⟩
  | 28 => ⟨S2048, .i1⟩
  | 29 => ⟨S2048x1024, .f32⟩
  | 30 => ⟨S2048x1024, .i1⟩
  | 31 => ⟨S_, .f32⟩
  | 32 => ⟨S2048x1024, .f32⟩
  | 33 => ⟨S2048x1024, .f32⟩
  | 34 => ⟨S2048x1024, .f32⟩
  | 35 => ⟨S2048x1024, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S2048x1024, .f32⟩
  | 43 => ⟨S2048x1024, .f32⟩
  | 44 => ⟨S_, .f32⟩
  | 45 => ⟨S_, .f32⟩
  | 46 => ⟨S_, .f32⟩
  | 47 => ⟨S_, .f32⟩
  | 48 => ⟨S_, .f32⟩
  | 49 => ⟨S2048x1024, .f32⟩
  | 50 => ⟨S2048x1024, .f32⟩
  | 51 => ⟨S2048x1024, .f32⟩
  | 52 => ⟨S2048x1024, .f32⟩
  | 53 => ⟨S_, .f32⟩
  | 54 => ⟨S1x1024x1024, .f32⟩
  | 55 => ⟨S1024x1024, .f32⟩
  | 56 => ⟨S2048x1024, .f32⟩
  | 57 => ⟨S_, .f32⟩
  | 58 => ⟨S2048, .f32⟩
  | 59 => ⟨S2048x1, .f32⟩
  | 60 => ⟨S_, .f32⟩
  | 61 => ⟨S2048x1024, .f32⟩
  | 62 => ⟨S2048x1024, .f32⟩
  | 63 => ⟨S1024x1024, .f32⟩
  | 64 => ⟨S2048x1024, .f32⟩
  | 65 => ⟨S2048x1024, .f32⟩
  | 66 => ⟨S2048x1024, .f32⟩
  | 67 => ⟨S1024x1024, .f32⟩
  | 68 => ⟨S_, .f32⟩
  | 69 => ⟨S1024, .f32⟩
  | 70 => ⟨S1x1024, .f32⟩
  | 71 => ⟨S2048x1024, .f32⟩
  | 72 => ⟨S2048x1024, .f32⟩
  | 73 => ⟨S2048x1024, .i32⟩
  | 74 => ⟨S_, .f32⟩
  | 75 => ⟨S_, .i32⟩
  | 76 => ⟨S2048, .f32⟩
  | 77 => ⟨S2048, .i32⟩
  | 78 => ⟨S_, .i32⟩
  | 79 => ⟨S2048, .i32⟩
  | 80 => ⟨S2048, .i1⟩
  | 81 => ⟨S_, .i32⟩
  | 82 => ⟨S2048, .i32⟩
  | 83 => ⟨S2048, .i32⟩
  | 84 => ⟨S2048, .i32⟩
  | 85 => ⟨S2048x1, .i32⟩
  | 86 => ⟨S1, .i32⟩
  | 87 => ⟨S_, .i32⟩
  | 88 => ⟨S2048x1, .i32⟩
  | 89 => ⟨S2048x1, .i1⟩
  | 90 => ⟨S1x1, .i32⟩
  | 91 => ⟨S2048x1, .i32⟩
  | 92 => ⟨S2048x1, .i1⟩
  | 93 => ⟨S2048x1, .i1⟩
  | 94 => ⟨S_, .i1⟩
  | 95 => ⟨S2048, .i1⟩
  | 96 => ⟨S2048x1024, .f32⟩
  | 97 => ⟨S2048x1024, .i1⟩
  | 98 => ⟨S_, .f32⟩
  | 99 => ⟨S2048x1024, .f32⟩
  | 100 => ⟨S2048x1024, .f32⟩
  | 101 => ⟨S2048x1024, .f32⟩
  | 102 => ⟨S2048x1024, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S2048x1024, .f32⟩
  | 110 => ⟨S2048x1024, .f32⟩
  | 111 => ⟨S_, .f32⟩
  | 112 => ⟨S_, .f32⟩
  | 113 => ⟨S_, .f32⟩
  | 114 => ⟨S_, .f32⟩
  | 115 => ⟨S_, .f32⟩
  | 116 => ⟨S2048x1024, .f32⟩
  | 117 => ⟨S2048x1024, .f32⟩
  | 118 => ⟨S2048x1024, .f32⟩
  | 119 => ⟨S2048x1024, .f32⟩
  | 120 => ⟨S_, .f32⟩
  | 121 => ⟨S1x1024x1024, .f32⟩
  | 122 => ⟨S1024x1024, .f32⟩
  | 123 => ⟨S2048x1024, .f32⟩
  | 124 => ⟨S_, .f32⟩
  | 125 => ⟨S2048, .f32⟩
  | 126 => ⟨S2048x1, .f32⟩
  | 127 => ⟨S_, .f32⟩
  | _ => ⟨S2048x16x32, .f32⟩

abbrev hbmTy0_4 (i : Nat) : BufTy := match i % 128 with
  | 0 => ⟨S2048x1024, .f32⟩
  | 1 => ⟨S2048x1024, .f32⟩
  | 2 => ⟨S1024x1024, .f32⟩
  | 3 => ⟨S2048x1024, .f32⟩
  | 4 => ⟨S2048x1024, .f32⟩
  | 5 => ⟨S2048x1024, .f32⟩
  | 6 => ⟨S1024x1024, .f32⟩
  | 7 => ⟨S_, .f32⟩
  | 8 => ⟨S1024, .f32⟩
  | 9 => ⟨S1x1024, .f32⟩
  | 10 => ⟨S2048x1024, .f32⟩
  | 11 => ⟨S2048x1024, .f32⟩
  | 12 => ⟨S2048x1024, .i32⟩
  | 13 => ⟨S_, .f32⟩
  | 14 => ⟨S_, .i32⟩
  | 15 => ⟨S2048, .f32⟩
  | 16 => ⟨S2048, .i32⟩
  | 17 => ⟨S_, .i32⟩
  | 18 => ⟨S2048, .i32⟩
  | 19 => ⟨S2048, .i1⟩
  | 20 => ⟨S_, .i32⟩
  | 21 => ⟨S2048, .i32⟩
  | 22 => ⟨S2048, .i32⟩
  | 23 => ⟨S2048, .i32⟩
  | 24 => ⟨S2048x1, .i32⟩
  | 25 => ⟨S1, .i32⟩
  | 26 => ⟨S_, .i32⟩
  | 27 => ⟨S2048x1, .i32⟩
  | 28 => ⟨S2048x1, .i1⟩
  | 29 => ⟨S1x1, .i32⟩
  | 30 => ⟨S2048x1, .i32⟩
  | 31 => ⟨S2048x1, .i1⟩
  | 32 => ⟨S2048x1, .i1⟩
  | 33 => ⟨S_, .i1⟩
  | 34 => ⟨S2048, .i1⟩
  | 35 => ⟨S2048x1024, .f32⟩
  | 36 => ⟨S2048x1024, .i1⟩
  | 37 => ⟨S_, .f32⟩
  | 38 => ⟨S2048x1024, .f32⟩
  | 39 => ⟨S2048x1024, .f32⟩
  | 40 => ⟨S2048x1024, .f32⟩
  | 41 => ⟨S2048x1024, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S2048x1024, .f32⟩
  | 49 => ⟨S2048x1024, .f32⟩
  | 50 => ⟨S_, .f32⟩
  | 51 => ⟨S_, .f32⟩
  | 52 => ⟨S_, .f32⟩
  | 53 => ⟨S_, .f32⟩
  | 54 => ⟨S_, .f32⟩
  | 55 => ⟨S2048x1024, .f32⟩
  | 56 => ⟨S2048x1024, .f32⟩
  | 57 => ⟨S2048x1024, .f32⟩
  | 58 => ⟨S2048x1024, .f32⟩
  | 59 => ⟨S_, .f32⟩
  | 60 => ⟨S2048x1, .i32⟩
  | 61 => ⟨S2048x1, .i32⟩
  | 62 => ⟨S2048x1, .i32⟩
  | 63 => ⟨S2048x1, .i32⟩
  | 64 => ⟨S2048x1, .i32⟩
  | 65 => ⟨S2048x1, .i32⟩
  | 66 => ⟨S2048x1, .i32⟩
  | 67 => ⟨S2048x1, .i32⟩
  | 68 => ⟨S2048x8, .i32⟩
  | 69 => ⟨S2048x1024, .f32⟩
  | 70 => ⟨S1x1024, .f32⟩
  | 71 => ⟨S2048x1024, .f32⟩
  | 72 => ⟨S2048x1024, .f32⟩
  | 73 => ⟨S_, .f32⟩
  | 74 => ⟨S2048x1024, .f32⟩
  | 75 => ⟨S2048x1024, .f32⟩
  | 76 => ⟨S2048x1024, .f32⟩
  | 77 => ⟨S1x1024, .f32⟩
  | 78 => ⟨S2048x1024, .f32⟩
  | 79 => ⟨S2048x1024, .f32⟩
  | 80 => ⟨S_, .f32⟩
  | 81 => ⟨S2048x1024, .f32⟩
  | 82 => ⟨S2048x1024, .f32⟩
  | 83 => ⟨S2048x512, .f32⟩
  | 84 => ⟨S1x512, .f32⟩
  | 85 => ⟨S2048x512, .f32⟩
  | 86 => ⟨S2048x512, .f32⟩
  | 87 => ⟨S2048x16x32, .f32⟩
  | 88 => ⟨S2048x512, .f32⟩
  | 89 => ⟨S2048x512, .f32⟩
  | 90 => ⟨S_, .f32⟩
  | 91 => ⟨S_, .f32⟩
  | 92 => ⟨S_, .f32⟩
  | 93 => ⟨S_, .f32⟩
  | 94 => ⟨S_, .f32⟩
  | _ => ⟨S2048x16x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x16x32, .f32⟩

abbrev bufTy : (tb : Table) → Fin (tcTables nBuf tb) → BufTy
  | .hbm, ⟨i, _⟩ => hbmTy i
  | _, _ => ⟨S2048x16x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call0_v0 : Ref sig .tc := ⟨.hbm, 37, rfl⟩
abbrev main_call0_cst : Ref sig .tc := ⟨.hbm, 38, rfl⟩
abbrev main_call0_v1 : Ref sig .tc := ⟨.hbm, 39, rfl⟩
abbrev main_call0_v2 : Ref sig .tc := ⟨.hbm, 40, rfl⟩
abbrev main_call0_cst_0 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_cst_1 : Ref sig .tc := ⟨.hbm, 49, rfl⟩
abbrev main_call0_v10 : Ref sig .tc := ⟨.hbm, 50, rfl⟩
abbrev main_call0_v11 : Ref sig .tc := ⟨.hbm, 51, rfl⟩
abbrev main_call0_v12 : Ref sig .tc := ⟨.hbm, 52, rfl⟩
abbrev main_call0_v13 : Ref sig .tc := ⟨.hbm, 53, rfl⟩
abbrev main_call0_call0_v0 : Ref sig .tc := ⟨.hbm, 54, rfl⟩
abbrev main_call0_call0_cst : Ref sig .tc := ⟨.hbm, 55, rfl⟩
abbrev main_call0_call0_c : Ref sig .tc := ⟨.hbm, 56, rfl⟩
abbrev main_call0_call0_v1_0 : Ref sig .tc := ⟨.hbm, 57, rfl⟩
abbrev main_v20_0 : Ref sig .tc := ⟨.hbm, 58, rfl⟩
abbrev main_call0_call1_c : Ref sig .tc := ⟨.hbm, 59, rfl⟩
abbrev main_call0_call1_v0 : Ref sig .tc := ⟨.hbm, 60, rfl⟩
abbrev main_call0_call1_v1 : Ref sig .tc := ⟨.hbm, 61, rfl⟩
abbrev main_call0_call1_c_0 : Ref sig .tc := ⟨.hbm, 62, rfl⟩
abbrev main_call0_call1_v2 : Ref sig .tc := ⟨.hbm, 63, rfl⟩
abbrev main_call0_call1_v3 : Ref sig .tc := ⟨.hbm, 64, rfl⟩
abbrev main_call0_call1_v4 : Ref sig .tc := ⟨.hbm, 65, rfl⟩
abbrev main_call0_call1_v5 : Ref sig .tc := ⟨.hbm, 66, rfl⟩
abbrev main_call0_call1_c_1 : Ref sig .tc := ⟨.hbm, 67, rfl⟩
abbrev main_call0_call1_c_2 : Ref sig .tc := ⟨.hbm, 68, rfl⟩
abbrev main_call0_call1_v6 : Ref sig .tc := ⟨.hbm, 69, rfl⟩
abbrev main_call0_call1_v7 : Ref sig .tc := ⟨.hbm, 70, rfl⟩
abbrev main_call0_call1_v8 : Ref sig .tc := ⟨.hbm, 71, rfl⟩
abbrev main_call0_call1_v9 : Ref sig .tc := ⟨.hbm, 72, rfl⟩
abbrev main_call0_call1_v10 : Ref sig .tc := ⟨.hbm, 73, rfl⟩
abbrev main_call0_call1_v11 : Ref sig .tc := ⟨.hbm, 74, rfl⟩
abbrev main_call0_call1_c_3 : Ref sig .tc := ⟨.hbm, 75, rfl⟩
abbrev main_call0_call1_v12 : Ref sig .tc := ⟨.hbm, 76, rfl⟩
abbrev main_call0_call1_v13 : Ref sig .tc := ⟨.hbm, 77, rfl⟩
abbrev main_call0_call1_v14 : Ref sig .tc := ⟨.hbm, 78, rfl⟩
abbrev main_call0_call1_cst : Ref sig .tc := ⟨.hbm, 79, rfl⟩
abbrev main_call0_call1_v15 : Ref sig .tc := ⟨.hbm, 80, rfl⟩
abbrev main_call0_v15 : Ref sig .tc := ⟨.hbm, 81, rfl⟩
abbrev main_call0_v16 : Ref sig .tc := ⟨.hbm, 82, rfl⟩
abbrev main_call0_v17 : Ref sig .tc := ⟨.hbm, 83, rfl⟩
abbrev main_call0_cst_2 : Ref sig .tc := ⟨.hbm, 84, rfl⟩
abbrev main_call0_v18 : Ref sig .tc := ⟨.hbm, 85, rfl⟩
abbrev main_call0_cst_3 : Ref sig .tc := ⟨.hbm, 86, rfl⟩
abbrev main_call0_v19 : Ref sig .tc := ⟨.hbm, 87, rfl⟩
abbrev main_call0_cst_4 : Ref sig .tc := ⟨.hbm, 88, rfl⟩
abbrev main_call0_v20 : Ref sig .tc := ⟨.hbm, 89, rfl⟩
abbrev main_call0_v21 : Ref sig .tc := ⟨.hbm, 90, rfl⟩
abbrev main_call0_v22 : Ref sig .tc := ⟨.hbm, 91, rfl⟩
abbrev main_call0_cst_5 : Ref sig .tc := ⟨.hbm, 92, rfl⟩
abbrev main_call0_v23 : Ref sig .tc := ⟨.hbm, 93, rfl⟩
abbrev main_call0_cst_6 : Ref sig .tc := ⟨.hbm, 94, rfl⟩
abbrev main_call0_v24 : Ref sig .tc := ⟨.hbm, 95, rfl⟩
abbrev main_v20_1 : Ref sig .tc := ⟨.hbm, 96, rfl⟩
abbrev main_call0_v26 : Ref sig .tc := ⟨.hbm, 97, rfl⟩
abbrev main_call0_v27 : Ref sig .tc := ⟨.hbm, 98, rfl⟩
abbrev main_v20_2 : Ref sig .tc := ⟨.hbm, 99, rfl⟩
abbrev main_v20_3 : Ref sig .tc := ⟨.hbm, 100, rfl⟩
abbrev main_cst_2 : Ref sig .tc := ⟨.hbm, 101, rfl⟩
abbrev main_v21 : Ref sig .tc := ⟨.hbm, 102, rfl⟩
abbrev main_v22 : Ref sig .tc := ⟨.hbm, 103, rfl⟩
abbrev main_v23 : Ref sig .tc := ⟨.hbm, 104, rfl⟩
abbrev main_call1_v0 : Ref sig .tc := ⟨.hbm, 105, rfl⟩
abbrev main_call1_cst : Ref sig .tc := ⟨.hbm, 106, rfl⟩
abbrev main_call1_v1 : Ref sig .tc := ⟨.hbm, 107, rfl⟩
abbrev main_call1_v2 : Ref sig .tc := ⟨.hbm, 108, rfl⟩
abbrev main_call1_cst_0 : Ref sig .tc := ⟨.hbm, 109, rfl⟩
abbrev main_call1_v3 : Ref sig .tc := ⟨.hbm, 110, rfl⟩
abbrev main_call1_v4 : Ref sig .tc := ⟨.hbm, 111, rfl⟩
abbrev main_call1_v5 : Ref sig .tc := ⟨.hbm, 112, rfl⟩
abbrev main_call1_v6 : Ref sig .tc := ⟨.hbm, 113, rfl⟩
abbrev main_call1_v7 : Ref sig .tc := ⟨.hbm, 114, rfl⟩
abbrev main_call1_v8 : Ref sig .tc := ⟨.hbm, 115, rfl⟩
abbrev main_call1_v9 : Ref sig .tc := ⟨.hbm, 116, rfl⟩
abbrev main_call1_cst_1 : Ref sig .tc := ⟨.hbm, 117, rfl⟩
abbrev main_call1_v10 : Ref sig .tc := ⟨.hbm, 118, rfl⟩
abbrev main_call1_v11 : Ref sig .tc := ⟨.hbm, 119, rfl⟩
abbrev main_call1_v12 : Ref sig .tc := ⟨.hbm, 120, rfl⟩
abbrev main_call1_v13 : Ref sig .tc := ⟨.hbm, 121, rfl⟩
abbrev main_call1_call0_v0 : Ref sig .tc := ⟨.hbm, 122, rfl⟩
abbrev main_call1_call0_cst : Ref sig .tc := ⟨.hbm, 123, rfl⟩
abbrev main_call1_call0_c : Ref sig .tc := ⟨.hbm, 124, rfl⟩
abbrev main_call1_call0_v1_0 : Ref sig .tc := ⟨.hbm, 125, rfl⟩
abbrev main_v24_0 : Ref sig .tc := ⟨.hbm, 126, rfl⟩
abbrev main_call1_call1_c : Ref sig .tc := ⟨.hbm, 127, rfl⟩
abbrev main_call1_call1_v0 : Ref sig .tc := ⟨.hbm, 128, rfl⟩
abbrev main_call1_call1_v1 : Ref sig .tc := ⟨.hbm, 129, rfl⟩
abbrev main_call1_call1_c_0 : Ref sig .tc := ⟨.hbm, 130, rfl⟩
abbrev main_call1_call1_v2 : Ref sig .tc := ⟨.hbm, 131, rfl⟩
abbrev main_call1_call1_v3 : Ref sig .tc := ⟨.hbm, 132, rfl⟩
abbrev main_call1_call1_v4 : Ref sig .tc := ⟨.hbm, 133, rfl⟩
abbrev main_call1_call1_v5 : Ref sig .tc := ⟨.hbm, 134, rfl⟩
abbrev main_call1_call1_c_1 : Ref sig .tc := ⟨.hbm, 135, rfl⟩
abbrev main_call1_call1_c_2 : Ref sig .tc := ⟨.hbm, 136, rfl⟩
abbrev main_call1_call1_v6 : Ref sig .tc := ⟨.hbm, 137, rfl⟩
abbrev main_call1_call1_v7 : Ref sig .tc := ⟨.hbm, 138, rfl⟩
abbrev main_call1_call1_v8 : Ref sig .tc := ⟨.hbm, 139, rfl⟩
abbrev main_call1_call1_v9 : Ref sig .tc := ⟨.hbm, 140, rfl⟩
abbrev main_call1_call1_v10 : Ref sig .tc := ⟨.hbm, 141, rfl⟩
abbrev main_call1_call1_v11 : Ref sig .tc := ⟨.hbm, 142, rfl⟩
abbrev main_call1_call1_c_3 : Ref sig .tc := ⟨.hbm, 143, rfl⟩
abbrev main_call1_call1_v12 : Ref sig .tc := ⟨.hbm, 144, rfl⟩
abbrev main_call1_call1_v13 : Ref sig .tc := ⟨.hbm, 145, rfl⟩
abbrev main_call1_call1_v14 : Ref sig .tc := ⟨.hbm, 146, rfl⟩
abbrev main_call1_call1_cst : Ref sig .tc := ⟨.hbm, 147, rfl⟩
abbrev main_call1_call1_v15 : Ref sig .tc := ⟨.hbm, 148, rfl⟩
abbrev main_call1_v15 : Ref sig .tc := ⟨.hbm, 149, rfl⟩
abbrev main_call1_v16 : Ref sig .tc := ⟨.hbm, 150, rfl⟩
abbrev main_call1_v17 : Ref sig .tc := ⟨.hbm, 151, rfl⟩
abbrev main_call1_cst_2 : Ref sig .tc := ⟨.hbm, 152, rfl⟩
abbrev main_call1_v18 : Ref sig .tc := ⟨.hbm, 153, rfl⟩
abbrev main_call1_cst_3 : Ref sig .tc := ⟨.hbm, 154, rfl⟩
abbrev main_call1_v19 : Ref sig .tc := ⟨.hbm, 155, rfl⟩
abbrev main_call1_cst_4 : Ref sig .tc := ⟨.hbm, 156, rfl⟩
abbrev main_call1_v20 : Ref sig .tc := ⟨.hbm, 157, rfl⟩
abbrev main_call1_v21 : Ref sig .tc := ⟨.hbm, 158, rfl⟩
abbrev main_call1_v22 : Ref sig .tc := ⟨.hbm, 159, rfl⟩
abbrev main_call1_cst_5 : Ref sig .tc := ⟨.hbm, 160, rfl⟩
abbrev main_call1_v23 : Ref sig .tc := ⟨.hbm, 161, rfl⟩
abbrev main_call1_cst_6 : Ref sig .tc := ⟨.hbm, 162, rfl⟩
abbrev main_call1_v24 : Ref sig .tc := ⟨.hbm, 163, rfl⟩
abbrev main_v24_1 : Ref sig .tc := ⟨.hbm, 164, rfl⟩
abbrev main_call1_v26 : Ref sig .tc := ⟨.hbm, 165, rfl⟩
abbrev main_call1_v27 : Ref sig .tc := ⟨.hbm, 166, rfl⟩
abbrev main_v24_2 : Ref sig .tc := ⟨.hbm, 167, rfl⟩
abbrev main_v24_3 : Ref sig .tc := ⟨.hbm, 168, rfl⟩
abbrev main_v25 : Ref sig .tc := ⟨.hbm, 169, rfl⟩
abbrev main_v26 : Ref sig .tc := ⟨.hbm, 170, rfl⟩
abbrev main_v27 : Ref sig .tc := ⟨.hbm, 171, rfl⟩
abbrev main_call2_v0 : Ref sig .tc := ⟨.hbm, 172, rfl⟩
abbrev main_call2_cst : Ref sig .tc := ⟨.hbm, 173, rfl⟩
abbrev main_call2_v1 : Ref sig .tc := ⟨.hbm, 174, rfl⟩
abbrev main_call2_v2 : Ref sig .tc := ⟨.hbm, 175, rfl⟩
abbrev main_call2_cst_0 : Ref sig .tc := ⟨.hbm, 176, rfl⟩
abbrev main_call2_v3 : Ref sig .tc := ⟨.hbm, 177, rfl⟩
abbrev main_call2_v4 : Ref sig .tc := ⟨.hbm, 178, rfl⟩
abbrev main_call2_v5 : Ref sig .tc := ⟨.hbm, 179, rfl⟩
abbrev main_call2_v6 : Ref sig .tc := ⟨.hbm, 180, rfl⟩
abbrev main_call2_v7 : Ref sig .tc := ⟨.hbm, 181, rfl⟩
abbrev main_call2_v8 : Ref sig .tc := ⟨.hbm, 182, rfl⟩
abbrev main_call2_v9 : Ref sig .tc := ⟨.hbm, 183, rfl⟩
abbrev main_call2_cst_1 : Ref sig .tc := ⟨.hbm, 184, rfl⟩
abbrev main_call2_v10 : Ref sig .tc := ⟨.hbm, 185, rfl⟩
abbrev main_call2_v11 : Ref sig .tc := ⟨.hbm, 186, rfl⟩
abbrev main_call2_v12 : Ref sig .tc := ⟨.hbm, 187, rfl⟩
abbrev main_call2_v13 : Ref sig .tc := ⟨.hbm, 188, rfl⟩
abbrev main_call2_call0_v0 : Ref sig .tc := ⟨.hbm, 189, rfl⟩
abbrev main_call2_call0_cst : Ref sig .tc := ⟨.hbm, 190, rfl⟩
abbrev main_call2_call0_c : Ref sig .tc := ⟨.hbm, 191, rfl⟩
abbrev main_call2_call0_v1_0 : Ref sig .tc := ⟨.hbm, 192, rfl⟩
abbrev main_v28_0 : Ref sig .tc := ⟨.hbm, 193, rfl⟩
abbrev main_call2_call1_c : Ref sig .tc := ⟨.hbm, 194, rfl⟩
abbrev main_call2_call1_v0 : Ref sig .tc := ⟨.hbm, 195, rfl⟩
abbrev main_call2_call1_v1 : Ref sig .tc := ⟨.hbm, 196, rfl⟩
abbrev main_call2_call1_c_0 : Ref sig .tc := ⟨.hbm, 197, rfl⟩
abbrev main_call2_call1_v2 : Ref sig .tc := ⟨.hbm, 198, rfl⟩
abbrev main_call2_call1_v3 : Ref sig .tc := ⟨.hbm, 199, rfl⟩
abbrev main_call2_call1_v4 : Ref sig .tc := ⟨.hbm, 200, rfl⟩
abbrev main_call2_call1_v5 : Ref sig .tc := ⟨.hbm, 201, rfl⟩
abbrev main_call2_call1_c_1 : Ref sig .tc := ⟨.hbm, 202, rfl⟩
abbrev main_call2_call1_c_2 : Ref sig .tc := ⟨.hbm, 203, rfl⟩
abbrev main_call2_call1_v6 : Ref sig .tc := ⟨.hbm, 204, rfl⟩
abbrev main_call2_call1_v7 : Ref sig .tc := ⟨.hbm, 205, rfl⟩
abbrev main_call2_call1_v8 : Ref sig .tc := ⟨.hbm, 206, rfl⟩
abbrev main_call2_call1_v9 : Ref sig .tc := ⟨.hbm, 207, rfl⟩
abbrev main_call2_call1_v10 : Ref sig .tc := ⟨.hbm, 208, rfl⟩
abbrev main_call2_call1_v11 : Ref sig .tc := ⟨.hbm, 209, rfl⟩
abbrev main_call2_call1_c_3 : Ref sig .tc := ⟨.hbm, 210, rfl⟩
abbrev main_call2_call1_v12 : Ref sig .tc := ⟨.hbm, 211, rfl⟩
abbrev main_call2_call1_v13 : Ref sig .tc := ⟨.hbm, 212, rfl⟩
abbrev main_call2_call1_v14 : Ref sig .tc := ⟨.hbm, 213, rfl⟩
abbrev main_call2_call1_cst : Ref sig .tc := ⟨.hbm, 214, rfl⟩
abbrev main_call2_call1_v15 : Ref sig .tc := ⟨.hbm, 215, rfl⟩
abbrev main_call2_v15 : Ref sig .tc := ⟨.hbm, 216, rfl⟩
abbrev main_call2_v16 : Ref sig .tc := ⟨.hbm, 217, rfl⟩
abbrev main_call2_v17 : Ref sig .tc := ⟨.hbm, 218, rfl⟩
abbrev main_call2_cst_2 : Ref sig .tc := ⟨.hbm, 219, rfl⟩
abbrev main_call2_v18 : Ref sig .tc := ⟨.hbm, 220, rfl⟩
abbrev main_call2_cst_3 : Ref sig .tc := ⟨.hbm, 221, rfl⟩
abbrev main_call2_v19 : Ref sig .tc := ⟨.hbm, 222, rfl⟩
abbrev main_call2_cst_4 : Ref sig .tc := ⟨.hbm, 223, rfl⟩
abbrev main_call2_v20 : Ref sig .tc := ⟨.hbm, 224, rfl⟩
abbrev main_call2_v21 : Ref sig .tc := ⟨.hbm, 225, rfl⟩
abbrev main_call2_v22 : Ref sig .tc := ⟨.hbm, 226, rfl⟩
abbrev main_call2_cst_5 : Ref sig .tc := ⟨.hbm, 227, rfl⟩
abbrev main_call2_v23 : Ref sig .tc := ⟨.hbm, 228, rfl⟩
abbrev main_call2_cst_6 : Ref sig .tc := ⟨.hbm, 229, rfl⟩
abbrev main_call2_v24 : Ref sig .tc := ⟨.hbm, 230, rfl⟩
abbrev main_v28_1 : Ref sig .tc := ⟨.hbm, 231, rfl⟩
abbrev main_call2_v26 : Ref sig .tc := ⟨.hbm, 232, rfl⟩
abbrev main_call2_v27 : Ref sig .tc := ⟨.hbm, 233, rfl⟩
abbrev main_v28_2 : Ref sig .tc := ⟨.hbm, 234, rfl⟩
abbrev main_v28_3 : Ref sig .tc := ⟨.hbm, 235, rfl⟩
abbrev main_v29 : Ref sig .tc := ⟨.hbm, 236, rfl⟩
abbrev main_v30 : Ref sig .tc := ⟨.hbm, 237, rfl⟩
abbrev main_v31 : Ref sig .tc := ⟨.hbm, 238, rfl⟩
abbrev main_call3_v0 : Ref sig .tc := ⟨.hbm, 239, rfl⟩
abbrev main_call3_cst : Ref sig .tc := ⟨.hbm, 240, rfl⟩
abbrev main_call3_v1 : Ref sig .tc := ⟨.hbm, 241, rfl⟩
abbrev main_call3_v2 : Ref sig .tc := ⟨.hbm, 242, rfl⟩
abbrev main_call3_cst_0 : Ref sig .tc := ⟨.hbm, 243, rfl⟩
abbrev main_call3_v3 : Ref sig .tc := ⟨.hbm, 244, rfl⟩
abbrev main_call3_v4 : Ref sig .tc := ⟨.hbm, 245, rfl⟩
abbrev main_call3_v5 : Ref sig .tc := ⟨.hbm, 246, rfl⟩
abbrev main_call3_v6 : Ref sig .tc := ⟨.hbm, 247, rfl⟩
abbrev main_call3_v7 : Ref sig .tc := ⟨.hbm, 248, rfl⟩
abbrev main_call3_v8 : Ref sig .tc := ⟨.hbm, 249, rfl⟩
abbrev main_call3_v9 : Ref sig .tc := ⟨.hbm, 250, rfl⟩
abbrev main_call3_cst_1 : Ref sig .tc := ⟨.hbm, 251, rfl⟩
abbrev main_call3_v10 : Ref sig .tc := ⟨.hbm, 252, rfl⟩
abbrev main_call3_v11 : Ref sig .tc := ⟨.hbm, 253, rfl⟩
abbrev main_call3_v12 : Ref sig .tc := ⟨.hbm, 254, rfl⟩
abbrev main_call3_v13 : Ref sig .tc := ⟨.hbm, 255, rfl⟩
abbrev main_call3_call0_v0 : Ref sig .tc := ⟨.hbm, 256, rfl⟩
abbrev main_call3_call0_cst : Ref sig .tc := ⟨.hbm, 257, rfl⟩
abbrev main_call3_call0_c : Ref sig .tc := ⟨.hbm, 258, rfl⟩
abbrev main_call3_call0_v1_0 : Ref sig .tc := ⟨.hbm, 259, rfl⟩
abbrev main_v32_0 : Ref sig .tc := ⟨.hbm, 260, rfl⟩
abbrev main_call3_call1_c : Ref sig .tc := ⟨.hbm, 261, rfl⟩
abbrev main_call3_call1_v0 : Ref sig .tc := ⟨.hbm, 262, rfl⟩
abbrev main_call3_call1_v1 : Ref sig .tc := ⟨.hbm, 263, rfl⟩
abbrev main_call3_call1_c_0 : Ref sig .tc := ⟨.hbm, 264, rfl⟩
abbrev main_call3_call1_v2 : Ref sig .tc := ⟨.hbm, 265, rfl⟩
abbrev main_call3_call1_v3 : Ref sig .tc := ⟨.hbm, 266, rfl⟩
abbrev main_call3_call1_v4 : Ref sig .tc := ⟨.hbm, 267, rfl⟩
abbrev main_call3_call1_v5 : Ref sig .tc := ⟨.hbm, 268, rfl⟩
abbrev main_call3_call1_c_1 : Ref sig .tc := ⟨.hbm, 269, rfl⟩
abbrev main_call3_call1_c_2 : Ref sig .tc := ⟨.hbm, 270, rfl⟩
abbrev main_call3_call1_v6 : Ref sig .tc := ⟨.hbm, 271, rfl⟩
abbrev main_call3_call1_v7 : Ref sig .tc := ⟨.hbm, 272, rfl⟩
abbrev main_call3_call1_v8 : Ref sig .tc := ⟨.hbm, 273, rfl⟩
abbrev main_call3_call1_v9 : Ref sig .tc := ⟨.hbm, 274, rfl⟩
abbrev main_call3_call1_v10 : Ref sig .tc := ⟨.hbm, 275, rfl⟩
abbrev main_call3_call1_v11 : Ref sig .tc := ⟨.hbm, 276, rfl⟩
abbrev main_call3_call1_c_3 : Ref sig .tc := ⟨.hbm, 277, rfl⟩
abbrev main_call3_call1_v12 : Ref sig .tc := ⟨.hbm, 278, rfl⟩
abbrev main_call3_call1_v13 : Ref sig .tc := ⟨.hbm, 279, rfl⟩
abbrev main_call3_call1_v14 : Ref sig .tc := ⟨.hbm, 280, rfl⟩
abbrev main_call3_call1_cst : Ref sig .tc := ⟨.hbm, 281, rfl⟩
abbrev main_call3_call1_v15 : Ref sig .tc := ⟨.hbm, 282, rfl⟩
abbrev main_call3_v15 : Ref sig .tc := ⟨.hbm, 283, rfl⟩
abbrev main_call3_v16 : Ref sig .tc := ⟨.hbm, 284, rfl⟩
abbrev main_call3_v17 : Ref sig .tc := ⟨.hbm, 285, rfl⟩
abbrev main_call3_cst_2 : Ref sig .tc := ⟨.hbm, 286, rfl⟩
abbrev main_call3_v18 : Ref sig .tc := ⟨.hbm, 287, rfl⟩
abbrev main_call3_cst_3 : Ref sig .tc := ⟨.hbm, 288, rfl⟩
abbrev main_call3_v19 : Ref sig .tc := ⟨.hbm, 289, rfl⟩
abbrev main_call3_cst_4 : Ref sig .tc := ⟨.hbm, 290, rfl⟩
abbrev main_call3_v20 : Ref sig .tc := ⟨.hbm, 291, rfl⟩
abbrev main_call3_v21 : Ref sig .tc := ⟨.hbm, 292, rfl⟩
abbrev main_call3_v22 : Ref sig .tc := ⟨.hbm, 293, rfl⟩
abbrev main_call3_cst_5 : Ref sig .tc := ⟨.hbm, 294, rfl⟩
abbrev main_call3_v23 : Ref sig .tc := ⟨.hbm, 295, rfl⟩
abbrev main_call3_cst_6 : Ref sig .tc := ⟨.hbm, 296, rfl⟩
abbrev main_call3_v24 : Ref sig .tc := ⟨.hbm, 297, rfl⟩
abbrev main_v32_1 : Ref sig .tc := ⟨.hbm, 298, rfl⟩
abbrev main_call3_v26 : Ref sig .tc := ⟨.hbm, 299, rfl⟩
abbrev main_call3_v27 : Ref sig .tc := ⟨.hbm, 300, rfl⟩
abbrev main_v32_2 : Ref sig .tc := ⟨.hbm, 301, rfl⟩
abbrev main_v32_3 : Ref sig .tc := ⟨.hbm, 302, rfl⟩
abbrev main_v33 : Ref sig .tc := ⟨.hbm, 303, rfl⟩
abbrev main_v34 : Ref sig .tc := ⟨.hbm, 304, rfl⟩
abbrev main_v35 : Ref sig .tc := ⟨.hbm, 305, rfl⟩
abbrev main_call4_v0 : Ref sig .tc := ⟨.hbm, 306, rfl⟩
abbrev main_call4_cst : Ref sig .tc := ⟨.hbm, 307, rfl⟩
abbrev main_call4_v1 : Ref sig .tc := ⟨.hbm, 308, rfl⟩
abbrev main_call4_v2 : Ref sig .tc := ⟨.hbm, 309, rfl⟩
abbrev main_call4_cst_0 : Ref sig .tc := ⟨.hbm, 310, rfl⟩
abbrev main_call4_v3 : Ref sig .tc := ⟨.hbm, 311, rfl⟩
abbrev main_call4_v4 : Ref sig .tc := ⟨.hbm, 312, rfl⟩
abbrev main_call4_v5 : Ref sig .tc := ⟨.hbm, 313, rfl⟩
abbrev main_call4_v6 : Ref sig .tc := ⟨.hbm, 314, rfl⟩
abbrev main_call4_v7 : Ref sig .tc := ⟨.hbm, 315, rfl⟩
abbrev main_call4_v8 : Ref sig .tc := ⟨.hbm, 316, rfl⟩
abbrev main_call4_v9 : Ref sig .tc := ⟨.hbm, 317, rfl⟩
abbrev main_call4_cst_1 : Ref sig .tc := ⟨.hbm, 318, rfl⟩
abbrev main_call4_v10 : Ref sig .tc := ⟨.hbm, 319, rfl⟩
abbrev main_call4_v11 : Ref sig .tc := ⟨.hbm, 320, rfl⟩
abbrev main_call4_v12 : Ref sig .tc := ⟨.hbm, 321, rfl⟩
abbrev main_call4_v13 : Ref sig .tc := ⟨.hbm, 322, rfl⟩
abbrev main_call4_call0_v0 : Ref sig .tc := ⟨.hbm, 323, rfl⟩
abbrev main_call4_call0_cst : Ref sig .tc := ⟨.hbm, 324, rfl⟩
abbrev main_call4_call0_c : Ref sig .tc := ⟨.hbm, 325, rfl⟩
abbrev main_call4_call0_v1_0 : Ref sig .tc := ⟨.hbm, 326, rfl⟩
abbrev main_v36_0 : Ref sig .tc := ⟨.hbm, 327, rfl⟩
abbrev main_call4_call1_c : Ref sig .tc := ⟨.hbm, 328, rfl⟩
abbrev main_call4_call1_v0 : Ref sig .tc := ⟨.hbm, 329, rfl⟩
abbrev main_call4_call1_v1 : Ref sig .tc := ⟨.hbm, 330, rfl⟩
abbrev main_call4_call1_c_0 : Ref sig .tc := ⟨.hbm, 331, rfl⟩
abbrev main_call4_call1_v2 : Ref sig .tc := ⟨.hbm, 332, rfl⟩
abbrev main_call4_call1_v3 : Ref sig .tc := ⟨.hbm, 333, rfl⟩
abbrev main_call4_call1_v4 : Ref sig .tc := ⟨.hbm, 334, rfl⟩
abbrev main_call4_call1_v5 : Ref sig .tc := ⟨.hbm, 335, rfl⟩
abbrev main_call4_call1_c_1 : Ref sig .tc := ⟨.hbm, 336, rfl⟩
abbrev main_call4_call1_c_2 : Ref sig .tc := ⟨.hbm, 337, rfl⟩
abbrev main_call4_call1_v6 : Ref sig .tc := ⟨.hbm, 338, rfl⟩
abbrev main_call4_call1_v7 : Ref sig .tc := ⟨.hbm, 339, rfl⟩
abbrev main_call4_call1_v8 : Ref sig .tc := ⟨.hbm, 340, rfl⟩
abbrev main_call4_call1_v9 : Ref sig .tc := ⟨.hbm, 341, rfl⟩
abbrev main_call4_call1_v10 : Ref sig .tc := ⟨.hbm, 342, rfl⟩
abbrev main_call4_call1_v11 : Ref sig .tc := ⟨.hbm, 343, rfl⟩
abbrev main_call4_call1_c_3 : Ref sig .tc := ⟨.hbm, 344, rfl⟩
abbrev main_call4_call1_v12 : Ref sig .tc := ⟨.hbm, 345, rfl⟩
abbrev main_call4_call1_v13 : Ref sig .tc := ⟨.hbm, 346, rfl⟩
abbrev main_call4_call1_v14 : Ref sig .tc := ⟨.hbm, 347, rfl⟩
abbrev main_call4_call1_cst : Ref sig .tc := ⟨.hbm, 348, rfl⟩
abbrev main_call4_call1_v15 : Ref sig .tc := ⟨.hbm, 349, rfl⟩
abbrev main_call4_v15 : Ref sig .tc := ⟨.hbm, 350, rfl⟩
abbrev main_call4_v16 : Ref sig .tc := ⟨.hbm, 351, rfl⟩
abbrev main_call4_v17 : Ref sig .tc := ⟨.hbm, 352, rfl⟩
abbrev main_call4_cst_2 : Ref sig .tc := ⟨.hbm, 353, rfl⟩
abbrev main_call4_v18 : Ref sig .tc := ⟨.hbm, 354, rfl⟩
abbrev main_call4_cst_3 : Ref sig .tc := ⟨.hbm, 355, rfl⟩
abbrev main_call4_v19 : Ref sig .tc := ⟨.hbm, 356, rfl⟩
abbrev main_call4_cst_4 : Ref sig .tc := ⟨.hbm, 357, rfl⟩
abbrev main_call4_v20 : Ref sig .tc := ⟨.hbm, 358, rfl⟩
abbrev main_call4_v21 : Ref sig .tc := ⟨.hbm, 359, rfl⟩
abbrev main_call4_v22 : Ref sig .tc := ⟨.hbm, 360, rfl⟩
abbrev main_call4_cst_5 : Ref sig .tc := ⟨.hbm, 361, rfl⟩
abbrev main_call4_v23 : Ref sig .tc := ⟨.hbm, 362, rfl⟩
abbrev main_call4_cst_6 : Ref sig .tc := ⟨.hbm, 363, rfl⟩
abbrev main_call4_v24 : Ref sig .tc := ⟨.hbm, 364, rfl⟩
abbrev main_v36_1 : Ref sig .tc := ⟨.hbm, 365, rfl⟩
abbrev main_call4_v26 : Ref sig .tc := ⟨.hbm, 366, rfl⟩
abbrev main_call4_v27 : Ref sig .tc := ⟨.hbm, 367, rfl⟩
abbrev main_v36_2 : Ref sig .tc := ⟨.hbm, 368, rfl⟩
abbrev main_v36_3 : Ref sig .tc := ⟨.hbm, 369, rfl⟩
abbrev main_v37 : Ref sig .tc := ⟨.hbm, 370, rfl⟩
abbrev main_v38 : Ref sig .tc := ⟨.hbm, 371, rfl⟩
abbrev main_v39 : Ref sig .tc := ⟨.hbm, 372, rfl⟩
abbrev main_call5_v0 : Ref sig .tc := ⟨.hbm, 373, rfl⟩
abbrev main_call5_cst : Ref sig .tc := ⟨.hbm, 374, rfl⟩
abbrev main_call5_v1 : Ref sig .tc := ⟨.hbm, 375, rfl⟩
abbrev main_call5_v2 : Ref sig .tc := ⟨.hbm, 376, rfl⟩
abbrev main_call5_cst_0 : Ref sig .tc := ⟨.hbm, 377, rfl⟩
abbrev main_call5_v3 : Ref sig .tc := ⟨.hbm, 378, rfl⟩
abbrev main_call5_v4 : Ref sig .tc := ⟨.hbm, 379, rfl⟩
abbrev main_call5_v5 : Ref sig .tc := ⟨.hbm, 380, rfl⟩
abbrev main_call5_v6 : Ref sig .tc := ⟨.hbm, 381, rfl⟩
abbrev main_call5_v7 : Ref sig .tc := ⟨.hbm, 382, rfl⟩
abbrev main_call5_v8 : Ref sig .tc := ⟨.hbm, 383, rfl⟩
abbrev main_call5_v9 : Ref sig .tc := ⟨.hbm, 384, rfl⟩
abbrev main_call5_cst_1 : Ref sig .tc := ⟨.hbm, 385, rfl⟩
abbrev main_call5_v10 : Ref sig .tc := ⟨.hbm, 386, rfl⟩
abbrev main_call5_v11 : Ref sig .tc := ⟨.hbm, 387, rfl⟩
abbrev main_call5_v12 : Ref sig .tc := ⟨.hbm, 388, rfl⟩
abbrev main_call5_v13 : Ref sig .tc := ⟨.hbm, 389, rfl⟩
abbrev main_call5_call0_v0 : Ref sig .tc := ⟨.hbm, 390, rfl⟩
abbrev main_call5_call0_cst : Ref sig .tc := ⟨.hbm, 391, rfl⟩
abbrev main_call5_call0_c : Ref sig .tc := ⟨.hbm, 392, rfl⟩
abbrev main_call5_call0_v1_0 : Ref sig .tc := ⟨.hbm, 393, rfl⟩
abbrev main_v40_0 : Ref sig .tc := ⟨.hbm, 394, rfl⟩
abbrev main_call5_call1_c : Ref sig .tc := ⟨.hbm, 395, rfl⟩
abbrev main_call5_call1_v0 : Ref sig .tc := ⟨.hbm, 396, rfl⟩
abbrev main_call5_call1_v1 : Ref sig .tc := ⟨.hbm, 397, rfl⟩
abbrev main_call5_call1_c_0 : Ref sig .tc := ⟨.hbm, 398, rfl⟩
abbrev main_call5_call1_v2 : Ref sig .tc := ⟨.hbm, 399, rfl⟩
abbrev main_call5_call1_v3 : Ref sig .tc := ⟨.hbm, 400, rfl⟩
abbrev main_call5_call1_v4 : Ref sig .tc := ⟨.hbm, 401, rfl⟩
abbrev main_call5_call1_v5 : Ref sig .tc := ⟨.hbm, 402, rfl⟩
abbrev main_call5_call1_c_1 : Ref sig .tc := ⟨.hbm, 403, rfl⟩
abbrev main_call5_call1_c_2 : Ref sig .tc := ⟨.hbm, 404, rfl⟩
abbrev main_call5_call1_v6 : Ref sig .tc := ⟨.hbm, 405, rfl⟩
abbrev main_call5_call1_v7 : Ref sig .tc := ⟨.hbm, 406, rfl⟩
abbrev main_call5_call1_v8 : Ref sig .tc := ⟨.hbm, 407, rfl⟩
abbrev main_call5_call1_v9 : Ref sig .tc := ⟨.hbm, 408, rfl⟩
abbrev main_call5_call1_v10 : Ref sig .tc := ⟨.hbm, 409, rfl⟩
abbrev main_call5_call1_v11 : Ref sig .tc := ⟨.hbm, 410, rfl⟩
abbrev main_call5_call1_c_3 : Ref sig .tc := ⟨.hbm, 411, rfl⟩
abbrev main_call5_call1_v12 : Ref sig .tc := ⟨.hbm, 412, rfl⟩
abbrev main_call5_call1_v13 : Ref sig .tc := ⟨.hbm, 413, rfl⟩
abbrev main_call5_call1_v14 : Ref sig .tc := ⟨.hbm, 414, rfl⟩
abbrev main_call5_call1_cst : Ref sig .tc := ⟨.hbm, 415, rfl⟩
abbrev main_call5_call1_v15 : Ref sig .tc := ⟨.hbm, 416, rfl⟩
abbrev main_call5_v15 : Ref sig .tc := ⟨.hbm, 417, rfl⟩
abbrev main_call5_v16 : Ref sig .tc := ⟨.hbm, 418, rfl⟩
abbrev main_call5_v17 : Ref sig .tc := ⟨.hbm, 419, rfl⟩
abbrev main_call5_cst_2 : Ref sig .tc := ⟨.hbm, 420, rfl⟩
abbrev main_call5_v18 : Ref sig .tc := ⟨.hbm, 421, rfl⟩
abbrev main_call5_cst_3 : Ref sig .tc := ⟨.hbm, 422, rfl⟩
abbrev main_call5_v19 : Ref sig .tc := ⟨.hbm, 423, rfl⟩
abbrev main_call5_cst_4 : Ref sig .tc := ⟨.hbm, 424, rfl⟩
abbrev main_call5_v20 : Ref sig .tc := ⟨.hbm, 425, rfl⟩
abbrev main_call5_v21 : Ref sig .tc := ⟨.hbm, 426, rfl⟩
abbrev main_call5_v22 : Ref sig .tc := ⟨.hbm, 427, rfl⟩
abbrev main_call5_cst_5 : Ref sig .tc := ⟨.hbm, 428, rfl⟩
abbrev main_call5_v23 : Ref sig .tc := ⟨.hbm, 429, rfl⟩
abbrev main_call5_cst_6 : Ref sig .tc := ⟨.hbm, 430, rfl⟩
abbrev main_call5_v24 : Ref sig .tc := ⟨.hbm, 431, rfl⟩
abbrev main_v40_1 : Ref sig .tc := ⟨.hbm, 432, rfl⟩
abbrev main_call5_v26 : Ref sig .tc := ⟨.hbm, 433, rfl⟩
abbrev main_call5_v27 : Ref sig .tc := ⟨.hbm, 434, rfl⟩
abbrev main_v40_2 : Ref sig .tc := ⟨.hbm, 435, rfl⟩
abbrev main_v40_3 : Ref sig .tc := ⟨.hbm, 436, rfl⟩
abbrev main_v41 : Ref sig .tc := ⟨.hbm, 437, rfl⟩
abbrev main_v42 : Ref sig .tc := ⟨.hbm, 438, rfl⟩
abbrev main_v43 : Ref sig .tc := ⟨.hbm, 439, rfl⟩
abbrev main_call6_v0 : Ref sig .tc := ⟨.hbm, 440, rfl⟩
abbrev main_call6_cst : Ref sig .tc := ⟨.hbm, 441, rfl⟩
abbrev main_call6_v1 : Ref sig .tc := ⟨.hbm, 442, rfl⟩
abbrev main_call6_v2 : Ref sig .tc := ⟨.hbm, 443, rfl⟩
abbrev main_call6_cst_0 : Ref sig .tc := ⟨.hbm, 444, rfl⟩
abbrev main_call6_v3 : Ref sig .tc := ⟨.hbm, 445, rfl⟩
abbrev main_call6_v4 : Ref sig .tc := ⟨.hbm, 446, rfl⟩
abbrev main_call6_v5 : Ref sig .tc := ⟨.hbm, 447, rfl⟩
abbrev main_call6_v6 : Ref sig .tc := ⟨.hbm, 448, rfl⟩
abbrev main_call6_v7 : Ref sig .tc := ⟨.hbm, 449, rfl⟩
abbrev main_call6_v8 : Ref sig .tc := ⟨.hbm, 450, rfl⟩
abbrev main_call6_v9 : Ref sig .tc := ⟨.hbm, 451, rfl⟩
abbrev main_call6_cst_1 : Ref sig .tc := ⟨.hbm, 452, rfl⟩
abbrev main_call6_v10 : Ref sig .tc := ⟨.hbm, 453, rfl⟩
abbrev main_call6_v11 : Ref sig .tc := ⟨.hbm, 454, rfl⟩
abbrev main_call6_v12 : Ref sig .tc := ⟨.hbm, 455, rfl⟩
abbrev main_call6_v13 : Ref sig .tc := ⟨.hbm, 456, rfl⟩
abbrev main_call6_call0_v0 : Ref sig .tc := ⟨.hbm, 457, rfl⟩
abbrev main_call6_call0_cst : Ref sig .tc := ⟨.hbm, 458, rfl⟩
abbrev main_call6_call0_c : Ref sig .tc := ⟨.hbm, 459, rfl⟩
abbrev main_call6_call0_v1_0 : Ref sig .tc := ⟨.hbm, 460, rfl⟩
abbrev main_v44_0 : Ref sig .tc := ⟨.hbm, 461, rfl⟩
abbrev main_call6_call1_c : Ref sig .tc := ⟨.hbm, 462, rfl⟩
abbrev main_call6_call1_v0 : Ref sig .tc := ⟨.hbm, 463, rfl⟩
abbrev main_call6_call1_v1 : Ref sig .tc := ⟨.hbm, 464, rfl⟩
abbrev main_call6_call1_c_0 : Ref sig .tc := ⟨.hbm, 465, rfl⟩
abbrev main_call6_call1_v2 : Ref sig .tc := ⟨.hbm, 466, rfl⟩
abbrev main_call6_call1_v3 : Ref sig .tc := ⟨.hbm, 467, rfl⟩
abbrev main_call6_call1_v4 : Ref sig .tc := ⟨.hbm, 468, rfl⟩
abbrev main_call6_call1_v5 : Ref sig .tc := ⟨.hbm, 469, rfl⟩
abbrev main_call6_call1_c_1 : Ref sig .tc := ⟨.hbm, 470, rfl⟩
abbrev main_call6_call1_c_2 : Ref sig .tc := ⟨.hbm, 471, rfl⟩
abbrev main_call6_call1_v6 : Ref sig .tc := ⟨.hbm, 472, rfl⟩
abbrev main_call6_call1_v7 : Ref sig .tc := ⟨.hbm, 473, rfl⟩
abbrev main_call6_call1_v8 : Ref sig .tc := ⟨.hbm, 474, rfl⟩
abbrev main_call6_call1_v9 : Ref sig .tc := ⟨.hbm, 475, rfl⟩
abbrev main_call6_call1_v10 : Ref sig .tc := ⟨.hbm, 476, rfl⟩
abbrev main_call6_call1_v11 : Ref sig .tc := ⟨.hbm, 477, rfl⟩
abbrev main_call6_call1_c_3 : Ref sig .tc := ⟨.hbm, 478, rfl⟩
abbrev main_call6_call1_v12 : Ref sig .tc := ⟨.hbm, 479, rfl⟩
abbrev main_call6_call1_v13 : Ref sig .tc := ⟨.hbm, 480, rfl⟩
abbrev main_call6_call1_v14 : Ref sig .tc := ⟨.hbm, 481, rfl⟩
abbrev main_call6_call1_cst : Ref sig .tc := ⟨.hbm, 482, rfl⟩
abbrev main_call6_call1_v15 : Ref sig .tc := ⟨.hbm, 483, rfl⟩
abbrev main_call6_v15 : Ref sig .tc := ⟨.hbm, 484, rfl⟩
abbrev main_call6_v16 : Ref sig .tc := ⟨.hbm, 485, rfl⟩
abbrev main_call6_v17 : Ref sig .tc := ⟨.hbm, 486, rfl⟩
abbrev main_call6_cst_2 : Ref sig .tc := ⟨.hbm, 487, rfl⟩
abbrev main_call6_v18 : Ref sig .tc := ⟨.hbm, 488, rfl⟩
abbrev main_call6_cst_3 : Ref sig .tc := ⟨.hbm, 489, rfl⟩
abbrev main_call6_v19 : Ref sig .tc := ⟨.hbm, 490, rfl⟩
abbrev main_call6_cst_4 : Ref sig .tc := ⟨.hbm, 491, rfl⟩
abbrev main_call6_v20 : Ref sig .tc := ⟨.hbm, 492, rfl⟩
abbrev main_call6_v21 : Ref sig .tc := ⟨.hbm, 493, rfl⟩
abbrev main_call6_v22 : Ref sig .tc := ⟨.hbm, 494, rfl⟩
abbrev main_call6_cst_5 : Ref sig .tc := ⟨.hbm, 495, rfl⟩
abbrev main_call6_v23 : Ref sig .tc := ⟨.hbm, 496, rfl⟩
abbrev main_call6_cst_6 : Ref sig .tc := ⟨.hbm, 497, rfl⟩
abbrev main_call6_v24 : Ref sig .tc := ⟨.hbm, 498, rfl⟩
abbrev main_v44_1 : Ref sig .tc := ⟨.hbm, 499, rfl⟩
abbrev main_call6_v26 : Ref sig .tc := ⟨.hbm, 500, rfl⟩
abbrev main_call6_v27 : Ref sig .tc := ⟨.hbm, 501, rfl⟩
abbrev main_v44_2 : Ref sig .tc := ⟨.hbm, 502, rfl⟩
abbrev main_v44_3 : Ref sig .tc := ⟨.hbm, 503, rfl⟩
abbrev main_v45 : Ref sig .tc := ⟨.hbm, 504, rfl⟩
abbrev main_v46 : Ref sig .tc := ⟨.hbm, 505, rfl⟩
abbrev main_v47 : Ref sig .tc := ⟨.hbm, 506, rfl⟩
abbrev main_call7_v0 : Ref sig .tc := ⟨.hbm, 507, rfl⟩
abbrev main_call7_cst : Ref sig .tc := ⟨.hbm, 508, rfl⟩
abbrev main_call7_v1 : Ref sig .tc := ⟨.hbm, 509, rfl⟩
abbrev main_call7_v2 : Ref sig .tc := ⟨.hbm, 510, rfl⟩
abbrev main_call7_cst_0 : Ref sig .tc := ⟨.hbm, 511, rfl⟩
abbrev main_call7_v3 : Ref sig .tc := ⟨.hbm, 512, rfl⟩
abbrev main_call7_v4 : Ref sig .tc := ⟨.hbm, 513, rfl⟩
abbrev main_call7_v5 : Ref sig .tc := ⟨.hbm, 514, rfl⟩
abbrev main_call7_v6 : Ref sig .tc := ⟨.hbm, 515, rfl⟩
abbrev main_call7_v7 : Ref sig .tc := ⟨.hbm, 516, rfl⟩
abbrev main_call7_v8 : Ref sig .tc := ⟨.hbm, 517, rfl⟩
abbrev main_call7_v9 : Ref sig .tc := ⟨.hbm, 518, rfl⟩
abbrev main_call7_cst_1 : Ref sig .tc := ⟨.hbm, 519, rfl⟩
abbrev main_call7_v10 : Ref sig .tc := ⟨.hbm, 520, rfl⟩
abbrev main_call7_v11 : Ref sig .tc := ⟨.hbm, 521, rfl⟩
abbrev main_call7_v12 : Ref sig .tc := ⟨.hbm, 522, rfl⟩
abbrev main_call7_v13 : Ref sig .tc := ⟨.hbm, 523, rfl⟩
abbrev main_call7_call0_v0 : Ref sig .tc := ⟨.hbm, 524, rfl⟩
abbrev main_call7_call0_cst : Ref sig .tc := ⟨.hbm, 525, rfl⟩
abbrev main_call7_call0_c : Ref sig .tc := ⟨.hbm, 526, rfl⟩
abbrev main_call7_call0_v1_0 : Ref sig .tc := ⟨.hbm, 527, rfl⟩
abbrev main_v48_0 : Ref sig .tc := ⟨.hbm, 528, rfl⟩
abbrev main_call7_call1_c : Ref sig .tc := ⟨.hbm, 529, rfl⟩
abbrev main_call7_call1_v0 : Ref sig .tc := ⟨.hbm, 530, rfl⟩
abbrev main_call7_call1_v1 : Ref sig .tc := ⟨.hbm, 531, rfl⟩
abbrev main_call7_call1_c_0 : Ref sig .tc := ⟨.hbm, 532, rfl⟩
abbrev main_call7_call1_v2 : Ref sig .tc := ⟨.hbm, 533, rfl⟩
abbrev main_call7_call1_v3 : Ref sig .tc := ⟨.hbm, 534, rfl⟩
abbrev main_call7_call1_v4 : Ref sig .tc := ⟨.hbm, 535, rfl⟩
abbrev main_call7_call1_v5 : Ref sig .tc := ⟨.hbm, 536, rfl⟩
abbrev main_call7_call1_c_1 : Ref sig .tc := ⟨.hbm, 537, rfl⟩
abbrev main_call7_call1_c_2 : Ref sig .tc := ⟨.hbm, 538, rfl⟩
abbrev main_call7_call1_v6 : Ref sig .tc := ⟨.hbm, 539, rfl⟩
abbrev main_call7_call1_v7 : Ref sig .tc := ⟨.hbm, 540, rfl⟩
abbrev main_call7_call1_v8 : Ref sig .tc := ⟨.hbm, 541, rfl⟩
abbrev main_call7_call1_v9 : Ref sig .tc := ⟨.hbm, 542, rfl⟩
abbrev main_call7_call1_v10 : Ref sig .tc := ⟨.hbm, 543, rfl⟩
abbrev main_call7_call1_v11 : Ref sig .tc := ⟨.hbm, 544, rfl⟩
abbrev main_call7_call1_c_3 : Ref sig .tc := ⟨.hbm, 545, rfl⟩
abbrev main_call7_call1_v12 : Ref sig .tc := ⟨.hbm, 546, rfl⟩
abbrev main_call7_call1_v13 : Ref sig .tc := ⟨.hbm, 547, rfl⟩
abbrev main_call7_call1_v14 : Ref sig .tc := ⟨.hbm, 548, rfl⟩
abbrev main_call7_call1_cst : Ref sig .tc := ⟨.hbm, 549, rfl⟩
abbrev main_call7_call1_v15 : Ref sig .tc := ⟨.hbm, 550, rfl⟩
abbrev main_call7_v15 : Ref sig .tc := ⟨.hbm, 551, rfl⟩
abbrev main_call7_v16 : Ref sig .tc := ⟨.hbm, 552, rfl⟩
abbrev main_call7_v17 : Ref sig .tc := ⟨.hbm, 553, rfl⟩
abbrev main_call7_cst_2 : Ref sig .tc := ⟨.hbm, 554, rfl⟩
abbrev main_call7_v18 : Ref sig .tc := ⟨.hbm, 555, rfl⟩
abbrev main_call7_cst_3 : Ref sig .tc := ⟨.hbm, 556, rfl⟩
abbrev main_call7_v19 : Ref sig .tc := ⟨.hbm, 557, rfl⟩
abbrev main_call7_cst_4 : Ref sig .tc := ⟨.hbm, 558, rfl⟩
abbrev main_call7_v20 : Ref sig .tc := ⟨.hbm, 559, rfl⟩
abbrev main_call7_v21 : Ref sig .tc := ⟨.hbm, 560, rfl⟩
abbrev main_call7_v22 : Ref sig .tc := ⟨.hbm, 561, rfl⟩
abbrev main_call7_cst_5 : Ref sig .tc := ⟨.hbm, 562, rfl⟩
abbrev main_call7_v23 : Ref sig .tc := ⟨.hbm, 563, rfl⟩
abbrev main_call7_cst_6 : Ref sig .tc := ⟨.hbm, 564, rfl⟩
abbrev main_call7_v24 : Ref sig .tc := ⟨.hbm, 565, rfl⟩
abbrev main_v48_1 : Ref sig .tc := ⟨.hbm, 566, rfl⟩
abbrev main_call7_v26 : Ref sig .tc := ⟨.hbm, 567, rfl⟩
abbrev main_call7_v27 : Ref sig .tc := ⟨.hbm, 568, rfl⟩
abbrev main_v48_2 : Ref sig .tc := ⟨.hbm, 569, rfl⟩
abbrev main_v48_3 : Ref sig .tc := ⟨.hbm, 570, rfl⟩
abbrev main_v49 : Ref sig .tc := ⟨.hbm, 571, rfl⟩
abbrev main_v50 : Ref sig .tc := ⟨.hbm, 572, rfl⟩
abbrev main_v51 : Ref sig .tc := ⟨.hbm, 573, rfl⟩
abbrev main_v52 : Ref sig .tc := ⟨.hbm, 574, rfl⟩
abbrev main_v53 : Ref sig .tc := ⟨.hbm, 575, rfl⟩
abbrev main_v54 : Ref sig .tc := ⟨.hbm, 576, rfl⟩
abbrev main_v55 : Ref sig .tc := ⟨.hbm, 577, rfl⟩
abbrev main_v56 : Ref sig .tc := ⟨.hbm, 578, rfl⟩
abbrev main_v57 : Ref sig .tc := ⟨.hbm, 579, rfl⟩
abbrev main_v58 : Ref sig .tc := ⟨.hbm, 580, rfl⟩
abbrev main_v59 : Ref sig .tc := ⟨.hbm, 581, rfl⟩
abbrev main_v60 : Ref sig .tc := ⟨.hbm, 582, rfl⟩
abbrev main_v61 : Ref sig .tc := ⟨.hbm, 583, rfl⟩
abbrev main_v62 : Ref sig .tc := ⟨.hbm, 584, rfl⟩
abbrev main_cst_3 : Ref sig .tc := ⟨.hbm, 585, rfl⟩
abbrev main_v63 : Ref sig .tc := ⟨.hbm, 586, rfl⟩
abbrev main_v64 : Ref sig .tc := ⟨.hbm, 587, rfl⟩
abbrev main_v65 : Ref sig .tc := ⟨.hbm, 588, rfl⟩
abbrev main_v66 : Ref sig .tc := ⟨.hbm, 589, rfl⟩
abbrev main_v67 : Ref sig .tc := ⟨.hbm, 590, rfl⟩
abbrev main_v68 : Ref sig .tc := ⟨.hbm, 591, rfl⟩
abbrev main_cst_4 : Ref sig .tc := ⟨.hbm, 592, rfl⟩
abbrev main_v69 : Ref sig .tc := ⟨.hbm, 593, rfl⟩
abbrev main_v70 : Ref sig .tc := ⟨.hbm, 594, rfl⟩
abbrev main_v71 : Ref sig .tc := ⟨.hbm, 595, rfl⟩
abbrev main_v72 : Ref sig .tc := ⟨.hbm, 596, rfl⟩
abbrev main_v73 : Ref sig .tc := ⟨.hbm, 597, rfl⟩
abbrev main_v74 : Ref sig .tc := ⟨.hbm, 598, rfl⟩
abbrev main_v75 : Ref sig .tc := ⟨.hbm, 599, rfl⟩
abbrev main_v76 : Ref sig .tc := ⟨.hbm, 600, rfl⟩
abbrev main_v77 : Ref sig .tc := ⟨.hbm, 601, rfl⟩
abbrev main_cst_5 : Ref sig .tc := ⟨.hbm, 602, rfl⟩
abbrev main_v78 : Ref sig .tc := ⟨.hbm, 603, rfl⟩
abbrev main_cst_6 : Ref sig .tc := ⟨.hbm, 604, rfl⟩
abbrev main_v79 : Ref sig .tc := ⟨.hbm, 605, rfl⟩
abbrev main_v80 : Ref sig .tc := ⟨.hbm, 606, rfl⟩

abbrev nD : Nat := 1
abbrev τ : Topo := Topo.v7x

variable {F : FTy → Type} [FloatOps F]
-- ==== Proof.Block.lean ====
/-
  Loads and stores through whole memrefs, in terms of what the memref reads: a load of everything reads the contents,
  a store of everything leaves the stored value, a store through one rectangle lays the value over the contents.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Frame
public import Idealize.ShloMosaic.Lib.Pipeline.Value
public import Idealize.ShloMosaic.Lib.WholeRead
public import Idealize.ShloMosaic.Lib.Tactic

@[expose] public section

set_option maxRecDepth 16384

noncomputable section

namespace Cert.Mine

open Idealize.ShloMosaic
open Idealize.ShloMosaic.TcCoe

variable {sig : RefSig} {Val : EltTy → Type} {κ : Kind} {sp : Space} {S : Shape} {e : EltTy}

/-- Two zeros, as a function. -/
theorem zeros2 : (![0, 0] : Fin 2 → Nat) = fun _ => 0 := funext fun a => by fin_cases a <;> rfl
/-- Three zeros, as a function. -/
theorem zeros3 : (![0, 0, 0] : Fin 3 → Nat) = fun _ => 0 := funext fun a => by fin_cases a <;> rfl

variable {M : Memref sig κ sp S e}

/-- A load of everything reads the contents. -/
theorem readAt_all (h : M.IsWhole) {off : Fin S.rank → Nat} (hz : off = fun _ => 0) (inb : ∀ a, off a + S.size a ≤ S.size a) (X : S.Idx → Val e) :
    M.view.readAt Val (Rect.unit off S.size inb).toLoadRect (h.unread X) = X := by
  rw [View.readAt_eq_ld, h.read_unread, View.ld_unit_zero hz]

/-- A load through a rectangle reads the contents there. -/
theorem readAt_part (h : M.IsWhole) (r : Rect S) (X : S.Idx → Val e) :
    M.view.readAt Val r.toLoadRect (h.unread X) = View.ld X r := by
  rw [View.readAt_eq_ld, h.read_unread]

/-- A store of everything leaves the stored value, whatever was stored before. -/
theorem writes_all (h : M.IsWhole) {off : Fin S.rank → Nat} (hz : off = fun _ => 0) (inb : ∀ a, off a + S.size a ≤ S.size a)
    (w : S.Idx → Val e) (f : M.view.ty.Contents Val) (L : List (View.Piece Val S e)) :
    M.view.writes Val f ((⟨Rect.unit off S.size inb, w⟩ : View.Piece Val S e) :: L) = h.unread w := by
  refine h.eq_unread (funext fun y => ?_)
  subst hz
  exact View.read_writes_cons_hit_of_coords M.view f (Rect.unit (fun _ => 0) S.size inb) w L (show (Rect.unit (fun _ => 0) S.size inb).shape.Idx from y) y
    fun a => (show (y a).val = 0 + 1 * (y a).val by omega)

/-- A store through one rectangle lays the value over the contents. -/
theorem writes_part (h : M.IsWhole) (r : Rect S) (w : r.shape.Idx → Val e) (X : S.Idx → Val e) :
    M.view.writes Val (h.unread X) [(⟨r, w⟩ : View.Piece Val S e)] = h.unread (r.overlay X w) := by
  refine h.eq_unread (funext fun y => ?_)
  by_cases hy : y ∈ r.set
  · obtain ⟨x, rfl⟩ : ∃ x, r.emb x = y := by
      rw [← Rect.map_emb_univ] at hy
      obtain ⟨x, _, hx⟩ := Finset.mem_map.mp hy
      exact ⟨x, hx⟩
    rw [View.read_writes_cons_emb, Rect.overlay_emb]
  · rw [Rect.overlay_of_not_mem _ _ _ hy, View.read_writes_cons_miss _ _ _ _ _ hy, View.writes_nil, h.read_unread]

/-- A second store through the same rectangle replaces the first. -/
theorem writes_part_again (h : M.IsWhole) (r : Rect S) (w w' : r.shape.Idx → Val e) (X : S.Idx → Val e) :
    M.view.writes Val (h.unread X) [(⟨r, w'⟩ : View.Piece Val S e), ⟨r, w⟩] = h.unread (r.overlay (r.overlay X w) w') := by
  rw [← writes_part h, View.writes_cons, ← writes_part h]; rfl

/-- What was laid over the contents is read back there. -/
theorem ld_overlay (r : Rect S) (w : r.shape.Idx → Val e) (X : S.Idx → Val e) : View.ld (r.overlay X w) r = w :=
  funext fun x => Rect.overlay_emb r X w x

end Cert.Mine

end
-- ==== Proof.Enc.lean ====
/-
  The encoder's block: what the body of the first pallas_call leaves in its result's staging buffer.
-/
module

public import proofs.«01_k».proof.Proof.Block

@[expose] public section

set_option maxRecDepth 16384

noncomputable section

namespace Cert.KernelIdeal.Mine

open Cert.KernelIdeal Cert.KernelIdeal.Gen Cert.Mine

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the launch: the pipelines' rounds beside the transfer counters. -/
abbrev UU : Type := UR sig nD τ × Counters

local notation "𝕄" => MT nD τ sig Unit (Elt F) ℕ UU ℕ

/-- A staging buffer on core `c` held whole at contents that read `X`. -/
abbrev pt (c : Dev nD) {sp : Space} {S : Shape} {e : EltTy} (M : Memref sig .tc sp S e) (h : M.IsWhole) (X : S.Idx → Elt F e) : sProp 𝕄 :=
  M.view.loc (c : Thread nD τ) ↦{fullShare} h.unread X

/-- From the eight staging buffers the encoder's body runs to its end, the result's buffer holding the three layers
    applied to the block of rows. -/
theorem enc_run (c : Dev nD) (i : grid0.Coords) (a1 : Memref sig .tc .vmem S512x512 .f32) (h1 : a1.IsWhole) (a2 : Memref sig .tc .vmem S512x1024 .f32) (h2 : a2.IsWhole)
    (a3 : Memref sig .tc .vmem S1x1024 .f32) (h3 : a3.IsWhole) (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1x1024 .f32) (h7 : a7.IsWhole) (a8 : Memref sig .tc .vmem S512x1024 .f32) (h8 : a8.IsWhole)
    (X1 : Vec F S512x512 .f32) (X2 : Vec F S512x1024 .f32) (X3 : Vec F S1x1024 .f32) (X4 : Vec F S1024x1024 .f32) (X5 : Vec F S1x1024 .f32) (X6 : Vec F S1024x1024 .f32) (X7 : Vec F S1x1024 .f32) (X8 : Vec F S512x1024 .f32)
    (E : Set ℕ) (Q : PUnit → sProp 𝕄) :
    iprop(pt c a1 h1 X1 ∗ pt c a2 h2 X2 ∗ pt c a3 h3 X3 ∗ pt c a4 h4 X4 ∗ pt c a5 h5 X5 ∗ pt c a6 h6 X6 ∗ pt c a7 h7 X7 ∗ pt c a8 h8 X8
        ∗ (iprop(pt c a1 h1 X1 ∗ pt c a2 h2 X2 ∗ pt c a3 h3 X3 ∗ pt c a4 h4 X4 ∗ pt c a5 h5 X5 ∗ pt c a6 h6 X6 ∗ pt c a7 h7 X7
            ∗ pt c a8 h8 (k0_pay1 X1 X2 X3 X4 X5 X6 X7)) -∗ Q ⟨⟩))
      ⊢ wp frame (wpE (defs₀ (F := F)) Variants.none c none) E (cc0__enc_body i a1 h1 a2 h2 a3 h3 a4 h4 a5 h5 a6 h6 a7 h7 a8 h8) Q := by
  unfold pt
  rw [cc0__enc_body_eq_skeleton]
  unfold cc0__enc_body_skel
  iintro ⟨H1, H2, H3, H4, H5, H6, H7, H8, Hk⟩
  sl_exec
  sl_step
  rw [writes_all h8 zeros2, readAt_all h1 zeros2, readAt_all h2 zeros2, readAt_all h3 zeros2, readAt_all h4 zeros2,
    readAt_all h5 zeros2, readAt_all h6 zeros2, readAt_all h7 zeros2]
  iapply Hk
  iframe

end Cert.KernelIdeal.Mine

end
-- ==== Proof.Vq.lean ====
/-
  One grid point of the second pallas_call: what its body leaves in the staging buffers and the scratch.
-/
module

public import proofs.«01_k».proof.Proof.Enc

@[expose] public section

set_option maxRecDepth 16384

noncomputable section

namespace Cert.KernelIdeal.Mine

open Cert.KernelIdeal Cert.KernelIdeal.Gen Cert.Mine

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The first point of the grid. -/
abbrev atStart (i : grid1.Coords) : Prop := k1_cond1 i = 1#1
/-- The first chunk of rows: a new codebook. -/
abbrev atBook (i : grid1.Coords) : Prop :=
  Scalar.cmpi .ne (Scalar.extui (Scalar.cmpi .eq (BitVec.ofNat 32 (i 1).val) 0#32)) 0#32 = 1#1
/-- The first codebook. -/
abbrev atFirst (i : grid1.Coords) : Prop := k1_cond3 i = 1#1
/-- The last codebook. -/
abbrev atLast (i : grid1.Coords) : Prop := k1_cond4 i = 1#1

/-- The rows the point works on, of an array of 2048 rows of 1024. -/
abbrev rows (i : grid1.Coords) : Rect S2048x1024 := Rect.unit (s := S2048x1024) (k1_off2 i) S512x1024.size (k1_off2_inb i)

/-- The column numbers. -/
abbrev cols : IVec S512x1024 32 := iota .tc S512x1024 32 [1] iota_S512x1024_d1_w32

/-- The sum of chosen rows before the point's own: zero over its rows at the first codebook. -/
def qIn (i : grid1.Coords) (q : Vec F S2048x1024 .f32) : Vec F S2048x1024 .f32 :=
  if atFirst i then (rows i).overlay q (k1_pay15 (F := F)) else q
/-- A kept split of the codebook: taken anew at the first chunk. -/
def fresh {α : Type} (i : grid1.Coords) (new old : α) : α := if atBook i then new else old
/-- An accumulator: zeroed at the first point. -/
def accIn (i : grid1.Coords) (new l : Vec F S1x1 .f32) : Vec F S1x1 .f32 := if atStart i then new else l
/-- The decoder's block of rows, at the last codebook. -/
def recOut (i : grid1.Coords) (new rc : Vec F S512x512 .f32) : Vec F S512x512 .f32 := if atLast i then new else rc
/-- The rows of the network's input the point compares with. -/
def xRows (i : grid1.Coords) (x : Vec F S2048x512 .f32) : Vec F S512x512 .f32 :=
  if h : atLast i then View.ld x (Rect.unit (s := S2048x512) (k1_off3 i) S512x512.size (k1_off3_inb i h)) else constant S512x512 .f32 0x00000000#32
/-- The decoder's loss, gathered at the last codebook. -/
def rlOut (i : grid1.Coords) (new rl : Vec F S1x1 .f32) : Vec F S1x1 .f32 := if atLast i then new else rl

/-- The residual of the point's rows. -/
def res (i : grid1.Coords) (z q : Vec F S2048x1024 .f32) : Vec F S512x1024 .f32 := k1_pay16 (View.ld z (rows i)) (View.ld (qIn i q) (rows i))
/-- Where a row's distance is its least. -/
def hit (i : grid1.Coords) (z : Vec F S2048x1024 .f32) (E : Vec F S1x1024x1024 .f32) (q : Vec F S2048x1024 .f32) (en : Vec F S1x1024 .f32) : IVec S512x1024 1 :=
  k1_pay17 E (View.ld z (rows i)) (View.ld (qIn i q) (rows i)) (fresh i (k1_pay14 E) en)
/-- The sum of chosen rows after the point. -/
def qRow (i : grid1.Coords) (z : Vec F S2048x1024 .f32) (E : Vec F S1x1024x1024 .f32) (q : Vec F S2048x1024 .f32) (e1 e2 e3 : Vec F S1024x1024 .bf16) (en : Vec F S1x1024 .f32) : Vec F S512x1024 .f32 :=
  k1_pay20 (res i z q) cols (hit i z E q en) (fresh i (k1_pay11 E) e1) (fresh i (k1_pay12 E) e2) (fresh i (k1_pay13 E) e3) (View.ld (qIn i q) (rows i))

section
variable {i : grid1.Coords}
/-- At the first level the sum's tile starts at zero. -/
theorem qIn_pos (h : atFirst i) (q : Vec F S2048x1024 .f32) : qIn i q = (rows i).overlay q (k1_pay15 (F := F)) := if_pos h
/-- Later it is kept. -/
theorem qIn_neg (h : ¬ atFirst i) (q : Vec F S2048x1024 .f32) : qIn i q = q := if_neg h
/-- At a codebook's first step its parts are made anew. -/
theorem fresh_pos {α : Type} (h : atBook i) (a b : α) : fresh i a b = a := if_pos h
/-- Later they are kept. -/
theorem fresh_neg {α : Type} (h : ¬ atBook i) (a b : α) : fresh i a b = b := if_neg h
/-- At the start an accumulator is zero. -/
theorem accIn_pos (h : atStart i) (a b : Vec F S1x1 .f32) : accIn i a b = a := if_pos h
/-- Later it is kept. -/
theorem accIn_neg (h : ¬ atStart i) (a b : Vec F S1x1 .f32) : accIn i a b = b := if_neg h
/-- At the last level the reconstruction is written. -/
theorem recOut_pos (h : atLast i) (a b : Vec F S512x512 .f32) : recOut i a b = a := if_pos h
/-- Before, it is not. -/
theorem recOut_neg (h : ¬ atLast i) (a b : Vec F S512x512 .f32) : recOut i a b = b := if_neg h
/-- At the last level the reconstruction's loss grows. -/
theorem rlOut_pos (h : atLast i) (a b : Vec F S1x1 .f32) : rlOut i a b = a := if_pos h
/-- Before, it does not. -/
theorem rlOut_neg (h : ¬ atLast i) (a b : Vec F S1x1 .f32) : rlOut i a b = b := if_neg h
/-- At the last level the input's tile is read. -/
theorem xRows_pos (h : atLast i) (x : Vec F S2048x512 .f32) :
    xRows i x = View.ld x (Rect.unit (s := S2048x512) (k1_off3 i) S512x512.size (k1_off3_inb i h)) := dif_pos h
end

/-- From the staging buffers and the scratch at any contents, the body at a grid point runs to its end: its operands as
    they were, its results and scratch as named. -/
theorem vq_run (c : Dev nD) (i : grid1.Coords) (az : Memref sig .tc .vmem S2048x1024 .f32) (hz : az.IsWhole) (aE : Memref sig .tc .vmem S1x1024x1024 .f32) (hE : aE.IsWhole) (ax : Memref sig .tc .vmem S2048x512 .f32) (hx : ax.IsWhole) (aw1 : Memref sig .tc .vmem S1024x1024 .f32) (hw1 : aw1.IsWhole) (ab1 : Memref sig .tc .vmem S1x1024 .f32) (hb1 : ab1.IsWhole) (aw2 : Memref sig .tc .vmem S1024x1024 .f32) (hw2 : aw2.IsWhole) (ab2 : Memref sig .tc .vmem S1x1024 .f32) (hb2 : ab2.IsWhole) (aw3 : Memref sig .tc .vmem S1024x512 .f32) (hw3 : aw3.IsWhole) (ab3 : Memref sig .tc .vmem S1x512 .f32) (hb3 : ab3.IsWhole) (aid : Memref sig .tc .vmem S1x1x512 .i32) (hid : aid.IsWhole) (arc : Memref sig .tc .vmem S512x512 .f32) (hrc : arc.IsWhole) (als : Memref sig .tc .vmem S1x1 .f32) (hls : als.IsWhole) (arl : Memref sig .tc .vmem S1x1 .f32) (hrl : arl.IsWhole) (aq : Memref sig .tc .vmem S2048x1024 .f32) (hq : aq.IsWhole) (ae1 : Memref sig .tc .vmem S1024x1024 .bf16) (he1 : ae1.IsWhole) (ae2 : Memref sig .tc .vmem S1024x1024 .bf16) (he2 : ae2.IsWhole) (ae3 : Memref sig .tc .vmem S1024x1024 .bf16) (he3 : ae3.IsWhole) (aen : Memref sig .tc .vmem S1x1024 .f32) (hen : aen.IsWhole)
    (z : Vec F S2048x1024 .f32) (E : Vec F S1x1024x1024 .f32) (x : Vec F S2048x512 .f32) (w1 : Vec F S1024x1024 .f32) (b1 : Vec F S1x1024 .f32) (w2 : Vec F S1024x1024 .f32) (b2 : Vec F S1x1024 .f32) (w3 : Vec F S1024x512 .f32) (b3 : Vec F S1x512 .f32) (id : Vec F S1x1x512 .i32) (rc : Vec F S512x512 .f32) (ls : Vec F S1x1 .f32) (rl : Vec F S1x1 .f32) (q : Vec F S2048x1024 .f32) (e1 : Vec F S1024x1024 .bf16) (e2 : Vec F S1024x1024 .bf16) (e3 : Vec F S1024x1024 .bf16) (en : Vec F S1x1024 .f32)
    (X : Set ℕ) (Q : PUnit → sProp 𝕄) :
    iprop(pt c az hz z ∗ pt c aE hE E ∗ pt c ax hx x ∗ pt c aw1 hw1 w1 ∗ pt c ab1 hb1 b1 ∗ pt c aw2 hw2 w2 ∗ pt c ab2 hb2 b2 ∗ pt c aw3 hw3 w3 ∗ pt c ab3 hb3 b3 ∗ pt c aid hid id ∗ pt c arc hrc rc ∗ pt c als hls ls ∗ pt c arl hrl rl ∗ pt c aq hq q ∗ pt c ae1 he1 e1 ∗ pt c ae2 he2 e2 ∗ pt c ae3 he3 e3 ∗ pt c aen hen en
        ∗ (iprop(pt c az hz z ∗ pt c aE hE E ∗ pt c ax hx x ∗ pt c aw1 hw1 w1 ∗ pt c ab1 hb1 b1 ∗ pt c aw2 hw2 w2 ∗ pt c ab2 hb2 b2 ∗ pt c aw3 hw3 w3 ∗ pt c ab3 hb3 b3 ∗ pt c aid hid (k1_pay23 cols (hit i z E q en)) ∗ pt c arc hrc (recOut i (k1_pay2 (qRow i z E q e1 e2 e3 en) w1 b1 w2 b2 w3 b3) rc) ∗ pt c als hls (k1_pay22 (res i z q) cols (hit i z E q en) (fresh i (k1_pay11 E) e1) (fresh i (k1_pay12 E) e2) (fresh i (k1_pay13 E) e3) (accIn i k1_pay5 ls)) ∗ pt c arl hrl (rlOut i (k1_pay1 (k1_pay3 (accIn i k1_pay6 rl)) (k1_pay4 (qRow i z E q e1 e2 e3 en) w1 b1 w2 b2 w3 b3 (xRows i x))) (accIn i k1_pay6 rl)) ∗ pt c aq hq ((rows i).overlay (qIn i q) (k1_pay21 (res i z q) cols (hit i z E q en) (fresh i (k1_pay11 E) e1) (fresh i (k1_pay12 E) e2) (fresh i (k1_pay13 E) e3) (View.ld (qIn i q) (rows i)))) ∗ pt c ae1 he1 (fresh i (k1_pay11 E) e1) ∗ pt c ae2 he2 (fresh i (k1_pay12 E) e2) ∗ pt c ae3 he3 (fresh i (k1_pay13 E) e3) ∗ pt c aen hen (fresh i (k1_pay14 E) en)) -∗ Q ⟨⟩))
      ⊢ wp frame (wpE (defs₀ (F := F)) Variants.none c none) X (cc1__vq_body i az hz aE hE ax hx aw1 hw1 ab1 hb1 aw2 hw2 ab2 hb2 aw3 hw3 ab3 hb3 aid hid arc hrc als hls arl hrl aq hq ae1 he1 ae2 he2 ae3 he3 aen hen) Q := by
  unfold pt
  rw [cc1__vq_body_eq_skeleton]
  unfold cc1__vq_body_skel
  rw [k1_part1_eq_skeleton, k1_part2_eq_skeleton, k1_part3_eq_skeleton]
  unfold k1_part1_skel k1_part2_skel k1_part3_skel
  iintro ⟨Hz, HE, Hx, Hw1, Hb1, Hw2, Hb2, Hw3, Hb3, Hid, Hrc, Hls, Hrl, Hq, He1, He2, He3, Hen, Hk⟩
  by_cases hs : atStart i <;> by_cases hb : atBook i <;> by_cases hf : atFirst i <;> by_cases hl : atLast i
  all_goals
    sl_exec
    sl_step
    sl_unfold_words
    simp only [writes_all hid zeros3, writes_all hrc zeros2, writes_all hls zeros2, writes_all hrl zeros2, writes_all he1 zeros2, writes_all he2 zeros2, writes_all he3 zeros2, writes_all hen zeros2,
      readAt_all hE zeros3, readAt_all hw1 zeros2, readAt_all hb1 zeros2, readAt_all hw2 zeros2, readAt_all hb2 zeros2, readAt_all hw3 zeros2, readAt_all hb3 zeros2, readAt_all hls zeros2, readAt_all hrl zeros2, readAt_all he1 zeros2, readAt_all he2 zeros2, readAt_all he3 zeros2, readAt_all hen zeros2, View.readCov_cons_toLoadRect]
    simp only [res, hit, qRow]
    first | simp only [qIn_pos hf] | simp only [qIn_neg hf]
    first | simp only [fresh_pos hb] | simp only [fresh_neg hb]
    first | simp only [accIn_pos hs] | simp only [accIn_neg hs]
    first | simp only [recOut_pos hl, rlOut_pos hl, xRows_pos hl] | simp only [recOut_neg hl, rlOut_neg hl]
    simp only [rows, k1_off1, k1_off2, k1_off3, ld_overlay, readAt_part, writes_part, writes_part_again]
    iapply Hk
    iframe

end Cert.KernelIdeal.Mine

end
-- ==== Proof.Region.lean ====
/-
  A pallas_call as one item of @main: entered holding every unscoped buffer at a valuation, left with the arrays it
  writes at the contents its write-backs determine and every other buffer as it was.
-/
module

public import proofs.«01_k».proof.Proof.Vq
public import proofs.«01_k».proof.Proof.Gen.KernelIdeal.Regions
public import Idealize.ShloMosaic.Lib.Pipeline.ArrRel
public import Idealize.ShloMosaic.Lib.Pipeline.RegionArraysS

@[expose] public section

set_option maxRecDepth 16384

noncomputable section

namespace Cert.KernelIdeal.Mine

open Cert.KernelIdeal Cert.KernelIdeal.Gen Cert.Mine

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat arrRef arrRefs ucRefs)

variable {F : FTy → Type} [FloatOps F]

local notation "𝕄" => MT nD τ sig Unit (Elt F) ℕ UU ℕ

/-- No core owes another anything: no level is assigned. -/
abbrev L : GSem nD τ sig → Finset Unit := fun _ => ∅
/-- The level of every wait. -/
abbrev lv : GSem nD τ sig → Unit → ℕ := fun _ _ => 0

/-- What rides beside the buffers between the items: the core's register of random numbers and that it owes nothing. -/
abbrev rest (c : Dev nD) : sProp 𝕄 :=
  iprop((∃ r, prngReg c r) ∗ ∃ Wd, owes (c : Thread nD τ) (0 : CellTallies nD τ sig Unit) Wd)

variable (rdats : (p : Fin 2) → (c : Dev nD) → RDat τ (Elt F) Unit ℕ UU ℕ (cfgs p) c)

/-- At the full share the windows' arrays are the buffers they lie in, held at any valuation that has them so. -/
theorem arrays_eq_held (p : Fin 2) (kit : Pipeline.LaunchFacts (nD := nD) (τ := τ) cfgs p) (c : Dev nD)
    (hshare : ∀ w, (rdats p c).share w = fullShare)
    (G : (w : Fin (cfgs p).W) → Buf (Elt F) (((cfgs p).win w).arr.view.loc (c.tc : Thread nD τ))) (Wc : Valuation τ sig (Elt F))
    (hG : ∀ w, G w = Wc (Proc.devRef .tc (arrRef (cfgs p).spec w))) :
    ((rdats p c).arrays G : sProp 𝕄) = StableHlo.held (c.tc : Thread nD τ) (arrRefs (cfgs p).spec) Wc := by
  have h := Pipeline.arrays_eq (Pipeline.pin (pcfgs (F := F)) adm)
    (fun q c => (rdats q c).withAfter fun _ _ => fun _ => Classical.arbitrary _) p c kit.arr_whole hshare G
  refine Eq.trans h ?_
  unfold StableHlo.held arrRefs
  rw [bigSep_map, show Finset.univ.image (arrRef (cfgs p).spec) = Finset.univ.map ⟨arrRef (cfgs p).spec, kit.win.arr_inj⟩ from
    (Finset.map_eq_image ⟨arrRef (cfgs p).spec, kit.win.arr_inj⟩ Finset.univ).symm, bigSep_map]
  exact bigSep_congr fun w _ => by rw [hG]; rfl

set_option backward.isDefEq.respectTransparency.types false in
/-- The record of pallas_call `p`, entered at `W`, left at `W'`: the body's obligation, the arrays at entry (`hA`), the only
    contents the write-backs can leave (`hF`), every other buffer kept (`hO`). -/
def region (p : Fin 2) (kit : Pipeline.LaunchFacts (nD := nD) (τ := τ) cfgs p) (hK : (pcfgs (F := F) p).pre.K = 0)
    (hbody : ∀ c, (rdats p c).BodyObligation (defs₀ (F := F)) Variants.none () Set.univ)
    (howed : ∀ c t, (rdats p c).owed t = 0) (hrec : ∀ c, (rdats p c).recorded 0 = Set.univ)
    (hshare : ∀ c w, (rdats p c).share w = fullShare)
    (hsub : arrRefs (τ := τ) (cfgs p).spec ⊆ ucRefs τ sig)
    (W W' : Dev nD → Valuation τ sig (Elt F))
    (hA : ∀ c w, (rdats p c).A w = W c (Proc.devRef .tc (arrRef (cfgs p).spec w)))
    (hF : ∀ c w G, (rdats p c).ArrAt w (cfgs p).N G → G = W' c (Proc.devRef .tc (arrRef (cfgs p).spec w)))
    (hO : ∀ c, ∀ d ∈ ucRefs τ sig \ arrRefs (cfgs p).spec, W' c d = W c d)
    (hin : ∀ c, (Pipeline.scopedRest (cfgs p).spec c : sProp 𝕄) ⊢ (rdats p c).Φ 0)
    (hout : ∀ c, (rdats p c).Φ (Fin.last (cfgs p).N) ⊢ (Pipeline.scopedRest (cfgs p).spec c : sProp 𝕄)) :
    Pipeline.RDat.RegionSeg (pcfgs (F := F)) adm rdats () defs₀ Variants.none L lv p where
  win := kit.win.to₀
  block_pos := kit.block_pos
  stage_whole := kit.stage_whole
  K := PEmpty
  osem k := k.elim
  ho := Pipeline.OwnSemFacts.none _
  hbody := hbody
  hwaits := Pipeline.RDat.hwaits_of_owed_zero _ _ _ _ L lv p howed
  pre c := iprop(StableHlo.held (c.tc : Thread nD τ) (ucRefs τ sig) (W c) ∗ rest c)
  post c := iprop(StableHlo.held (c.tc : Thread nD τ) (ucRefs τ sig) (W' c) ∗ rest c)
  X _ := BI.emp
  Y _ := BI.emp
  Z c := iprop(StableHlo.held (c.tc : Thread nD τ) (ucRefs τ sig \ arrRefs (cfgs p).spec) (W c) ∗ ∃ r, prngReg c r)
  hentry c := by
    rw [Pipeline.ownSems0_none, Pipeline.prefHeld_of_none _ hK, StableHlo.held_sub_split (c.tc : Thread nD τ) hsub (W c),
      ← arrays_eq_held rdats p kit c (hshare c) (rdats p c).A (W c) (hA c)]
    iintro ⟨⟨⟨Ha, Hr⟩, Hp, HO⟩, -, -⟩
    imodintro
    isplitl [Ha]; · iexact Ha
    isplitr; · iempintro
    isplitl [HO]
    · unfold RDat.owesAt Pipeline.owesWithin RDat.bound
      rw [howed c 0, hrec c]
      icases HO with ⟨%Wd, HO⟩; iexists Wd; isplitr; · ipureintro; exact fun _ _ => Or.inl trivial
      iexact HO
    isplitr; · iempintro
    isplitl [Hr] <;> iassumption
  hin c := by
    iintro ⟨-, -, Hr⟩
    iapply (hin c); iexact Hr
  hout c := by
    rw [Pipeline.ownSems0_none]
    iintro H
    isplitr; · iempintro
    isplitr; · iempintro
    iapply (hout c); iexact H
  hexit c := by
    have hfin : ((rdats p c).arraysAt (cfgs p).N : sProp 𝕄)
        ⊢ (rdats p c).arrays fun w => W' c (Proc.devRef .tc (arrRef (cfgs p).spec w)) := by
      unfold RDat.arraysAt RDat.arrays
      refine bigSep_mono fun w _ => ?_
      show iprop(∃ G, ⌜(rdats p c).ArrAt w (cfgs p).N G⌝
          ∗ ((cfgs p).win w).arr.view.loc (c.tc : Thread nD τ) ↦[((cfgs p).win w).arr.view.set]{(rdats p c).share w} G)
        ⊢ (((cfgs p).win w).arr.view.loc (c.tc : Thread nD τ) ↦[((cfgs p).win w).arr.view.set]{(rdats p c).share w}
            W' c (Proc.devRef .tc (arrRef (cfgs p).spec w)) : sProp 𝕄)
      iintro ⟨%G, %hG, H⟩
      rw [hF c w G hG]
      iexact H
    rw [StableHlo.held_sub_split (c.tc : Thread nD τ) hsub (W' c),
      ← arrays_eq_held rdats p kit c (hshare c) (fun w => W' c (Proc.devRef .tc (arrRef (cfgs p).spec w))) (W' c) (fun _ => rfl),
      StableHlo.held_congr (c.tc : Thread nD τ) (S := ucRefs τ sig \ arrRefs (cfgs p).spec) (hO c)]
    iintro ⟨Ha, HO, -, Hr, Hp⟩
    ihave Ha := hfin $$ Ha
    imodintro
    isplitl [Ha Hr]
    · isplitl [Ha] <;> iassumption
    isplitl [Hp]; · iexact Hp
    unfold RDat.owesAt Pipeline.owesWithin
    rw [howed c (Fin.last _)]
    icases HO with ⟨%Wd, -, HO⟩; iexists Wd; iexact HO

end Cert.KernelIdeal.Mine

end
-- ==== Proof.EncData.lean ====
/-
  The encoder's pallas_call: what every staging buffer holds at every grid point, and the run of the body there.
-/
module

public import proofs.«01_k».proof.Proof.Region
public import Idealize.ShloMosaic.Lib.Pipeline.FrameBody

@[expose] public section

set_option maxRecDepth 16384

noncomputable section

namespace Cert.KernelIdeal.Mine

open Cert.KernelIdeal Cert.KernelIdeal.Gen Cert.Mine

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat arrRef arrRefs ucRefs)

variable {F : FTy → Type} [FloatOps F]

local notation "𝕄" => MT nD τ sig Unit (Elt F) ℕ UU ℕ

/-- Holding a whole buffer at contents that read `X`, in the two forms. -/
theorem owns_pt (c : Dev nD) {sp : Space} {S : Shape} {e : EltTy} (M : Memref sig .tc sp S e) (h : M.IsWhole) (X : S.Idx → Elt F e) :
    (owns (c : Thread nD τ) M fullShare X : sProp 𝕄) ⊢ pt c M h X := by
  unfold owns pt
  iintro ⟨%f, %hf, H⟩
  rw [← h.eq_unread hf, h.set_eq_univ]
  iexact H

/-- The same the other way. -/
theorem pt_owns (c : Dev nD) {sp : Space} {S : Shape} {e : EltTy} (M : Memref sig .tc sp S e) (h : M.IsWhole) (X : S.Idx → Elt F e) :
    (pt c M h X : sProp 𝕄) ⊢ owns (c : Thread nD τ) M fullShare X := by
  unfold owns pt
  iintro H
  iexists _
  isplitr
  · ipureintro; exact h.read_unread X
  rw [h.set_eq_univ]
  iexact H

section
variable (V : Dev nD → Valuation τ sig (Elt F)) (c : Dev nD)

/-- The block of window `w`'s array at point `t` of the encoder's grid. -/
def B0 (w : Fin cfg0.W) (t : Fin cfg0.N) : (cfg0.win w).block.Idx → Elt F (cfg0.win w).elt :=
  (cfg0.win w).fill (cfg0.grid.coords t) (fun _ => Classical.arbitrary _) (((cfg0.win w).blk t).view.read (Elt F) (V c (Proc.devRef .tc (arrRef cfg0.spec w))))

/-- The rows of the encoder's result the point `t` computes. -/
def encV (t : Fin cfg0.N) : Vec F S512x1024 .f32 :=
  k0_pay1 (B0 V c 0 t) (B0 V c 1 t) (B0 V c 2 t) (B0 V c 3 t) (B0 V c 4 t) (B0 V c 5 t) (B0 V c 6 t)

/-- What the body leaves in each buffer: an input as found, the result's the rows computed. -/
def after0 : (w : Fin cfg0.W) → Fin cfg0.N → (Y X : (cfg0.win w).block.Idx → Elt F (cfg0.win w).elt) → Prop
  | ⟨7, _⟩, t, _, X => X = encV V c t
  | _, _, Y, X => X = Y

/-- The data of the encoder's pallas_call. -/
def rd0 : RDat τ (Elt F) Unit ℕ UU ℕ cfg0 c where
  A w := V c (Proc.devRef .tc (arrRef cfg0.spec w))
  after := after0 V c
  Φ _ := Pipeline.scopedRest cfg0.spec c
  q _ := fullShare
  owed _ := 0

/-- An input's buffer holds its array's block. -/
theorem finds0 : ∀ w : Fin cfg0.W, w.val < 7 → ∀ t Y, (rd0 V c).Finds w t Y → Y = B0 V c w t
  | ⟨0, h⟩, _ => fun t Y hY => by obtain ⟨d, rfl⟩ := (rd0 V c).finds_in_eq_fetched ⟨0, h⟩ rfl (fun _ _ _ => rfl) (fun _ _ _ h => h) t Y hY; rfl
  | ⟨1, h⟩, _ => fun t Y hY => by obtain ⟨d, rfl⟩ := (rd0 V c).finds_in_eq_fetched ⟨1, h⟩ rfl (fun _ _ _ => rfl) (fun _ _ _ h => h) t Y hY; rfl
  | ⟨2, h⟩, _ => fun t Y hY => by obtain ⟨d, rfl⟩ := (rd0 V c).finds_in_eq_fetched ⟨2, h⟩ rfl (fun _ _ _ => rfl) (fun _ _ _ h => h) t Y hY; rfl
  | ⟨3, h⟩, _ => fun t Y hY => by obtain ⟨d, rfl⟩ := (rd0 V c).finds_in_eq_fetched ⟨3, h⟩ rfl (fun _ _ _ => rfl) (fun _ _ _ h => h) t Y hY; rfl
  | ⟨4, h⟩, _ => fun t Y hY => by obtain ⟨d, rfl⟩ := (rd0 V c).finds_in_eq_fetched ⟨4, h⟩ rfl (fun _ _ _ => rfl) (fun _ _ _ h => h) t Y hY; rfl
  | ⟨5, h⟩, _ => fun t Y hY => by obtain ⟨d, rfl⟩ := (rd0 V c).finds_in_eq_fetched ⟨5, h⟩ rfl (fun _ _ _ => rfl) (fun _ _ _ h => h) t Y hY; rfl
  | ⟨6, h⟩, _ => fun t Y hY => by obtain ⟨d, rfl⟩ := (rd0 V c).finds_in_eq_fetched ⟨6, h⟩ rfl (fun _ _ _ => rfl) (fun _ _ _ h => h) t Y hY; rfl
  | ⟨_ + 7, _⟩, h => absurd h (by simp)

/-- The body run at a grid point. -/
theorem body0 : (rd0 V c).BodyObligation (defs₀ (F := F)) Variants.none () Set.univ := by
  intro t Y hY
  have f := fun w hw => finds0 V c w hw t (Y w) (hY w)
  have hw := fun w => launch0.stage_whole w (cfg0.slots t w)
  show iprop(_ ∗ _ ∗ _) ⊢ wp frame (wpE (defs₀ (F := F)) Variants.none c none) Set.univ (bodyAt0 t) _
  rw [bigSep_W0, bigSep_W0, show (rd0 V c).Φ t.castSucc = (rd0 V c).Φ t.succ from rfl,
    show ((rd0 V c).owesAt () t.castSucc : sProp 𝕄) = (rd0 V c).owesAt () t.succ from rfl]
  iintro ⟨HΦ, HO, H0, H1, H2, H3, H4, H5, H6, H7⟩
  ihave H0 := owns_pt c _ (hw 0) _ $$ H0
  ihave H1 := owns_pt c _ (hw 1) _ $$ H1
  ihave H2 := owns_pt c _ (hw 2) _ $$ H2
  ihave H3 := owns_pt c _ (hw 3) _ $$ H3
  ihave H4 := owns_pt c _ (hw 4) _ $$ H4
  ihave H5 := owns_pt c _ (hw 5) _ $$ H5
  ihave H6 := owns_pt c _ (hw 6) _ $$ H6
  ihave H7 := owns_pt c _ (hw 7) _ $$ H7
  iapply (enc_run c (grid0.coords t) (st0_0 t) (hw 0) (st0_1 t) (hw 1) (st0_2 t) (hw 2) (st0_3 t) (hw 3) (st0_4 t) (hw 4) (st0_5 t) (hw 5) (st0_6 t) (hw 6)
    (st0_7 t) (hw 7) (Y 0) (Y 1) (Y 2) (Y 3) (Y 4) (Y 5) (Y 6) (Y 7))
  iframe H0 H1 H2 H3 H4 H5 H6 H7
  iintro ⟨H0, H1, H2, H3, H4, H5, H6, H7⟩
  ihave H0 := pt_owns c _ (hw 0) _ $$ H0
  ihave H1 := pt_owns c _ (hw 1) _ $$ H1
  ihave H2 := pt_owns c _ (hw 2) _ $$ H2
  ihave H3 := pt_owns c _ (hw 3) _ $$ H3
  ihave H4 := pt_owns c _ (hw 4) _ $$ H4
  ihave H5 := pt_owns c _ (hw 5) _ $$ H5
  ihave H6 := pt_owns c _ (hw 6) _ $$ H6
  ihave H7 := pt_owns c _ (hw 7) _ $$ H7
  isplitl [HΦ]; · iexact HΦ
  isplitl [HO]; · iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  iexists _; isplitr; swap; (· iexact H7); ipureintro
  show _ = k0_pay1 _ _ _ _ _ _ _
  rw [f 0 (by decide), f 1 (by decide), f 2 (by decide), f 3 (by decide), f 4 (by decide), f 5 (by decide), f 6 (by decide)]

end

end Cert.KernelIdeal.Mine

end
-- ==== Proof.Arr.lean ====
/-
  What an array holds once a pallas_call has run, from what its body leaves at the points from some point on.
-/
module

public import proofs.«01_k».proof.Proof.EncData
public import Idealize.ShloMosaic.Lib.Pipeline.ValueKit
public import Idealize.ShloMosaic.Lib.Pointwise.Index
public import Idealize.ShloMosaic.Lib.Pointwise.Sums

@[expose] public section

set_option maxRecDepth 16384

noncomputable section

namespace Cert.KernelIdeal.Mine

open Cert.KernelIdeal Cert.KernelIdeal.Gen Cert.Mine

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat arrRef arrRefs ucRefs)

variable {F : FTy → Type} [FloatOps F]

section
variable {cfg : Pipeline.Cfg sig Λ₀} {c : Dev nD} (rd : RDat τ (Elt F) Unit ℕ UU ℕ cfg c)

/-- If from point `s` on every write-back writes its block of `R`, an element some such write-back covers reads `R`:
    what was written before `s` is overwritten, what comes later writes the same. -/
theorem arrAt_from (w : Fin cfg.W) (s : ℕ) (R : Buf (Elt F) ((cfg.win w).arr.view.loc (c.tc : Thread nD τ)))
    (hR : ∀ t : Fin cfg.N, s ≤ t.val → (cfg.win w).flush t = true → ∀ X, rd.Leaves w t X →
      (cfg.win w).cut (cfg.grid.coords t) X = ((cfg.win w).blk t).view.read (Elt F) R) :
    ∀ (n : ℕ) (G : Buf (Elt F) ((cfg.win w).arr.view.loc (c.tc : Thread nD τ))), rd.ArrAt w n G →
      ∀ (t : Fin cfg.N) (i : ((cfg.win w).arr.view.loc (c.tc : Thread nD τ)).2.ty.Idx),
        s ≤ t.val → t.val < n → (cfg.win w).flush t = true → i ∈ ((cfg.win w).blk t).view.set → G i = R i := by
  intro n
  induction n with
  | zero => intro G _ t i _ ht; exact absurd ht (Nat.not_lt_zero _)
  | succ n ih =>
    intro G hG t i hs ht hf hi
    by_cases hn : n < cfg.N
    swap
    · have hG' : rd.ArrAt w n G := by
        have h := hG
        unfold RDat.ArrAt at h
        rwa [dif_neg hn] at h
      exact ih G hG' t i hs (by have := t.isLt; omega) hf hi
    have h := hG
    rw [rd.ArrAt_succ w ⟨n, hn⟩] at h
    by_cases hfn : (cfg.win w).flush ⟨n, hn⟩ = true
    · rw [if_pos hfn] at h
      obtain ⟨G₀, X, hG₀, hX, rfl⟩ := h
      have hsn : s ≤ n := by omega
      rw [hR ⟨n, hn⟩ hsn hfn X hX, View.write_read_eq_piecewise]
      by_cases hin : i ∈ ((cfg.win w).blk ⟨n, hn⟩).view.setOn Finset.univ
      · rw [Finset.piecewise_eq_of_mem _ _ _ hin]
      · rw [Finset.piecewise_eq_of_notMem _ _ _ hin]
        have htn : t.val ≠ n := fun e => hin (by
          rw [View.setOn_univ, ← show t = ⟨n, hn⟩ from Fin.ext e]; exact hi)
        exact ih G₀ hG₀ t i hs (by omega) hf hi
    · rw [if_neg hfn] at h
      have htn : t.val ≠ n := fun e => hfn (by rw [← show t = ⟨n, hn⟩ from Fin.ext e]; exact hf)
      exact ih G h t i hs (by omega) hf hi

end

section
variable (V : Dev nD → Valuation τ sig (Elt F)) (c : Dev nD)

/-- The encoder's result: row `i` is row `i % 512` of what point `i / 512` computes. -/
def encA : S2048x1024.Idx → Elt F .f32 := fun i =>
  encV V c ⟨(i 0).val / 512, by have : (i 0).val < 2048 := (i 0).isLt; rw [show cfg0.N = 4 from N_0]; omega⟩
    (ix2 ⟨(i 0).val % 512, by omega⟩ ⟨(i 1).val, (i 1).isLt⟩)

/-- The encoder's array at one entry: the block's value there. -/
theorem encA_at (t : Fin cfg0.N) (y : S512x1024.Idx) (i : S2048x1024.Idx) (h0 : (i 0).val = t.val * 512 + (y 0).val)
    (h1 : (i 1).val = (y 1).val) : encA V c i = encV V c t y := by
  have hy : (y 0).val < 512 := (y 0).isLt
  unfold encA
  congr 1
  · exact Fin.ext (by show (i 0).val / 512 = t.val; omega)
  · funext a
    apply Fin.ext
    match a with
    | ⟨0, _⟩ => show (i 0).val % 512 = (y 0).val; omega
    | ⟨1, _⟩ => exact h1

/-- The output's block at a point. -/
theorem index0_7 : ∀ t : Fin cfg0.N, win0_7.index t = ![t.val, 0] := by decide +kernel

/-- The array the encoder's pallas_call leaves. -/
theorem arrAt0 (G) (hG : (rd0 V c).ArrAt 7 cfg0.N G) : G = encA V c := by
  funext i
  have hcov : (cfg0.win 7).Covers := by decide +kernel
  obtain ⟨t, hf, hi⟩ := hcov.cover _ (Memref.isWhole_whole _) i
  refine arrAt_from (rd0 V c) 7 0 (encA V c) (fun t _ _ X hX => ?_) cfg0.N G hG t i (Nat.zero_le _) t.isLt hf hi
  obtain ⟨Y, -, hX⟩ := hX
  have hX : X = encV V c t := hX
  subst hX
  funext y
  rw [View.read_apply]
  refine (encA_at V c t y _ ?_ ?_).symm
  · show win0_7.index t 0 * 512 + 1 * (y 0).val = t.val * 512 + (y 0).val
    rw [index0_7]; show t.val * 512 + _ = _; omega
  · show win0_7.index t 1 * 1024 + 1 * (y 1).val = (y 1).val
    rw [index0_7]; show 0 * 1024 + _ = _; omega

end

end Cert.KernelIdeal.Mine

end
-- ==== Proof.VqPoint.lean ====
/-
  The quantiser's pallas_call, point by point: the codebook, the rows, the residual, the chosen entries, the running sum
  of chosen entries and the two running losses, each as a function of the grid point.
-/
module

public import proofs.«01_k».proof.Proof.Arr

@[expose] public section

set_option maxRecDepth 16384

noncomputable section

namespace Cert.KernelIdeal.Mine

open Cert.KernelIdeal Cert.KernelIdeal.Gen Cert.Mine

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat arrRef arrRefs ucRefs)

variable {F : FTy → Type} [FloatOps F]

section
variable (V : Dev nD → Valuation τ sig (Elt F)) (c : Dev nD)

/-- The block of window `w`'s array at point `t` of the quantiser's grid. -/
def B1 (w : Fin cfg1.W) (t : Fin cfg1.N) : (cfg1.win w).block.Idx → Elt F (cfg1.win w).elt :=
  (cfg1.win w).fill (cfg1.grid.coords t) (fun _ => Classical.arbitrary _) (((cfg1.win w).blk t).view.read (Elt F) (V c (Proc.devRef .tc (arrRef cfg1.spec w))))

/-- Point number `n` of the grid. -/
def pnt (n : ℕ) : Fin cfg1.N := ⟨n % 32, by rw [show cfg1.N = 32 from N_1]; omega⟩

/-- A point's own number. -/
theorem pnt_val (t : Fin cfg1.N) : pnt t.val = t :=
  Fin.ext (Nat.mod_eq_of_lt (lt_of_lt_of_eq t.isLt N_1))

/-- The codebook of point `t`. -/
def book (t : Fin cfg1.N) : Vec F S1x1024x1024 .f32 := B1 V c 1 t
/-- The encoder's rows of point `t`. -/
def zRow (t : Fin cfg1.N) : Vec F S512x1024 .f32 := View.ld (B1 V c 0 t : Vec F S2048x1024 .f32) (rows (grid1.coords t))
/-- The residual of point `t` over the sum `x` of the entries chosen so far. -/
def resOf (t : Fin cfg1.N) (x : Vec F S512x1024 .f32) : Vec F S512x1024 .f32 := k1_pay16 (zRow V c t) x
/-- Where each row's distance to the codebook of point `t` is its least. -/
def hitOf (t : Fin cfg1.N) (x : Vec F S512x1024 .f32) : IVec S512x1024 1 := k1_pay17 (book V c t) (zRow V c t) x (k1_pay14 (book V c t))
/-- The sum of chosen entries after point `t`, from the sum `x` before it. -/
def stepQ (t : Fin cfg1.N) (x : Vec F S512x1024 .f32) : Vec F S512x1024 .f32 :=
  k1_pay20 (resOf V c t x) cols (hitOf V c t x) (k1_pay11 (book V c t)) (k1_pay12 (book V c t)) (k1_pay13 (book V c t)) x
/-- The sum of the entries chosen from the first `g` codebooks, for the rows of chunk `k`. -/
def sumQ (k : ℕ) : ℕ → Vec F S512x1024 .f32
  | 0 => k1_pay15
  | g + 1 => stepQ V c (pnt (4 * g + k)) (sumQ k g)
/-- The sum before point `t`, for its own rows. -/
def qAt (t : Fin cfg1.N) : Vec F S512x1024 .f32 := sumQ V c (t.val % 4) (t.val / 4)
/-- The chosen entries' numbers at point `t`. -/
def idxV (t : Fin cfg1.N) : Vec F S1x1x512 .i32 := k1_pay23 cols (hitOf V c t (qAt V c t))
/-- The quantiser's loss gathered over the first `n` points. -/
def lossB : ℕ → Vec F S1x1 .f32
  | 0 => k1_pay5
  | n + 1 => k1_pay22 (resOf V c (pnt n) (qAt V c (pnt n))) cols (hitOf V c (pnt n) (qAt V c (pnt n)))
      (k1_pay11 (book V c (pnt n))) (k1_pay12 (book V c (pnt n))) (k1_pay13 (book V c (pnt n))) (lossB n)
/-- The decoder's rows at point `t`. -/
def recV (t : Fin cfg1.N) : Vec F S512x512 .f32 :=
  k1_pay2 (stepQ V c t (qAt V c t)) (B1 V c 3 t) (B1 V c 4 t) (B1 V c 5 t) (B1 V c 6 t) (B1 V c 7 t) (B1 V c 8 t)
/-- The decoder's loss at point `t`. -/
def rlAt (t : Fin cfg1.N) : F .f32 :=
  k1_pay4 (stepQ V c t (qAt V c t)) (B1 V c 3 t) (B1 V c 4 t) (B1 V c 5 t) (B1 V c 6 t) (B1 V c 7 t) (B1 V c 8 t)
    (xRows (grid1.coords t) (B1 V c 2 t))
/-- The decoder's loss gathered over the first `n` points. -/
def rlossB : ℕ → Vec F S1x1 .f32
  | 0 => k1_pay6
  | n + 1 => if 28 ≤ n then k1_pay1 (k1_pay3 (rlossB n)) (rlAt V c (pnt n)) else rlossB n

/-- The rows of chunk `k`. -/
def chunk (k : Fin 4) : Rect S2048x1024 := Rect.unit (s := S2048x1024) ![512 * k.val, 0] S512x1024.size (fun a => by
  have := k.isLt
  match a with
  | ⟨0, _⟩ => show 512 * k.val + 512 ≤ 2048; omega
  | ⟨1, _⟩ => show 0 + 1024 ≤ 1024; omega)

/-- The chunk of point `t`. -/
def chunkOf (t : Fin cfg1.N) : Fin 4 := ⟨t.val % 4, by omega⟩

/-- How many points of chunk `k` lie before point `n`. -/
def seen (n k : ℕ) : ℕ := (n + 3 - k) / 4

/-- What the running sum's buffer holds before point `n`: over the rows of a chunk already met, the sum so far. -/
def QInv (n : ℕ) (q : Vec F S2048x1024 .f32) : Prop :=
  ∀ k : Fin 4, 0 < seen n k.val → (View.ld q (chunk k) : Vec F S512x1024 .f32) = sumQ V c k.val (seen n k.val)

/-- What the kept splits hold before point `n`: those of the codebook of the point before. -/
def EInv (n : ℕ) (e1 e2 e3 : Vec F S1024x1024 .bf16) (en : Vec F S1x1024 .f32) : Prop :=
  0 < n → e1 = k1_pay11 (book V c (pnt (n - 1))) ∧ e2 = k1_pay12 (book V c (pnt (n - 1))) ∧ e3 = k1_pay13 (book V c (pnt (n - 1)))
    ∧ en = k1_pay14 (book V c (pnt (n - 1)))

/-- The start is the first point. -/
theorem atStart_iff : ∀ t : Fin cfg1.N, atStart (grid1.coords t) ↔ t.val = 0 := by decide +kernel
/-- A codebook's first step is every fourth point. -/
theorem atBook_iff : ∀ t : Fin cfg1.N, atBook (grid1.coords t) ↔ t.val % 4 = 0 := by decide +kernel
/-- The first level is the first four points. -/
theorem atFirst_iff : ∀ t : Fin cfg1.N, atFirst (grid1.coords t) ↔ t.val < 4 := by decide +kernel
/-- The last level is the last four points. -/
theorem atLast_iff : ∀ t : Fin cfg1.N, atLast (grid1.coords t) ↔ 28 ≤ t.val := by decide +kernel
/-- Where a step's rows begin. -/
theorem off2_eq : ∀ t : Fin cfg1.N, k1_off2 (grid1.coords t) = ![512 * (t.val % 4), 0] := by decide +kernel
/-- The codebook's block at a point. -/
theorem index1_1 : ∀ t : Fin cfg1.N, win1_1.index t = ![t.val / 4, 0, 0] := by decide +kernel

/-- A step's rows are one tile. -/
theorem rows_eq (t : Fin cfg1.N) : rows (grid1.coords t) = chunk (chunkOf t) := by
  unfold rows chunk
  exact Rect.unit_congr (off2_eq t) _ _

/-- Rows read through equal rectangles of one size. -/
theorem ld_congr {r r' : Rect S2048x1024} (h : r = r') (hs : r.shape = S512x1024) (hs' : r'.shape = S512x1024) (X : Vec F S2048x1024 .f32)
    (f : (s : Shape) → s = S512x1024 → (s.Idx → Elt F .f32) → Vec F S512x1024 .f32) :
    f _ hs (View.ld X r) = f _ hs' (View.ld X r') := by subst h; rfl

/-- Loading a step's rows. -/
theorem ld_rows (t : Fin cfg1.N) (X : Vec F S2048x1024 .f32) :
    (View.ld X (rows (grid1.coords t)) : Vec F S512x1024 .f32) = View.ld X (chunk (chunkOf t)) :=
  ld_congr (rows_eq t) rfl rfl X (fun s h X => h ▸ X)

/-- Rows laid over another chunk are not seen. -/
theorem ld_overlay_other (t : Fin cfg1.N) (k : Fin 4) (hk : k ≠ chunkOf t) (X : Vec F S2048x1024 .f32) (w : Vec F S512x1024 .f32) :
    (View.ld ((rows (grid1.coords t)).overlay X w) (chunk k) : Vec F S512x1024 .f32) = View.ld X (chunk k) := by
  funext y
  show (rows (grid1.coords t)).overlay X w ((chunk k).idx y) = X ((chunk k).idx y)
  refine Rect.overlay_of_not_mem _ _ _ fun hm => hk ?_
  rw [Rect.mem_set_unit, off2_eq] at hm
  have h := hm ⟨0, by decide⟩
  have hy : (y 0).val < 512 := (y 0).isLt
  have e : (((chunk k).idx y) ⟨0, by decide⟩).val = 512 * k.val + 1 * (y 0).val := rfl
  rw [e] at h
  have h' : 512 * (t.val % 4) ≤ 512 * k.val + 1 * (y 0).val ∧ 512 * k.val + 1 * (y 0).val < 512 * (t.val % 4) + 512 := h
  exact Fin.ext (by show k.val = t.val % 4; omega)

/-- The sum stored is the sum computed. -/
theorem pay21_eq (a : FVec F S512x1024 .f32) (b : IVec S512x1024 32) (d : IVec S512x1024 1) (e1 e2 e3 : Vec F S1024x1024 .bf16) (x : Vec F S512x1024 .f32) :
    k1_pay21 a b d e1 e2 e3 x = k1_pay20 a b d e1 e2 e3 x := by
  unfold k1_pay21
  exact shapeCast_self _ _

/-- Two points of one codebook. -/
theorem book_prev (t : Fin cfg1.N) (h : ¬ t.val % 4 = 0) : book V c (pnt (t.val - 1)) = book V c t := by
  have hN : t.val < 32 := lt_of_lt_of_eq t.isLt N_1
  have hi : (cfg1.win 1).index (pnt (t.val - 1)) = (cfg1.win 1).index t := by
    show win1_1.index _ = win1_1.index _
    rw [index1_1, index1_1]
    have : (pnt (t.val - 1)).val / 4 = t.val / 4 := by show (t.val - 1) % 32 / 4 = t.val / 4; omega
    rw [this]
  exact Dat.fetched_congr ({ A := fun w => V c (Proc.devRef .tc (arrRef cfg1.spec w)), after := fun _ _ _ => Classical.arbitrary _, Φ := fun _ => BI.emp, q := fun _ => fullShare, owed := fun _ => 0 } : Dat τ (Elt F) Unit ℕ UU ℕ cfg1 c) 1 hi rfl _

/-- The sum read at the point's rows is the sum so far. -/
theorem q_in (t : Fin cfg1.N) (q : Vec F S2048x1024 .f32) (hq : QInv V c t.val q) :
    (View.ld (qIn (grid1.coords t) q) (rows (grid1.coords t)) : Vec F S512x1024 .f32) = qAt V c t := by
  by_cases h : atFirst (grid1.coords t)
  · rw [qIn_pos h]
    refine (ld_overlay _ _ _).trans ?_
    have h4 := (atFirst_iff t).mp h
    unfold qAt
    rw [show t.val / 4 = 0 from by omega]
    rfl
  · rw [qIn_neg h, ld_rows]
    have h4 := mt (atFirst_iff t).mpr h
    have hs : seen t.val (chunkOf t).val = t.val / 4 := by show (t.val + 3 - t.val % 4) / 4 = _; omega
    have := hq (chunkOf t) (by rw [hs]; omega)
    rw [this, hs]
    rfl

/-- The running sum's buffer after the point. -/
theorem q_out (t : Fin cfg1.N) (q : Vec F S2048x1024 .f32) (hq : QInv V c t.val q) :
    QInv V c (t.val + 1) ((rows (grid1.coords t)).overlay (qIn (grid1.coords t) q) (stepQ V c t (qAt V c t))) := by
  intro k hk
  by_cases hkt : k = chunkOf t
  · subst hkt
    rw [← ld_rows]
    refine (ld_overlay _ _ _).trans ?_
    have hs : seen (t.val + 1) (chunkOf t).val = t.val / 4 + 1 := by show (t.val + 1 + 3 - t.val % 4) / 4 = _; omega
    rw [hs]
    show _ = stepQ V c (pnt (4 * (t.val / 4) + t.val % 4)) (sumQ V c (t.val % 4) (t.val / 4))
    rw [show 4 * (t.val / 4) + t.val % 4 = t.val from by omega, pnt_val]
    rfl
  · rw [ld_overlay_other t k hkt]
    have hne : k.val ≠ t.val % 4 := fun e => hkt (Fin.ext e)
    have hk4 := k.isLt
    have hs : seen (t.val + 1) k.val = seen t.val k.val := by unfold seen; omega
    rw [hs] at hk ⊢
    by_cases h : atFirst (grid1.coords t)
    · rw [qIn_pos h, ld_overlay_other t k hkt]; exact hq k hk
    · rw [qIn_neg h]; exact hq k hk

/-- The kept splits at the point are its own codebook's. -/
theorem e_in (t : Fin cfg1.N) {α : Type} (f : Vec F S1x1024x1024 .f32 → α) (e : α) (he : 0 < t.val → e = f (book V c (pnt (t.val - 1)))) :
    fresh (grid1.coords t) (f (book V c t)) e = f (book V c t) := by
  by_cases h : atBook (grid1.coords t)
  · exact fresh_pos h _ _
  · rw [fresh_neg h]
    have h4 := mt (atBook_iff t).mpr h
    rw [he (by omega), book_prev V c t h4]

end

end Cert.KernelIdeal.Mine

end
-- ==== Proof.VqData.lean ====
/-
  The quantiser's pallas_call: what every staging buffer and the scratch hold at every grid point, and the run of the body
  there.
-/
module

public import proofs.«01_k».proof.Proof.VqPoint

@[expose] public section

set_option maxRecDepth 16384

noncomputable section

namespace Cert.KernelIdeal.Mine

open Cert.KernelIdeal Cert.KernelIdeal.Gen Cert.Mine

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat arrRef arrRefs ucRefs)

variable {F : FTy → Type} [FloatOps F]

local notation "𝕄" => MT nD τ sig Unit (Elt F) ℕ UU ℕ

section
variable (V : Dev nD → Valuation τ sig (Elt F)) (c : Dev nD)

/-- What the body leaves in each buffer: an operand as found; the chosen numbers; from point 28 on the decoder's rows; the
    two losses gathered so far. -/
def after1 : (w : Fin cfg1.W) → Fin cfg1.N → (Y X : (cfg1.win w).block.Idx → Elt F (cfg1.win w).elt) → Prop
  | ⟨9, _⟩, t, _, X => X = idxV V c t
  | ⟨10, _⟩, t, _, X => 28 ≤ t.val → X = recV V c t
  | ⟨11, _⟩, t, _, X => X = lossB V c (t.val + 1)
  | ⟨12, _⟩, t, _, X => X = rlossB V c (t.val + 1)
  | _, _, Y, X => X = Y

/-- The encoder's staging buffers, which this call leaves alone. -/
abbrev spare : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f))

/-- The scratch before point `n`. -/
def scratch (n : ℕ) : sProp 𝕄 :=
  iprop(∃ q e1 e2 e3 en, ⌜QInv V c n q ∧ EInv V c n e1 e2 e3 en⌝
    ∗ pt c (Memref.whole cc1_scratch0) (Memref.isWhole_whole _) q ∗ pt c (Memref.whole cc1_scratch1) (Memref.isWhole_whole _) e1
    ∗ pt c (Memref.whole cc1_scratch2) (Memref.isWhole_whole _) e2 ∗ pt c (Memref.whole cc1_scratch3) (Memref.isWhole_whole _) e3
    ∗ pt c (Memref.whole cc1_scratch4) (Memref.isWhole_whole _) en)

/-- The data of the quantiser's pallas_call. -/
def rd1 : RDat τ (Elt F) Unit ℕ UU ℕ cfg1 c where
  A w := V c (Proc.devRef .tc (arrRef cfg1.spec w))
  after := after1 V c
  Φ n := iprop(scratch V c n.val ∗ spare c)
  q _ := fullShare
  owed _ := 0

/-- An operand's buffer holds its array's block. -/
theorem finds1 : ∀ w : Fin cfg1.W, w.val < 9 → ∀ t Y, (rd1 V c).Finds w t Y → Y = B1 V c w t
  | ⟨0, h⟩, _ => fun t Y hY => by obtain ⟨d, rfl⟩ := (rd1 V c).finds_in_eq_fetched ⟨0, h⟩ rfl (fun _ _ _ => rfl) (fun _ _ _ h => h) t Y hY; rfl
  | ⟨1, h⟩, _ => fun t Y hY => by obtain ⟨d, rfl⟩ := (rd1 V c).finds_in_eq_fetched ⟨1, h⟩ rfl (fun _ _ _ => rfl) (fun _ _ _ h => h) t Y hY; rfl
  | ⟨2, h⟩, _ => fun t Y hY => by obtain ⟨d, rfl⟩ := (rd1 V c).finds_in_eq_fetched ⟨2, h⟩ rfl (fun _ _ _ => rfl) (fun _ _ _ h => h) t Y hY; rfl
  | ⟨3, h⟩, _ => fun t Y hY => by obtain ⟨d, rfl⟩ := (rd1 V c).finds_in_eq_fetched ⟨3, h⟩ rfl (fun _ _ _ => rfl) (fun _ _ _ h => h) t Y hY; rfl
  | ⟨4, h⟩, _ => fun t Y hY => by obtain ⟨d, rfl⟩ := (rd1 V c).finds_in_eq_fetched ⟨4, h⟩ rfl (fun _ _ _ => rfl) (fun _ _ _ h => h) t Y hY; rfl
  | ⟨5, h⟩, _ => fun t Y hY => by obtain ⟨d, rfl⟩ := (rd1 V c).finds_in_eq_fetched ⟨5, h⟩ rfl (fun _ _ _ => rfl) (fun _ _ _ h => h) t Y hY; rfl
  | ⟨6, h⟩, _ => fun t Y hY => by obtain ⟨d, rfl⟩ := (rd1 V c).finds_in_eq_fetched ⟨6, h⟩ rfl (fun _ _ _ => rfl) (fun _ _ _ h => h) t Y hY; rfl
  | ⟨7, h⟩, _ => fun t Y hY => by obtain ⟨d, rfl⟩ := (rd1 V c).finds_in_eq_fetched ⟨7, h⟩ rfl (fun _ _ _ => rfl) (fun _ _ _ h => h) t Y hY; rfl
  | ⟨8, h⟩, _ => fun t Y hY => by obtain ⟨d, rfl⟩ := (rd1 V c).finds_in_eq_fetched ⟨8, h⟩ rfl (fun _ _ _ => rfl) (fun _ _ _ h => h) t Y hY; rfl
  | ⟨_ + 9, _⟩, h => absurd h (by simp)

/-- The running loss the body finds. -/
theorem found11 (t : Fin cfg1.N) (Y) (hY : (rd1 V c).Finds 11 t Y) : accIn (grid1.coords t) k1_pay5 Y = lossB V c t.val := by
  by_cases h : atStart (grid1.coords t)
  · rw [accIn_pos h, (atStart_iff t).mp h]; rfl
  · rw [accIn_neg h]
    have h0 := mt (atStart_iff t).mpr h
    have hN : t.val < 32 := lt_of_lt_of_eq t.isLt N_1
    rcases ((rd1 V c).finds_of_pos (w := 11) (t := t) rfl h0 Y).mp hY with hf | ⟨_, -, hX⟩
    · have := (flush1_11 _).mp hf
      have h' : (t.val - 1) % 32 = 31 := this
      omega
    · have hX : Y = lossB V c (t.val - 1 + 1) := hX
      rw [hX, show t.val - 1 + 1 = t.val from by omega]

/-- The decoder's running loss the body finds. -/
theorem found12 (t : Fin cfg1.N) (Y) (hY : (rd1 V c).Finds 12 t Y) : accIn (grid1.coords t) k1_pay6 Y = rlossB V c t.val := by
  by_cases h : atStart (grid1.coords t)
  · rw [accIn_pos h, (atStart_iff t).mp h]; rfl
  · rw [accIn_neg h]
    have h0 := mt (atStart_iff t).mpr h
    have hN : t.val < 32 := lt_of_lt_of_eq t.isLt N_1
    rcases ((rd1 V c).finds_of_pos (w := 12) (t := t) rfl h0 Y).mp hY with hf | ⟨_, -, hX⟩
    · have := (flush1_12 _).mp hf
      have h' : (t.val - 1) % 32 = 31 := this
      omega
    · have hX : Y = rlossB V c (t.val - 1 + 1) := hX
      rw [hX, show t.val - 1 + 1 = t.val from by omega]

/-- The scratch after the body, from what it was before. -/
theorem body1_pure (t : Fin cfg1.N) (q : Vec F S2048x1024 .f32) (e1 e2 e3 : Vec F S1024x1024 .bf16) (en : Vec F S1x1024 .f32)
    (hq : QInv V c t.val q) (he : EInv V c t.val e1 e2 e3 en) :
    fresh (grid1.coords t) (k1_pay11 (book V c t)) e1 = k1_pay11 (book V c t) ∧ fresh (grid1.coords t) (k1_pay12 (book V c t)) e2 = k1_pay12 (book V c t)
      ∧ fresh (grid1.coords t) (k1_pay13 (book V c t)) e3 = k1_pay13 (book V c t) ∧ fresh (grid1.coords t) (k1_pay14 (book V c t)) en = k1_pay14 (book V c t)
      ∧ res (grid1.coords t) (B1 V c 0 t) q = resOf V c t (qAt V c t)
      ∧ hit (grid1.coords t) (B1 V c 0 t) (book V c t) q en = hitOf V c t (qAt V c t)
      ∧ qRow (grid1.coords t) (B1 V c 0 t) (book V c t) q e1 e2 e3 en = stepQ V c t (qAt V c t) := by
  have f1 := e_in V c t k1_pay11 e1 fun h => (he h).1
  have f2 := e_in V c t k1_pay12 e2 fun h => (he h).2.1
  have f3 := e_in V c t k1_pay13 e3 fun h => (he h).2.2.1
  have f4 := e_in V c t k1_pay14 en fun h => (he h).2.2.2
  have fq := q_in V c t q hq
  have g1 : res (grid1.coords t) (B1 V c 0 t) q = resOf V c t (qAt V c t) := by
    show k1_pay16 _ _ = k1_pay16 _ _
    rw [fq]; rfl
  have g2 : hit (grid1.coords t) (B1 V c 0 t) (book V c t) q en = hitOf V c t (qAt V c t) := by
    show k1_pay17 _ _ _ _ = k1_pay17 _ _ _ _
    rw [fq, f4]; rfl
  refine ⟨f1, f2, f3, f4, g1, g2, ?_⟩
  show k1_pay20 _ _ _ _ _ _ _ = k1_pay20 _ _ _ _ _ _ _
  rw [g1, g2, f1, f2, f3, fq]

/-- The body run at a grid point. -/
theorem body1 : (rd1 V c).BodyObligation (defs₀ (F := F)) Variants.none () Set.univ := by
  intro t Y hY
  have f := fun w hw => finds1 V c w hw t (Y w) (hY w)
  have hw := fun w => launch1.stage_whole w (cfg1.slots t w)
  show iprop(_ ∗ _ ∗ _) ⊢ wp frame (wpE (defs₀ (F := F)) Variants.none c none) Set.univ (bodyAt1 t) _
  rw [bigSep_W1, bigSep_W1, show ((rd1 V c).owesAt () t.castSucc : sProp 𝕄) = (rd1 V c).owesAt () t.succ from rfl,
    show (rd1 V c).Φ t.castSucc = iprop(scratch V c t.val ∗ spare c) from rfl, show (rd1 V c).Φ t.succ = iprop(scratch V c (t.val + 1) ∗ spare c) from rfl]
  unfold scratch
  iintro ⟨⟨⟨%q, %e1, %e2, %e3, %en, %hI, Hq, He1, He2, He3, Hen⟩, Hs⟩, HO, H0, H1, H2, H3, H4, H5, H6, H7, H8, H9, H10, H11, H12⟩
  obtain ⟨hq, he⟩ := hI
  obtain ⟨f1, f2, f3, f4, g1, g2, g3⟩ := body1_pure V c t q e1 e2 e3 en hq he
  ihave H0 := owns_pt c _ (hw 0) _ $$ H0
  ihave H1 := owns_pt c _ (hw 1) _ $$ H1
  ihave H2 := owns_pt c _ (hw 2) _ $$ H2
  ihave H3 := owns_pt c _ (hw 3) _ $$ H3
  ihave H4 := owns_pt c _ (hw 4) _ $$ H4
  ihave H5 := owns_pt c _ (hw 5) _ $$ H5
  ihave H6 := owns_pt c _ (hw 6) _ $$ H6
  ihave H7 := owns_pt c _ (hw 7) _ $$ H7
  ihave H8 := owns_pt c _ (hw 8) _ $$ H8
  ihave H9 := owns_pt c _ (hw 9) _ $$ H9
  ihave H10 := owns_pt c _ (hw 10) _ $$ H10
  ihave H11 := owns_pt c _ (hw 11) _ $$ H11
  ihave H12 := owns_pt c _ (hw 12) _ $$ H12
  iapply (vq_run c (grid1.coords t) (st1_0 t) (hw 0) (st1_1 t) (hw 1) (st1_2 t) (hw 2) (st1_3 t) (hw 3) (st1_4 t) (hw 4) (st1_5 t) (hw 5) (st1_6 t) (hw 6) (st1_7 t) (hw 7) (st1_8 t) (hw 8) (st1_9 t) (hw 9) (st1_10 t) (hw 10) (st1_11 t) (hw 11) (st1_12 t) (hw 12)
    (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _)
    (Y 0) (Y 1) (Y 2) (Y 3) (Y 4) (Y 5) (Y 6) (Y 7) (Y 8) (Y 9) (Y 10) (Y 11) (Y 12) q e1 e2 e3 en)
  iframe H0 H1 H2 H3 H4 H5 H6 H7 H8 H9 H10 H11 H12 Hq He1 He2 He3 Hen
  iintro ⟨H0, H1, H2, H3, H4, H5, H6, H7, H8, H9, H10, H11, H12, Hq, He1, He2, He3, Hen⟩
  ihave H0 := pt_owns c _ (hw 0) _ $$ H0
  ihave H1 := pt_owns c _ (hw 1) _ $$ H1
  ihave H2 := pt_owns c _ (hw 2) _ $$ H2
  ihave H3 := pt_owns c _ (hw 3) _ $$ H3
  ihave H4 := pt_owns c _ (hw 4) _ $$ H4
  ihave H5 := pt_owns c _ (hw 5) _ $$ H5
  ihave H6 := pt_owns c _ (hw 6) _ $$ H6
  ihave H7 := pt_owns c _ (hw 7) _ $$ H7
  ihave H8 := pt_owns c _ (hw 8) _ $$ H8
  ihave H9 := pt_owns c _ (hw 9) _ $$ H9
  ihave H10 := pt_owns c _ (hw 10) _ $$ H10
  ihave H11 := pt_owns c _ (hw 11) _ $$ H11
  ihave H12 := pt_owns c _ (hw 12) _ $$ H12
  isplitl [Hq He1 He2 He3 Hen Hs]
  · isplitl [Hq He1 He2 He3 Hen]
    · iexists _, _, _, _, _
      isplitr
      swap
      · isplitl [Hq]; · iexact Hq
        isplitl [He1]; · iexact He1
        isplitl [He2]; · iexact He2
        isplitl [He3]; · iexact He3
        iexact Hen
      ipureintro
      rw [f 0 (by decide), f 1 (by decide)]
      show QInv V c (t.val + 1) ((rows (grid1.coords t)).overlay (qIn (grid1.coords t) q) (k1_pay21 (res (grid1.coords t) (B1 V c 0 t) q) cols
        (hit (grid1.coords t) (B1 V c 0 t) (book V c t) q en) (fresh (grid1.coords t) (k1_pay11 (book V c t)) e1) (fresh (grid1.coords t) (k1_pay12 (book V c t)) e2)
        (fresh (grid1.coords t) (k1_pay13 (book V c t)) e3) (View.ld (qIn (grid1.coords t) q) (rows (grid1.coords t)))))
        ∧ EInv V c (t.val + 1) (fresh (grid1.coords t) (k1_pay11 (book V c t)) e1) (fresh (grid1.coords t) (k1_pay12 (book V c t)) e2)
          (fresh (grid1.coords t) (k1_pay13 (book V c t)) e3) (fresh (grid1.coords t) (k1_pay14 (book V c t)) en)
      rw [pay21_eq]
      show QInv V c (t.val + 1) ((rows (grid1.coords t)).overlay (qIn (grid1.coords t) q) (qRow (grid1.coords t) (B1 V c 0 t) (book V c t) q e1 e2 e3 en)) ∧ _
      rw [g3, f1, f2, f3, f4]
      refine ⟨q_out V c t q hq, fun _ => ?_⟩
      rw [show t.val + 1 - 1 = t.val from rfl, pnt_val]
      exact ⟨rfl, rfl, rfl, rfl⟩
    · iexact Hs
  isplitl [HO]; · iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  isplitl [H7]; · iexists _; isplitr; swap; (· iexact H7); ipureintro; rfl
  isplitl [H8]; · iexists _; isplitr; swap; (· iexact H8); ipureintro; rfl
  isplitl [H9]
  · iexists _; isplitr; swap; (· iexact H9); ipureintro
    show k1_pay23 _ _ = k1_pay23 _ _
    rw [f 0 (by decide), f 1 (by decide)]
    exact congrArg _ g2
  isplitl [H10]
  · iexists _; isplitr; swap; (· iexact H10); ipureintro
    intro h28
    refine (recOut_pos ((atLast_iff t).mpr h28) _ _).trans ?_
    rw [f 0 (by decide), f 1 (by decide), f 3 (by decide), f 4 (by decide), f 5 (by decide), f 6 (by decide), f 7 (by decide), f 8 (by decide)]
    exact congrArg (fun x => k1_pay2 x _ _ _ _ _ _) g3
  isplitl [H11]
  · iexists _; isplitr; swap; (· iexact H11); ipureintro
    show k1_pay22 _ _ _ _ _ _ _ = k1_pay22 _ _ _ _ _ _ _
    rw [found11 V c t _ (hY 11), f 0 (by decide), f 1 (by decide), pnt_val]
    show k1_pay22 (res (grid1.coords t) (B1 V c 0 t) q) cols (hit (grid1.coords t) (B1 V c 0 t) (book V c t) q en) (fresh (grid1.coords t) (k1_pay11 (book V c t)) e1) (fresh (grid1.coords t) (k1_pay12 (book V c t)) e2)
        (fresh (grid1.coords t) (k1_pay13 (book V c t)) e3) _ = _
    rw [g1, g2, f1, f2, f3]
  · iexists _; isplitr; swap; (· iexact H12); ipureintro
    show _ = rlossB V c (t.val + 1)
    rw [found12 V c t _ (hY 12), rlossB]
    by_cases hl : 28 ≤ t.val
    · rw [if_pos hl]
      refine (rlOut_pos ((atLast_iff t).mpr hl) _ _).trans ?_
      rw [pnt_val, f 0 (by decide), f 1 (by decide), f 2 (by decide), f 3 (by decide), f 4 (by decide), f 5 (by decide), f 6 (by decide), f 7 (by decide), f 8 (by decide)]
      exact congrArg (fun x => k1_pay1 _ (k1_pay4 x _ _ _ _ _ _ _)) g3
    · rw [if_neg hl]
      exact rlOut_neg (mt (atLast_iff t).mp hl) _ _

end

end Cert.KernelIdeal.Mine

end
-- ==== Proof.VqArr.lean ====
/-
  The arrays the quantiser's pallas_call leaves.
-/
module

public import proofs.«01_k».proof.Proof.VqData

@[expose] public section

set_option maxRecDepth 16384

noncomputable section

namespace Cert.KernelIdeal.Mine

open Cert.KernelIdeal Cert.KernelIdeal.Gen Cert.Mine

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat arrRef arrRefs ucRefs)

variable {F : FTy → Type} [FloatOps F]

section
variable (V : Dev nD → Valuation τ sig (Elt F)) (c : Dev nD)

/-- The chosen numbers: of codebook `g` and row `j`, what point `4 g + j / 512` computes. -/
def idxA : S8x1x2048.Idx → Elt F .i32 := fun i =>
  idxV V c (pnt (4 * (i 0).val + (i 2).val / 512)) (ix3 0 0 ⟨(i 2).val % 512, by omega⟩)

/-- The decoder's result: row `j` is row `j % 512` of what point `28 + j / 512` computes. -/
def recA : S2048x512.Idx → Elt F .f32 := fun i =>
  recV V c (pnt (28 + (i 0).val / 512)) (ix2 ⟨(i 0).val % 512, by omega⟩ ⟨(i 1).val, (i 1).isLt⟩)

/-- The numbers at one entry: the step's value there. -/
theorem idxA_at (t : Fin cfg1.N) (y : S1x1x512.Idx) (i : S8x1x2048.Idx) (h0 : (i 0).val = t.val / 4)
    (h2 : (i 2).val = t.val % 4 * 512 + (y 2).val) : idxA V c i = idxV V c t y := by
  have hy : (y 2).val < 512 := (y 2).isLt
  have hy0 : (y 0).val < 1 := (y 0).isLt
  have hy1 : (y 1).val < 1 := (y 1).isLt
  unfold idxA
  rw [show 4 * (i 0).val + (i 2).val / 512 = t.val from by omega, pnt_val]
  congr 1
  funext a
  apply Fin.ext
  match a with
  | ⟨0, _⟩ => show 0 = (y 0).val; omega
  | ⟨1, _⟩ => show 0 = (y 1).val; omega
  | ⟨2, _⟩ => show (i 2).val % 512 = (y 2).val; omega

/-- The reconstruction at one entry: the step's value there. -/
theorem recA_at (t : Fin cfg1.N) (ht : 28 ≤ t.val) (y : S512x512.Idx) (i : S2048x512.Idx) (h0 : (i 0).val = t.val % 4 * 512 + (y 0).val)
    (h1 : (i 1).val = (y 1).val) : recA V c i = recV V c t y := by
  have hy : (y 0).val < 512 := (y 0).isLt
  have hN : t.val < 32 := lt_of_lt_of_eq t.isLt N_1
  unfold recA
  rw [show 28 + (i 0).val / 512 = t.val from by omega, pnt_val]
  congr 1
  funext a
  apply Fin.ext
  match a with
  | ⟨0, _⟩ => show (i 0).val % 512 = (y 0).val; omega
  | ⟨1, _⟩ => exact h1

/-- The numbers' block at a point. -/
theorem index1_9 : ∀ t : Fin cfg1.N, win1_9.index t = ![t.val / 4, 0, t.val % 4] := by decide +kernel
/-- The reconstruction's block at a point. -/
theorem index1_10 : ∀ t : Fin cfg1.N, win1_10.index t = ![t.val % 4, 0] := by decide +kernel
/-- The levels' loss has one block. -/
theorem index1_11 : ∀ t : Fin cfg1.N, win1_11.index t = ![0, 0] := by decide +kernel
/-- The reconstruction's loss has one block. -/
theorem index1_12 : ∀ t : Fin cfg1.N, win1_12.index t = ![0, 0] := by decide +kernel

/-- The array of chosen numbers. -/
theorem arrAt1_9 (G) (hG : (rd1 V c).ArrAt 9 cfg1.N G) : G = idxA V c := by
  funext i
  have hcov : (cfg1.win 9).Covers := by decide +kernel
  obtain ⟨t, hf, hi⟩ := hcov.cover _ (Memref.isWhole_whole _) i
  refine arrAt_from (rd1 V c) 9 0 (idxA V c) (fun t _ _ X hX => ?_) cfg1.N G hG t i (Nat.zero_le _) t.isLt hf hi
  obtain ⟨Y, -, hX⟩ := hX
  have hX : X = idxV V c t := hX
  subst hX
  funext y
  rw [View.read_apply]
  have h0 : ((((cfg1.win 9).blk t).view.emb y : S8x1x2048.Idx) 0).val = t.val / 4 := by
    have hy0 : (y 0).val < 1 := (y 0).isLt
    show win1_9.index t 0 * 1 + 1 * (y 0).val = t.val / 4
    rw [index1_9]; show t.val / 4 * 1 + _ = _; omega
  have h2 : ((((cfg1.win 9).blk t).view.emb y : S8x1x2048.Idx) 2).val = t.val % 4 * 512 + (y 2).val := by
    show win1_9.index t 2 * 512 + 1 * (y 2).val = t.val % 4 * 512 + (y 2).val
    rw [index1_9]; show t.val % 4 * 512 + _ = _; omega
  have key := idxA_at V c t y (((cfg1.win 9).blk t).view.emb y) h0 h2
  have hcut : ∀ X : S1x1x512.Idx → Elt F .i32, (cfg1.win 9).cut (cfg1.grid.coords t) X y = X y := fun X => rfl
  rw [hcut, cast_eq]
  exact key.symm

/-- The array of the decoder's rows: the points from 28 on write them all. -/
theorem arrAt1_10 (G) (hG : (rd1 V c).ArrAt 10 cfg1.N G) : G = recA V c := by
  funext i
  have hr : (i 0).val < 2048 := (i 0).isLt
  have hc : (i 1).val < 512 := (i 1).isLt
  have hN : cfg1.N = 32 := N_1
  let t : Fin cfg1.N := ⟨28 + (i 0).val / 512, by rw [hN]; omega⟩
  have hi : i ∈ ((cfg1.win 10).blk t).view.set := by
    show i ∈ ((View.whole main_v8_1).slice (win1_10.rect t)).set
    rw [View.set_slice_whole, Rect.mem_set_unit]
    intro a
    match a with
    | ⟨0, _⟩ =>
      show win1_10.index t 0 * 512 ≤ (i 0).val ∧ (i 0).val < win1_10.index t 0 * 512 + 512
      rw [index1_10]
      show (28 + (i 0).val / 512) % 4 * 512 ≤ (i 0).val ∧ (i 0).val < (28 + (i 0).val / 512) % 4 * 512 + 512
      omega
    | ⟨1, _⟩ =>
      show win1_10.index t 1 * 512 ≤ (i 1).val ∧ (i 1).val < win1_10.index t 1 * 512 + 512
      rw [index1_10]
      show 0 * 512 ≤ (i 1).val ∧ (i 1).val < 0 * 512 + 512
      omega
  refine arrAt_from (rd1 V c) 10 28 (recA V c) (fun t ht _ X hX => ?_) cfg1.N G hG t i (by show 28 ≤ 28 + _; omega) t.isLt (flush1_10 t) hi
  obtain ⟨Y, -, hX⟩ := hX
  have hX : X = recV V c t := hX ht
  subst hX
  funext y
  rw [View.read_apply]
  refine (recA_at V c t ht y _ ?_ ?_).symm
  · show win1_10.index t 0 * 512 + 1 * (y 0).val = t.val % 4 * 512 + (y 0).val
    rw [index1_10]; show t.val % 4 * 512 + _ = _; omega
  · show win1_10.index t 1 * 512 + 1 * (y 1).val = (y 1).val
    rw [index1_10]; show 0 * 512 + _ = _; omega

/-- The quantiser's loss. -/
theorem arrAt1_11 (G) (hG : (rd1 V c).ArrAt 11 cfg1.N G) : G = lossB V c 32 := by
  funext i
  have hcov : (cfg1.win 11).Covers := by decide +kernel
  obtain ⟨t, hf, hi⟩ := hcov.cover _ (Memref.isWhole_whole _) i
  refine arrAt_from (rd1 V c) 11 0 (lossB V c 32) (fun t _ hf X hX => ?_) cfg1.N G hG t i (Nat.zero_le _) t.isLt hf hi
  obtain ⟨Y, -, hX⟩ := hX
  have hN : t.val < 32 := lt_of_lt_of_eq t.isLt N_1
  have h31 : t.val % 32 = 31 := (flush1_11 t).mp hf
  have hX : X = lossB V c (t.val + 1) := hX
  rw [show t.val + 1 = 32 from by omega] at hX
  subst hX
  funext y
  rw [View.read_apply]
  refine congrArg (lossB V c 32) (funext fun a => Fin.ext ?_)
  have hy0 : (y 0).val < 1 := (y 0).isLt
  have hy1 : (y 1).val < 1 := (y 1).isLt
  match a with
  | ⟨0, _⟩ => show (y 0).val = win1_11.index t 0 * 1 + 1 * (y 0).val; rw [index1_11]; show _ = 0 * 1 + _; omega
  | ⟨1, _⟩ => show (y 1).val = win1_11.index t 1 * 1 + 1 * (y 1).val; rw [index1_11]; show _ = 0 * 1 + _; omega

/-- The decoder's loss. -/
theorem arrAt1_12 (G) (hG : (rd1 V c).ArrAt 12 cfg1.N G) : G = rlossB V c 32 := by
  funext i
  have hcov : (cfg1.win 12).Covers := by decide +kernel
  obtain ⟨t, hf, hi⟩ := hcov.cover _ (Memref.isWhole_whole _) i
  refine arrAt_from (rd1 V c) 12 0 (rlossB V c 32) (fun t _ hf X hX => ?_) cfg1.N G hG t i (Nat.zero_le _) t.isLt hf hi
  obtain ⟨Y, -, hX⟩ := hX
  have hN : t.val < 32 := lt_of_lt_of_eq t.isLt N_1
  have h31 : t.val % 32 = 31 := (flush1_12 t).mp hf
  have hX : X = rlossB V c (t.val + 1) := hX
  rw [show t.val + 1 = 32 from by omega] at hX
  subst hX
  funext y
  rw [View.read_apply]
  refine congrArg (rlossB V c 32) (funext fun a => Fin.ext ?_)
  have hy0 : (y 0).val < 1 := (y 0).isLt
  have hy1 : (y 1).val < 1 := (y 1).isLt
  match a with
  | ⟨0, _⟩ => show (y 0).val = win1_12.index t 0 * 1 + 1 * (y 0).val; rw [index1_12]; show _ = 0 * 1 + _; omega
  | ⟨1, _⟩ => show (y 1).val = win1_12.index t 1 * 1 + 1 * (y 1).val; rw [index1_12]; show _ = 0 * 1 + _; omega

end

end Cert.KernelIdeal.Mine

end
-- ==== Proof.Items.lean ====
/-
  @main's items in order: the valuation of the buffers between them, and the two pallas_calls as items.
-/
module

public import proofs.«01_k».proof.Proof.VqArr

@[expose] public section

set_option maxRecDepth 16384

noncomputable section

namespace Cert.KernelIdeal.Mine

open Cert.KernelIdeal Cert.KernelIdeal.Gen Cert.Mine

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat arrRef arrRefs ucRefs)

variable {F : FTy → Type} [FloatOps F]

local notation "𝕄" => MT nD τ sig Unit (Elt F) ℕ UU ℕ

section
variable (m : (ℓ : Loc nD τ sig) → Buf (Elt F) ℓ)

/-- The buffers after the encoder's pallas_call, -/
def U2 (c : Dev nD) : Valuation τ sig (Elt F) := Function.update (V1 m c) main_v4 (encA (V1 m) c)
/-- at the quantiser's entry, -/
def U3 (c : Dev nD) : Valuation τ sig (Elt F) := StableHlo.after hostOps1 (U2 m c)
/-- and after it. -/
def U4 (c : Dev nD) : Valuation τ sig (Elt F) :=
  Function.update (Function.update (Function.update (Function.update (U3 m c) main_v8_0 (idxA (U3 m) c)) main_v8_1 (recA (U3 m) c))
    main_v8_2 (lossB (U3 m) c 32)) main_v8_3 (rlossB (U3 m) c 32)
/-- The buffers at the end. -/
def U5 (c : Dev nD) : Valuation τ sig (Elt F) := StableHlo.after hostOps2 (U4 m c)

/-- What the pallas_calls leave. -/
def outs : Outs (F := F)
  | 2, r, c => U2 m c r
  | _, r, c => U4 m c r

/-- After the encoder its output holds the latent. -/
theorem U2_4 (c : Dev nD) : U2 m c main_v4 = encA (V1 m) c := by
  unfold U2
  rw [Function.update_self]

/-- The launch's second valuation is this one. -/
theorem V2_eq (c : Dev nD) : V2 m (outs m) c = U2 m c :=
  congrArg (Function.update (V1 m c) (Proc.devRef .tc main_v4)) (U2_4 m c)

/-- The launch's third valuation is this one. -/
theorem V3_eq (c : Dev nD) : V3 m (outs m) c = U3 m c := congrArg (StableHlo.after hostOps1) (V2_eq m c)

/-- After the quantiser: the reconstruction's loss, -/
theorem U4_3 (c : Dev nD) : U4 m c main_v8_3 = rlossB (U3 m) c 32 := Function.update_self _ _ _
/-- the levels' loss, -/
theorem U4_2 (c : Dev nD) : U4 m c main_v8_2 = lossB (U3 m) c 32 := by
  unfold U4
  rw [Function.update_of_ne (StableHlo.devRef_ne_of_ne (by decide)), Function.update_self]
/-- the reconstruction, -/
theorem U4_1 (c : Dev nD) : U4 m c main_v8_1 = recA (U3 m) c := by
  unfold U4
  rw [Function.update_of_ne (StableHlo.devRef_ne_of_ne (by decide)), Function.update_of_ne (StableHlo.devRef_ne_of_ne (by decide)), Function.update_self]
/-- and the numbers. -/
theorem U4_0 (c : Dev nD) : U4 m c main_v8_0 = idxA (U3 m) c := by
  unfold U4
  rw [Function.update_of_ne (StableHlo.devRef_ne_of_ne (by decide)), Function.update_of_ne (StableHlo.devRef_ne_of_ne (by decide)),
    Function.update_of_ne (StableHlo.devRef_ne_of_ne (by decide)), Function.update_self]

/-- The launch's fourth valuation is this one. -/
theorem V4_eq (c : Dev nD) : V4 m (outs m) c = U4 m c := by
  show Function.update (Function.update (Function.update (Function.update (V3 m (outs m) c) _ (U4 m c main_v8_0)) _ (U4 m c main_v8_1)) _ (U4 m c main_v8_2)) _ (U4 m c main_v8_3) = _
  rw [V3_eq, U4_0, U4_1, U4_2, U4_3]; rfl

/-- The launch's last valuation is this one. -/
theorem V5_eq (c : Dev nD) : V5 m (outs m) c = U5 m c := congrArg (StableHlo.after hostOps2) (V4_eq m c)

/-- The data of the two pallas_calls. -/
def rds : (p : Fin 2) → (c : Dev nD) → RDat τ (Elt F) Unit ℕ UU ℕ (cfgs p) c
  | ⟨0, _⟩, c => rd0 (V1 m) c
  | ⟨1, _⟩, c => rd1 (U3 m) c

/-- Every array is held in full. -/
theorem share_eq (p : Fin 2) (c : Dev nD) (w) : (rds m p c).share w = fullShare := by
  unfold RDat.share
  split
  · rfl
  · match p with
    | ⟨0, _⟩ => rfl
    | ⟨1, _⟩ => rfl

/-- The encoder changes its output only. -/
theorem U2_of (c : Dev nD) (d : DevRef τ sig) (h : d ≠ Proc.devRef .tc main_v4) : U2 m c d = V1 m c d := Function.update_of_ne h _ _

/-- The quantiser changes its four outputs only. -/
theorem U4_of (c : Dev nD) (d : DevRef τ sig) (h0 : d ≠ Proc.devRef .tc main_v8_0) (h1 : d ≠ Proc.devRef .tc main_v8_1)
    (h2 : d ≠ Proc.devRef .tc main_v8_2) (h3 : d ≠ Proc.devRef .tc main_v8_3) : U4 m c d = U3 m c d := by
  unfold U4
  rw [Function.update_of_ne h3, Function.update_of_ne h2, Function.update_of_ne h1, Function.update_of_ne h0]

/-- The encoder's inputs are other arrays than its output. -/
theorem in0 : ∀ w : Fin cfg0.W, w ≠ 7 → (cfg0.win w).isOut = false ∧ arrRef cfg0.spec w ≠ main_v4 := by decide
/-- So of the quantiser. -/
theorem in1 : ∀ w : Fin cfg1.W, w.val < 9 → (cfg1.win w).isOut = false ∧ arrRef cfg1.spec w ∉ [main_v8_0, main_v8_1, main_v8_2, main_v8_3] := by decide
/-- The quantiser's windows past the ninth are the outputs. -/
theorem last1 : ∀ w : Fin cfg1.W, ¬ w.val < 9 → w = 9 ∨ w = 10 ∨ w = 11 ∨ w = 12 := by decide

/-- What the encoder's arrays can hold at its end. -/
theorem leaves0 (c : Dev nD) (w : Fin cfg0.W) (G) (h : (rd0 (V1 m) c).ArrAt w cfg0.N G) : G = U2 m c (Proc.devRef .tc (arrRef cfg0.spec w)) := by
  by_cases hw : w = 7
  · subst hw
    exact (arrAt0 (V1 m) c G h).trans (U2_4 m c).symm
  · obtain ⟨hin, hne⟩ := in0 w hw
    rw [(rd0 (V1 m) c).ArrAt_in w hin] at h
    exact h.trans (U2_of m c _ (StableHlo.devRef_ne_of_ne hne)).symm

/-- What the quantiser's arrays can hold at its end. -/
theorem leaves1 (c : Dev nD) (w : Fin cfg1.W) (G) (h : (rd1 (U3 m) c).ArrAt w cfg1.N G) : G = U4 m c (Proc.devRef .tc (arrRef cfg1.spec w)) := by
  by_cases hw : w.val < 9
  · obtain ⟨hin, hn⟩ := in1 w hw
    rw [(rd1 (U3 m) c).ArrAt_in w hin] at h
    have ne : ∀ r ∈ [main_v8_0, main_v8_1, main_v8_2, main_v8_3], arrRef cfg1.spec w ≠ r := fun r hr e => hn (e ▸ hr)
    exact h.trans (U4_of m c _ (StableHlo.devRef_ne_of_ne (ne _ (by simp))) (StableHlo.devRef_ne_of_ne (ne _ (by simp)))
      (StableHlo.devRef_ne_of_ne (ne _ (by simp))) (StableHlo.devRef_ne_of_ne (ne _ (by simp)))).symm
  · rcases last1 w hw with rfl | rfl | rfl | rfl
    · exact (arrAt1_9 (U3 m) c G h).trans (U4_0 m c).symm
    · exact (arrAt1_10 (U3 m) c G h).trans (U4_1 m c).symm
    · exact (arrAt1_11 (U3 m) c G h).trans (U4_2 m c).symm
    · exact (arrAt1_12 (U3 m) c G h).trans (U4_3 m c).symm

/-- A window's array is among the encoder's arrays. -/
theorem arr0_mem (w : Fin cfg0.W) : Proc.devRef (τ := τ) .tc (arrRef cfg0.spec w) ∈ arrRefs (τ := τ) cfg0.spec :=
  Finset.mem_map_of_mem _ (Finset.mem_image_of_mem _ (Finset.mem_univ w))
/-- A window's array is among the quantiser's arrays. -/
theorem arr1_mem (w : Fin cfg1.W) : Proc.devRef (τ := τ) .tc (arrRef cfg1.spec w) ∈ arrRefs (τ := τ) cfg1.spec :=
  Finset.mem_map_of_mem _ (Finset.mem_image_of_mem _ (Finset.mem_univ w))

/-- A whole buffer at some contents is one at some element contents. -/
theorem some_pt (c : Dev nD) {sp : Space} {S : Shape} {e : EltTy} (M : Memref sig .tc sp S e) (h : M.IsWhole) :
    (iprop(∃ f : Buf (Elt F) (M.view.loc (c.tc : Thread nD τ)), (M.view.loc (c.tc : Thread nD τ)) ↦{fullShare} f) : sProp 𝕄) ⊢ iprop(∃ X, pt c M h X) := by
  iintro ⟨%f, H⟩
  iexists M.view.read (Elt F) f
  unfold pt
  rw [h.unread_read]
  iexact H

/-- The scratch at the start: nothing is said of it. -/
theorem enter1 (c : Dev nD) : (Pipeline.scopedRest cfg1.spec c : sProp 𝕄) ⊢ iprop(scratch (U3 m) c 0 ∗ spare c) := by
  show (Pipeline.scopedRest spec1 c : sProp 𝕄) ⊢ _
  rw [scopedRest1_eq]
  unfold scratch
  iintro ⟨A0, A1, A2, A3, A4, A5, A6, A7, A8, A9, S0, S1, S2, S3, S4⟩
  ihave S0 := some_pt c (Memref.whole cc1_scratch0) (Memref.isWhole_whole _) $$ S0
  ihave S1 := some_pt c (Memref.whole cc1_scratch1) (Memref.isWhole_whole _) $$ S1
  ihave S2 := some_pt c (Memref.whole cc1_scratch2) (Memref.isWhole_whole _) $$ S2
  ihave S3 := some_pt c (Memref.whole cc1_scratch3) (Memref.isWhole_whole _) $$ S3
  ihave S4 := some_pt c (Memref.whole cc1_scratch4) (Memref.isWhole_whole _) $$ S4
  icases S0 with ⟨%q, S0⟩; icases S1 with ⟨%e1, S1⟩; icases S2 with ⟨%e2, S2⟩; icases S3 with ⟨%e3, S3⟩; icases S4 with ⟨%en, S4⟩
  isplitl [S0 S1 S2 S3 S4]
  · iexists q, e1, e2, e3, en
    isplitr
    · ipureintro
      exact ⟨fun k hk => absurd hk (by show ¬ 0 < (0 + 3 - k.val) / 4; omega), fun h => absurd h (Nat.lt_irrefl 0)⟩
    iframe
  unfold spare
  iframe

/-- The scratch at the end is given back. -/
theorem leave1 (c : Dev nD) (n : ℕ) : iprop(scratch (U3 m) c n ∗ spare c) ⊢ (Pipeline.scopedRest cfg1.spec c : sProp 𝕄) := by
  show _ ⊢ (Pipeline.scopedRest spec1 c : sProp 𝕄)
  rw [scopedRest1_eq]
  unfold scratch
  iintro ⟨⟨%q, %e1, %e2, %e3, %en, -, S0, S1, S2, S3, S4⟩, A0, A1, A2, A3, A4, A5, A6, A7, A8, A9⟩
  iframe A0 A1 A2 A3 A4 A5 A6 A7 A8 A9
  isplitl [S0]; · iexists _; iexact S0
  isplitl [S1]; · iexists _; iexact S1
  isplitl [S2]; · iexists _; iexact S2
  isplitl [S3]; · iexists _; iexact S3
  iexists _; iexact S4

/-- The encoder's pallas_call as an item. -/
def reg0 : Pipeline.RDat.RegionSeg (pcfgs (F := F)) adm (rds m) () defs₀ Variants.none L lv 0 :=
  region (rds m) 0 launch0 rfl (fun c => body0 (V1 m) c) (fun _ _ => rfl) (fun _ => rfl) (fun c w => share_eq m _ c w) (by decide) (V1 m) (U2 m)
    (fun _ _ => rfl) (leaves0 m)
    (fun c d hd => U2_of m c d fun e => (Finset.mem_sdiff.mp hd).2 (e ▸ arr0_mem 7))
    (fun _ => .rfl) (fun _ => .rfl)

/-- The quantiser's pallas_call as an item. -/
def reg1 : Pipeline.RDat.RegionSeg (pcfgs (F := F)) adm (rds m) () defs₀ Variants.none L lv 1 :=
  region (rds m) 1 launch1 rfl (fun c => body1 (U3 m) c) (fun _ _ => rfl) (fun _ => rfl) (fun c w => share_eq m _ c w) (by decide) (U3 m) (U4 m)
    (fun _ _ => rfl) (leaves1 m)
    (fun c d hd => U4_of m c d (fun e => (Finset.mem_sdiff.mp hd).2 (e ▸ arr1_mem 9)) (fun e => (Finset.mem_sdiff.mp hd).2 (e ▸ arr1_mem 10))
      (fun e => (Finset.mem_sdiff.mp hd).2 (e ▸ arr1_mem 11)) (fun e => (Finset.mem_sdiff.mp hd).2 (e ▸ arr1_mem 12)))
    (enter1 m) (fun c => leave1 m c _)

end

end Cert.KernelIdeal.Mine

end
-- ==== Proof.RunAll.lean ====
/-
  The whole program run: it terminates with the semaphores at zero and the buffers at the last valuation.
-/
module

public import proofs.«01_k».proof.Proof.Items

@[expose] public section

set_option maxRecDepth 16384

noncomputable section

namespace Cert.KernelIdeal.Mine

open Cert.KernelIdeal Cert.KernelIdeal.Gen Cert.Mine

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat arrRef arrRefs ucRefs)

variable {F : FTy → Type} [FloatOps F]

local notation "𝕄" => MT nD τ sig Unit (Elt F) ℕ UU ℕ

section
variable (m : (ℓ : Loc nD τ sig) → Buf (Elt F) ℓ) (ρ : Dev nD → PrngReg)

/-- The items of @main. -/
abbrev items (c : Dev nD) : List (Pipeline.RDat.Seg (pcfgs (F := F)) adm (rds m) () defs₀ Variants.none L lv) :=
  [.host (seg0 m Variants.none L lv (fun _ => rest)), .region (reg0 m), .host (seg2 m (outs m) Variants.none L lv (fun _ => rest)),
    .region (reg1 m), .host (seg4 m (outs m) Variants.none L lv (fun _ => rest))]

/-- The launch's element: the pipelines' protocol beside nothing. -/
def u₀ : UU := (initOf (Pipeline.cells cfgs cellOf_inj) (Pipeline.launchToks cfgs cellOf_inj), 1)

/-- The pipelines' algebra is the left component. -/
abbrev EP : Emb (UR sig nD τ) 𝕄 := embL

set_option backward.isDefEq.respectTransparency.types false in
/-- Every run ends, with every buffer of @main at the last valuation and every semaphore at zero. -/
theorem run_all : θ_run defs (onTc (τ := τ) (main (F := F))) ⟨m, fun _ => 0, ρ⟩ (fun r =>
    (∀ c : Dev nD, ∀ b ∈ ucRefs τ sig, r.2.mem (c, b) = U5 m c b) ∧ r.2.sem = fun _ => 0) := by
  refine Pipeline.RDat.θ_run_regions_kit_dev_sems (pcfgs (F := F)) adm (rds m) () cellOf_inj EP defs₀ Variants.none L lv m ρ main
    (items m)
    (fun c Q => by
      rewrite [main_chain c, Pipeline.RDat.Seg.run_eq_chain,
        show (items m c).map Pipeline.RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [items, Pipeline.RDat.Seg.pipes_host, Pipeline.RDat.Seg.pipes_region, Pipeline.RDat.Seg.pipes_nil]; decide)
    (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V0 m c) ∗ rest c))
    (Tₙ := fun c => StableHlo.held (c : Thread nD τ) (ucRefs τ sig) (V5 m (outs m) c))
    (hch := fun c => ⟨.rfl, .rfl, ?_, ?_, ?_, sep_mono .rfl ?_⟩)
    (hinit := by
      refine Pipeline.initEach L lv fun c => ?_
      rw [show unscopedBufs c (fun b => m ((c : Thread nD τ).loc b)) = StableHlo.held (c : Thread nD τ) (ucRefs τ sig) (V0 m c) from
        Pipeline.unscopedBufs_held c (V0 m c)]
      iintro ⟨⟨Hh, -, HO, -, Hp, -⟩, -⟩
      imodintro
      isplitl [Hh]; · iexact Hh
      isplitl [Hp]
      · iexists _; iexact Hp
      iexists ∅; iexact HO)
    (QY := fun c s => ∀ b ∈ ucRefs τ sig, s.mem (c, b) = U5 m c b)
    (hfin := fun c s' => ?_) (hQ := fun _ h hz => ⟨h, funext fun g => hz g (.inr (regions_no_unscoped g.2))⟩)
  · show iprop(_ ∗ _) ⊢ iprop(StableHlo.held (c : Thread nD τ) (ucRefs τ sig) (V2 m (outs m) c) ∗ rest c)
    rw [V2_eq]
  · show iprop(StableHlo.held (c : Thread nD τ) (ucRefs τ sig) (V3 m (outs m) c) ∗ rest c) ⊢ iprop(_ ∗ _)
    rw [V3_eq]
  · show iprop(_ ∗ _) ⊢ iprop(StableHlo.held (c : Thread nD τ) (ucRefs τ sig) (V4 m (outs m) c) ∗ rest c)
    rw [V4_eq]
  · iintro ⟨-, H⟩; iexact H
  · rw [V5_eq]
    unfold StableHlo.held
    iintro ⟨Hh, HSI⟩
    ihave Hr := (pointsTo_read_all (ucRefs τ sig) (fun b => ((c : Thread nD τ).1, b)) (U5 m c) s') $$ [Hh HSI]
    · isplitl [Hh] <;> iassumption
    icases Hr with ⟨%h, HSI⟩
    imodintro
    isplitr
    · ipureintro; exact h
    · iexact HSI

/-- A buffer of @main is among those held. -/
theorem uc_mem (b : Ref sig .tc) (hb : (Proc.devRef (τ := τ) .tc b).isScoped = false) : Proc.devRef (τ := τ) .tc b ∈ ucRefs τ sig :=
  Finset.mem_filter.mpr ⟨StableHlo.devRef_mem_tcRefs b, by rw [hb]; decide⟩

end

end Cert.KernelIdeal.Mine

end
-- ==== Proof.Frames.lean ====
/-
  Every run ends with the arguments as they were and the semaphores at zero; the program as printed, whose text is the
  same, likewise.
-/
module

public import proofs.«01_k».proof.Proof.RunAll
public import proofs.«01_k».proof.Defs

@[expose] public section

set_option maxRecDepth 16384

noncomputable section

namespace Cert.KernelIdeal.Mine

open Cert.KernelIdeal Cert.KernelIdeal.Gen Cert.Mine

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat arrRef arrRefs ucRefs)

variable {F : FTy → Type} [FloatOps F]

local notation "𝕄" => MT nD τ sig Unit (Elt F) ℕ UU ℕ

section
variable (m : (ℓ : Loc nD τ sig) → Buf (Elt F) ℓ) (ρ : Dev nD → PrngReg)

/-- The arguments. -/
abbrev argRefs : List (Ref sig .tc) := [main_arg0, main_arg1, main_arg2, main_arg3, main_arg4, main_arg5, main_arg6, main_arg7,
  main_arg8, main_arg9, main_arg10, main_arg11, main_arg12, main_arg13]

/-- No stretch and no kernel changes an argument. -/
theorem args_kept (c : Dev nD) (b : Ref sig .tc) (hb : b ∈ argRefs) : U5 m c b = m ((c : Thread nD τ).loc b) := by
  have h : ∀ b ∈ argRefs, b ∉ hostOps2_W ∧ b ∉ ([main_v8_0, main_v8_1, main_v8_2, main_v8_3] : List (Ref sig .tc)) ∧ b ∉ hostOps1_W
      ∧ b ∉ ([main_v4] : List (Ref sig .tc)) ∧ b ∉ hostOps0_W := by decide
  obtain ⟨h5, h4, h3, h2, h1⟩ := h b hb
  rw [← V5_eq, V5_of m (outs m) c b h5, V4_of m (outs m) c b h4, V3_of m (outs m) c b h3, V2_of m (outs m) c b h2, V1_of m c b h1]

/-- An argument is no scratch buffer. -/
theorem args_uc : ∀ b ∈ argRefs, (Proc.devRef (τ := τ) .tc b).isScoped = false := by decide

/-- Every argument ends as launched. -/
theorem run_args : θ_run defs (onTc (τ := τ) (main (F := F))) ⟨m, fun _ => 0, ρ⟩ (fun r =>
    (∀ c : Dev nD, ∀ b ∈ argRefs, r.2.mem ((c.tc : Thread nD τ).loc b) = m ((c.tc : Thread nD τ).loc b)) ∧ r.2.sem = fun _ => 0) :=
  (θ_run defs _ _).mono (fun _ h => ⟨fun c b hb => (h.1 c _ (uc_mem b (args_uc b hb))).trans (args_kept m c b hb), h.2⟩) (run_all m ρ)

end

/-- The idealized program's frame. -/
theorem frame_ideal [Cert.KernelIdeal.Facts] : Cert.quiescent_KernelIdeal := fun m g _ =>
  (θ_run defs _ _).mono (fun _ h => ⟨fun c => ⟨h.1 c _ (by decide), h.1 c _ (by decide), h.1 c _ (by decide), h.1 c _ (by decide), h.1 c _ (by decide),
    h.1 c _ (by decide), h.1 c _ (by decide), h.1 c _ (by decide), h.1 c _ (by decide), h.1 c _ (by decide), h.1 c _ (by decide), h.1 c _ (by decide),
    h.1 c _ (by decide), h.1 c _ (by decide)⟩, h.2⟩) (run_args m g)

end Cert.KernelIdeal.Mine

end
-- ==== Proof.Same.lean ====
/-
  The program as printed: its text is that of the idealized one, so it runs alike at the machine's own numbers.
-/
module

public import proofs.«01_k».proof.Proof.Frames

@[expose] public section

set_option maxRecDepth 16384

noncomputable section

namespace Cert.KernelIdeal.Mine

open Cert.KernelIdeal Cert.KernelIdeal.Gen Cert.Mine

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat arrRef arrRefs ucRefs)

variable {F : FTy → Type} [FloatOps F]

local notation "𝕄" => MT nD τ sig Unit (Elt F) ℕ UU ℕ

section
variable [hK : Cert.Kernel.Facts]

set_option maxHeartbeats 2000000 in
/-- The printed kernels' bodies are the idealized ones'. -/
theorem bodies_same : Cert.Kernel.defs₀ (F := F) = Cert.KernelIdeal.defs₀ (F := F) := by
  refine congrArg Defs.onTc (funext fun l => funext fun a => ?_)
  match l, a with
  | ⟨0, _⟩, (t, s) => rfl
  | ⟨1, _⟩, (t, s) => rfl

/-- So their tables are. -/
theorem tables_same : Cert.Kernel.defs (F := F) = Cert.KernelIdeal.defs (F := F) :=
  congrArg (Pipeline.defs Cert.KernelIdeal.pcfgs) bodies_same

set_option maxHeartbeats 2000000 in
/-- The printed @main is the idealized one. -/
theorem main_same : Cert.Kernel.main (F := F) = Cert.KernelIdeal.main (F := F) := rfl

/-- A run of equal programs on equal tables. -/
theorem run_of_eq {nD : ℕ} {τ : Topo} {sig : RefSig} {Val : EltTy → Type} {Λ : Labels} {D D' : Defs nD τ sig Val Λ}
    {M M' : Dev nD → Prog (TpuEff nD τ sig Val Λ .tc) PUnit} (hD : D = D') (hM : M = M') {s : MemSt nD τ sig Val}
    {Q : PUnit × MemSt nD τ sig Val → Prop} (h : θ_run D' (onTc M') s Q) : θ_run D (onTc M) s Q := by
  subst hD hM
  exact h

/-- What the frame says of the end. -/
theorem frame_bits (m : (ℓ : Loc nD τ sig) → Buf (Elt Bits) ℓ) (g : Dev nD → PrngReg) :
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨fun c => ⟨h.1 c _ (by decide), h.1 c _ (by decide), h.1 c _ (by decide), h.1 c _ (by decide), h.1 c _ (by decide),
    h.1 c _ (by decide), h.1 c _ (by decide), h.1 c _ (by decide), h.1 c _ (by decide), h.1 c _ (by decide), h.1 c _ (by decide), h.1 c _ (by decide),
    h.1 c _ (by decide), h.1 c _ (by decide)⟩, h.2⟩) (run_args m g)

set_option maxHeartbeats 4000000 in
/-- The printed program's frame. -/
theorem frame_printed : Cert.quiescent_Kernel := fun m g _ =>
  run_of_eq (D := Cert.Kernel.defs (F := Bits)) (M := Cert.Kernel.main (F := Bits)) tables_same main_same (frame_bits m g)

end

end Cert.KernelIdeal.Mine

end
-- ==== Proof.Chain.lean ====
/-
  A straight line of host operations in which every operation writes a buffer numbered after all that it reads: at the
  end every operation's equation holds of the one final valuation, whatever the order in which it is read.
-/
module

public import Idealize.ShloMosaic.Lib.StableHlo.Run

@[expose] public section

set_option maxRecDepth 16384

noncomputable section

namespace Cert.Mine

open Idealize.ShloMosaic Idealize.ShloMosaic.StableHlo
open Idealize.ShloMosaic.TcCoe

variable {τ : Topo} {sig : RefSig} {Val : EltTy → Type}

/-- A buffer's number: its place in its table. -/
def num (b : DevRef τ sig) : ℕ := b.idx.val

/-- A reference's number. -/
def numR (r : Ref sig .tc) : ℕ := r.idx.val

/-- A reference and its buffer have one number. -/
theorem num_ref (r : Ref sig .tc) : num (Proc.devRef (τ := τ) .tc r) = numR r := rfl

/-- The operation writes buffers numbered `n`, at values that only buffers numbered below `n` decide. -/
structure Step (n : ℕ) (op : HloOp τ sig Val) : Prop where
  /-- What it writes is numbered `n`. -/
  at_n : ∀ b ∈ op.writes, num b = n
  /-- What it writes depends on lower numbers only. -/
  below : ∀ U U' : Valuation τ sig Val, (∀ b, num b < n → U b = U' b) → ∀ b ∈ op.writes, op.result U b = op.result U' b
  /-- It decides everything it writes. -/
  decided : op.fresh = ∅
  /-- It touches the device's own buffers only. -/
  near : op.bufs ⊆ tcRefs τ sig

/-- The operations write consecutive numbers from `n` up to `n'`. -/
def Chain : ℕ → List (HloOp τ sig Val) → ℕ → Prop
  | n, [], n' => n = n'
  | n, op :: l, n' => Step n op ∧ Chain (n + 1) l n'

/-- Chains that meet make one. -/
theorem Chain.append {n k n' : ℕ} {l l' : List (HloOp τ sig Val)} (h : Chain n l k) (h' : Chain k l' n') : Chain n (l ++ l') n' := by
  induction l generalizing n with
  | nil => cases h; exact h'
  | cons op l ih => exact ⟨h.1, ih h.2⟩

/-- Every operation of a chain is a step. -/
theorem Chain.forall {P : HloOp τ sig Val → Prop} (hP : ∀ n op, Step n op → P op) {n n' : ℕ} {l : List (HloOp τ sig Val)}
    (h : Chain n l n') : ∀ op ∈ l, P op := by
  induction l generalizing n with
  | nil => intro op hop; exact absurd hop List.not_mem_nil
  | cons o l ih =>
    intro op hop
    rcases List.mem_cons.mp hop with rfl | hop
    · exact hP _ _ h.1
    · exact ih h.2 op hop

/-- A buffer numbered below the chain keeps its contents. -/
theorem Chain.low {n n' : ℕ} {l : List (HloOp τ sig Val)} (h : Chain n l n') (V : Valuation τ sig Val) (b : DevRef τ sig)
    (hb : num b < n) : after l V b = V b := by
  induction l generalizing n V with
  | nil => rfl
  | cons op l ih =>
    rw [after_cons, ih h.2 _ (Nat.lt_succ_of_lt hb), HloOp.result_of_not_mem]
    intro hm
    exact absurd (h.1.at_n b hm) (by omega)

/-- The equation of one operation, of one valuation. -/
def Holds (W : Valuation τ sig Val) (op : HloOp τ sig Val) : Prop := ∀ b ∈ op.writes, W b = op.result W b

/-- At a chain's end the equation of each of its operations holds. -/
theorem Chain.holds {n n' : ℕ} {l : List (HloOp τ sig Val)} (h : Chain n l n') (V : Valuation τ sig Val) :
    ∀ op ∈ l, Holds (after l V) op := by
  induction l generalizing n V with
  | nil => intro op hop; exact absurd hop List.not_mem_nil
  | cons o l ih =>
    intro op hop
    rcases List.mem_cons.mp hop with rfl | hop
    · intro b hb
      rw [after_cons, h.2.low _ b (by rw [h.1.at_n b hb]; exact Nat.lt_succ_self n)]
      refine h.1.below _ _ (fun b' hb' => ?_) b hb
      rw [h.2.low _ b' (Nat.lt_succ_of_lt hb'), HloOp.result_of_not_mem]
      intro hm
      exact absurd (h.1.at_n b' hm) (by omega)
    · exact ih h.2 _ op hop

/-- A written buffer of an operation that writes one. -/
theorem only {y b : DevRef τ sig} {p : DevRef τ sig → Prop} (hp : p y) (hb : b ∈ ({y} : Finset (DevRef τ sig))) : p b :=
  Finset.mem_singleton.mp hb ▸ hp

section Steps

variable {n : ℕ} {x a b c e y : Ref sig .tc}

/-- A constant is a step. -/
theorem step_nullary (v : y.ty.Contents Val) (hy') (hy : numR y = n) : Step n (nullary (τ := τ) y v hy') where
  at_n _ hb := only (y := Proc.devRef .tc y) (p := fun b => num b = n) hy hb
  below U U' _ _ hb := only (y := Proc.devRef .tc y) (p := fun b => (nullary (τ := τ) y v hy').result U b = (nullary (τ := τ) y v hy').result U' b)
    (by rw [nullary_result', nullary_result']) hb
  decided := rfl
  near := nullary_bufs_sub ..

/-- An operation of one operand is a step. -/
theorem step_unary (f : x.ty.Contents Val → y.ty.Contents Val) (hx' hy') (hx : numR x < n) (hy : numR y = n) :
    Step n (unary (τ := τ) x y f hx' hy') where
  at_n _ hb := only (y := Proc.devRef .tc y) (p := fun b => num b = n) hy hb
  below U U' h _ hb := only (y := Proc.devRef .tc y) (p := fun b => (unary (τ := τ) x y f hx' hy').result U b = (unary (τ := τ) x y f hx' hy').result U' b)
    (by rw [unary_result', unary_result', h (Proc.devRef .tc x) hx]) hb
  decided := rfl
  near := unary_bufs_sub ..

/-- A reshape is a step. -/
theorem step_reshape (he hn hx' hy') (hx : numR x < n) (hy : numR y = n) : Step n (reshape (τ := τ) (Val := Val) x y he hn hx' hy') where
  at_n _ hb := only (y := Proc.devRef .tc y) (p := fun b => num b = n) hy hb
  below U U' h _ hb := only (y := Proc.devRef .tc y) (p := fun b => (reshape (τ := τ) (Val := Val) x y he hn hx' hy').result U b
      = (reshape (τ := τ) (Val := Val) x y he hn hx' hy').result U' b)
    (by rw [reshape_result', reshape_result', h (Proc.devRef .tc x) hx]) hb
  decided := rfl
  near := reshape_bufs_sub ..

/-- An operation of two operands is a step. -/
theorem step_binary (f : a.ty.Contents Val → b.ty.Contents Val → y.ty.Contents Val) (ha' hb' hy') (ha : numR a < n) (hb : numR b < n)
    (hy : numR y = n) : Step n (binary (τ := τ) a b y f ha' hb' hy') where
  at_n _ hm := only (y := Proc.devRef .tc y) (p := fun b => num b = n) hy hm
  below U U' h _ hm := only (y := Proc.devRef .tc y) (p := fun d => (binary (τ := τ) a b y f ha' hb' hy').result U d = (binary (τ := τ) a b y f ha' hb' hy').result U' d)
    (by rw [binary_result', binary_result', h (Proc.devRef .tc a) ha, h (Proc.devRef .tc b) hb]) hm
  decided := rfl
  near := binary_bufs_sub ..

/-- An operation of three operands is a step. -/
theorem step_ternary (f : c.ty.Contents Val → a.ty.Contents Val → b.ty.Contents Val → y.ty.Contents Val) (hc' ha' hb' hy')
    (hc : numR c < n) (ha : numR a < n) (hb : numR b < n) (hy : numR y = n) : Step n (ternary (τ := τ) c a b y f hc' ha' hb' hy') where
  at_n _ hm := only (y := Proc.devRef .tc y) (p := fun b => num b = n) hy hm
  below U U' h _ hm := only (y := Proc.devRef .tc y) (p := fun d => (ternary (τ := τ) c a b y f hc' ha' hb' hy').result U d
      = (ternary (τ := τ) c a b y f hc' ha' hb' hy').result U' d)
    (by rw [ternary_result', ternary_result', h (Proc.devRef .tc c) hc, h (Proc.devRef .tc a) ha, h (Proc.devRef .tc b) hb]) hm
  decided := rfl
  near := ternary_bufs_sub ..

/-- An operation of four operands is a step. -/
theorem step_quaternary (f : a.ty.Contents Val → b.ty.Contents Val → c.ty.Contents Val → e.ty.Contents Val → y.ty.Contents Val)
    (ha' hb' hc' he' hy') (ha : numR a < n) (hb : numR b < n) (hc : numR c < n) (he : numR e < n) (hy : numR y = n) :
    Step n (quaternary (τ := τ) a b c e y f ha' hb' hc' he' hy') where
  at_n _ hm := only (y := Proc.devRef .tc y) (p := fun b => num b = n) hy hm
  below U U' h _ hm := only (y := Proc.devRef .tc y) (p := fun d => (quaternary (τ := τ) a b c e y f ha' hb' hc' he' hy').result U d
      = (quaternary (τ := τ) a b c e y f ha' hb' hc' he' hy').result U' d)
    (by rw [quaternary_result', quaternary_result', h (Proc.devRef .tc a) ha, h (Proc.devRef .tc b) hb, h (Proc.devRef .tc c) hc, h (Proc.devRef .tc e) he]) hm
  decided := rfl
  near := quaternary_bufs_sub ..

/-- An operation of a list of operands is a step. -/
theorem step_nary {k : ℕ} {xs : Fin k → Ref sig .tc} (f : ((i : Fin k) → (xs i).ty.Contents Val) → y.ty.Contents Val) (hxs' hy')
    (hxs : ∀ i, numR (xs i) < n) (hy : numR y = n) : Step n (nary (τ := τ) xs y f hxs' hy') where
  at_n _ hm := only (y := Proc.devRef .tc y) (p := fun b => num b = n) hy hm
  below U U' h _ hm := only (y := Proc.devRef .tc y) (p := fun d => (nary (τ := τ) xs y f hxs' hy').result U d = (nary (τ := τ) xs y f hxs' hy').result U' d)
    (by rw [nary_result', nary_result']; exact congrArg f (funext fun i => h (Proc.devRef .tc (xs i)) (hxs i))) hm
  decided := rfl
  near := nary_bufs_sub ..

end Steps

section Reads

variable {Tx Ta Tb Tc Te Ty : BufTy} (W : Valuation τ sig Val)

/-- What a valuation holds at a typed reference. -/
def rd {T : BufTy} (a : TRef sig T) : T.Contents Val := a.ofBuf (W (Proc.devRef .tc a.ref))

variable {W}

/-- What an operation's equation says, read at a typed reference. -/
theorem rd_of {T : BufTy} {y : TRef sig T} {op : HloOp τ sig Val} (h : Holds W op) (hm : (Proc.devRef .tc y.ref : DevRef τ sig) ∈ op.writes)
    {v : T.Contents Val} (hv : op.result W (Proc.devRef .tc y.ref) = y.toBuf v) : rd W y = v := by
  unfold rd
  rw [h _ hm, hv]
  exact TRef.ofBuf_toBuf _ _

/-- A constant, read. -/
theorem rd_nullary {y : TRef sig Ty} {v : Ty.Contents Val} (h : Holds W (TRef.nullary y v)) : rd W y = v :=
  rd_of h (Finset.mem_singleton_self _) (by exact nullary_result' ..)

/-- One operand, read. -/
theorem rd_unary {x : TRef sig Tx} {y : TRef sig Ty} {f : Tx.Contents Val → Ty.Contents Val} (h : Holds W (TRef.unary x y f)) :
    rd W y = f (rd W x) :=
  rd_of h (Finset.mem_singleton_self _) (by exact unary_result' ..)

/-- Two operands, read. -/
theorem rd_binary {a : TRef sig Ta} {b : TRef sig Tb} {y : TRef sig Ty} {f : Ta.Contents Val → Tb.Contents Val → Ty.Contents Val}
    (h : Holds W (TRef.binary a b y f)) : rd W y = f (rd W a) (rd W b) :=
  rd_of h (Finset.mem_singleton_self _) (by exact binary_result' ..)

/-- Three operands, read. -/
theorem rd_ternary {c : TRef sig Tc} {a : TRef sig Ta} {b : TRef sig Tb} {y : TRef sig Ty}
    {f : Tc.Contents Val → Ta.Contents Val → Tb.Contents Val → Ty.Contents Val} (h : Holds W (TRef.ternary c a b y f)) :
    rd W y = f (rd W c) (rd W a) (rd W b) :=
  rd_of h (Finset.mem_singleton_self _) (by exact ternary_result' ..)

/-- Four operands, read. -/
theorem rd_quaternary {a : TRef sig Ta} {b : TRef sig Tb} {c : TRef sig Tc} {e : TRef sig Te} {y : TRef sig Ty}
    {f : Ta.Contents Val → Tb.Contents Val → Tc.Contents Val → Te.Contents Val → Ty.Contents Val} (h : Holds W (TRef.quaternary a b c e y f)) :
    rd W y = f (rd W a) (rd W b) (rd W c) (rd W e) :=
  rd_of h (Finset.mem_singleton_self _) (by exact quaternary_result' ..)

end Reads

section Plain

variable {x a b c e y : Ref sig .tc} {W : Valuation τ sig Val}

/-- A constant. -/
theorem at_nullary {v : y.ty.Contents Val} {hy'} (h : Holds W (nullary (τ := τ) y v hy')) : W (Proc.devRef .tc y) = v :=
  (h _ (Finset.mem_singleton_self _)).trans (by exact nullary_result' ..)

/-- One operand. -/
theorem at_unary {f : x.ty.Contents Val → y.ty.Contents Val} {hx' hy'} (h : Holds W (unary (τ := τ) x y f hx' hy')) :
    W (Proc.devRef .tc y) = f (W (Proc.devRef .tc x)) :=
  (h _ (Finset.mem_singleton_self _)).trans (by exact unary_result' ..)

/-- Two operands. -/
theorem at_binary {f : a.ty.Contents Val → b.ty.Contents Val → y.ty.Contents Val} {ha' hb' hy'}
    (h : Holds W (binary (τ := τ) a b y f ha' hb' hy')) : W (Proc.devRef .tc y) = f (W (Proc.devRef .tc a)) (W (Proc.devRef .tc b)) :=
  (h _ (Finset.mem_singleton_self _)).trans (by exact binary_result' ..)

/-- A reshape. -/
theorem at_reshape {he hn hx' hy'} (h : Holds W (reshape (τ := τ) (Val := Val) x y he hn hx' hy')) :
    W (Proc.devRef .tc y) = (reshape (τ := τ) (Val := Val) x y he hn hx' hy').result W (Proc.devRef .tc y) :=
  h _ (Finset.mem_singleton_self _)

/-- A list of operands. -/
theorem at_nary {k : ℕ} {xs : Fin k → Ref sig .tc} {f : ((i : Fin k) → (xs i).ty.Contents Val) → y.ty.Contents Val} {hxs' hy'}
    (h : Holds W (nary (τ := τ) xs y f hxs' hy')) : W (Proc.devRef .tc y) = f (fun i => W (Proc.devRef .tc (xs i))) :=
  (h _ (Finset.mem_singleton_self _)).trans (by exact nary_result' ..)

end Plain

end Cert.Mine

end
-- ==== Proof.RefOps.lean ====
/-
  The reference's @main as a straight line of operations: the line of one level over its buffers, and the whole line.
-/
module

public import proofs.«01_k».proof.Proof.Chain
public import proofs.«01_k».proof.Proof.Gen.ReferenceIdeal

@[expose] public section

set_option maxRecDepth 16384

noncomputable section

namespace Cert.ReferenceIdeal.Mine

open Cert.ReferenceIdeal Cert.ReferenceIdeal.Gen Cert.Mine

open Idealize.ShloMosaic Idealize.ShloMosaic.StableHlo Idealize.SL.Sem
open Idealize.ShloMosaic.TcCoe

variable {F : FTy → Type} [FloatOps F]

/-- One level's operations: codebook `a0`, latent `a1`, residual `a2`, sum so far `a3`. -/
def levelOps (a0 : TRef sig ⟨S1024x1024, .f32⟩) (a1 a2 a3 : TRef sig ⟨S2048x1024, .f32⟩) (φ : fn_level.Bufs) :
    List (HloOp τ sig (Elt F)) := [
  TRef.binary a2 a2 φ.v0 mulf,
  TRef.nullary φ.cst (constant S_ .f32 0x00000000#32),
  TRef.binary φ.v0 φ.cst φ.v1 (fun x v => Host.reduceAdd x v reducesTo_S2048x1024_S2048_d1 h_S_),
  TRef.unary φ.v1 φ.v2 (broadcastInDim S2048x1 ![0] bcast_S2048_S2048x1_0),
  TRef.nullary φ.cst_0 (constant S_ .f32 0x40000000#32),
  TRef.unary φ.cst_0 φ.v3 (broadcastInDim S2048x1024 ![] bcast_S_S2048x1024),
  TRef.binary φ.v3 a2 φ.v4 mulf,
  TRef.unary a0 φ.v5 (transpose S1024x1024 [1, 0] · transposes_S1024x1024_S1024x1024_1_0),
  TRef.binary φ.v4 φ.v5 φ.v6 (fun l r => Host.dotGeneral dot_S2048x1024_S1024x1024_S2048x1024_1_0_0_1_n_n none l r),
  TRef.unary φ.v2 φ.v7 (broadcastInDim S2048x1024 ![0, 1] bcast_S2048x1_S2048x1024_0_1),
  TRef.binary φ.v7 φ.v6 φ.v8 subf,
  TRef.binary a0 a0 φ.v9 mulf,
  TRef.nullary φ.cst_1 (constant S_ .f32 0x00000000#32),
  TRef.binary φ.v9 φ.cst_1 φ.v10 (fun x v => Host.reduceAdd x v reducesTo_S1024x1024_S1024_d1 h_S_),
  TRef.unary φ.v10 φ.v11 (broadcastInDim S1x1024 ![1] bcast_S1024_S1x1024_1),
  TRef.unary φ.v11 φ.v12 (broadcastInDim S2048x1024 ![0, 1] bcast_S1x1024_S2048x1024_0_1),
  TRef.binary φ.v8 φ.v12 φ.v13 addf,
  TRef.nullary φ.call0.v0 (iotaInDim S2048x1024 32 1),
  TRef.nullary φ.call0.cst (constant S_ .f32 0x7F800000#32),
  TRef.nullary φ.call0.c (constantI S_ 32 0#32),
  TRef.quaternary φ.v13 φ.call0.v0 φ.call0.cst φ.call0.c φ.call0.v1_0 (fun x y u v j => (Host.argReduce reducer_argmin_f32_i32 x y u v reducesTo_S2048x1024_S2048_d1 h_S_ j).1),
  TRef.quaternary φ.v13 φ.call0.v0 φ.call0.cst φ.call0.c φ.call0.v1_1 (fun x y u v j => (Host.argReduce reducer_argmin_f32_i32 x y u v reducesTo_S2048x1024_S2048_d1 h_S_ j).2),
  TRef.nullary φ.call1.c (constantI S_ 32 0#32),
  TRef.unary φ.call1.c φ.call1.v0 (broadcastInDim S2048 ![] bcast_S_S2048),
  TRef.binary φ.call0.v1_1 φ.call1.v0 φ.call1.v1 (cmpi .slt),
  TRef.nullary φ.call1.c_0 (constantI S_ 32 1024#32),
  TRef.unary φ.call1.c_0 φ.call1.v2 (broadcastInDim S2048 ![] bcast_S_S2048),
  TRef.binary φ.call0.v1_1 φ.call1.v2 φ.call1.v3 addi,
  TRef.ternary φ.call1.v1 φ.call1.v3 φ.call0.v1_1 φ.call1.call0.v0 select,
  TRef.unary φ.call1.call0.v0 φ.call1.v5 (broadcastInDim S2048x1 ![0] bcast_S2048_S2048x1_0),
  TRef.nullary φ.call1.c_1 (constantI S1 32 1023#32),
  TRef.nullary φ.call1.c_2 (constantI S_ 32 0#32),
  TRef.unary φ.call1.c_2 φ.call1.v6 (broadcastInDim S2048x1 ![] bcast_S_S2048x1),
  TRef.binary φ.call1.v5 φ.call1.v6 φ.call1.v7 (cmpi .sge),
  TRef.unary φ.call1.c_1 φ.call1.v8 (broadcastInDim S1x1 ![1] bcast_S1_S1x1_1),
  TRef.unary φ.call1.v8 φ.call1.v9 (broadcastInDim S2048x1 ![0, 1] bcast_S1x1_S2048x1_0_1),
  TRef.binary φ.call1.v5 φ.call1.v9 φ.call1.v10 (cmpi .sle),
  TRef.binary φ.call1.v7 φ.call1.v10 φ.call1.v11 andi,
  TRef.nullary φ.call1.c_3 (constantI S_ 1 1#1),
  TRef.binary φ.call1.v11 φ.call1.c_3 φ.call1.v12 (fun x v => Host.reduce IntOp.andi x v reducesTo_S2048x1_S2048_d1 h_S_),
  TRef.binary a0 φ.call1.v5 φ.call1.v13 (fun x i => Host.gather gather_S1024x1024_S2048x1_S2048x1024_1_0_n_n_0_1_11024 x i),
  TRef.unary φ.call1.v12 φ.call1.v14 (broadcastInDim S2048x1024 ![0] bcast_S2048_S2048x1024_0),
  TRef.nullary φ.call1.cst (constant S_ .f32 0x7FC00000#32),
  TRef.unary φ.call1.cst φ.call1.v15 (broadcastInDim S2048x1024 ![] bcast_S_S2048x1024),
  TRef.ternary φ.call1.v14 φ.call1.v13 φ.call1.v15 φ.call1.v16 select,
  TRef.binary a2 φ.call1.v16 φ.v16 subf,
  TRef.binary φ.v16 φ.v16 φ.v17 mulf,
  TRef.nullary φ.cst_2 (constant S_ .f32 0x00000000#32),
  TRef.binary φ.v17 φ.cst_2 φ.v18 (fun x v => Host.reduceAdd x v reducesTo_S2048x1024_S_d0_1 h_S_),
  TRef.nullary φ.cst_3 (constant S_ .f32 0x4A000000#32),
  TRef.binary φ.v18 φ.cst_3 φ.v19 Host.divf,
  TRef.nullary φ.cst_4 (constant S_ .f32 0x3E800000#32),
  TRef.binary φ.cst_4 φ.v19 φ.v20 mulf,
  TRef.binary a2 φ.call1.v16 φ.v21 subf,
  TRef.binary φ.v21 φ.v21 φ.v22 mulf,
  TRef.nullary φ.cst_5 (constant S_ .f32 0x00000000#32),
  TRef.binary φ.v22 φ.cst_5 φ.v23 (fun x v => Host.reduceAdd x v reducesTo_S2048x1024_S_d0_1 h_S_),
  TRef.nullary φ.cst_6 (constant S_ .f32 0x4A000000#32),
  TRef.binary φ.v23 φ.cst_6 φ.v24 Host.divf,
  TRef.binary φ.v20 φ.v24 φ.v25 addf,
  TRef.binary φ.call1.v16 a2 φ.v26 subf,
  TRef.binary a2 φ.v26 φ.v27 addf,
  TRef.binary a3 φ.v27 φ.v28 addf,
  TRef.binary a1 φ.v28 φ.v29 subf]

/-- The buffers one level writes, in order. -/
def levelRefs (φ : fn_level.Bufs) : List (Ref sig .tc) :=
  [φ.v0.ref, φ.cst.ref, φ.v1.ref, φ.v2.ref, φ.cst_0.ref, φ.v3.ref, φ.v4.ref, φ.v5.ref, φ.v6.ref, φ.v7.ref, φ.v8.ref, φ.v9.ref, φ.cst_1.ref, φ.v10.ref, φ.v11.ref, φ.v12.ref, φ.v13.ref, φ.call0.v0.ref, φ.call0.cst.ref, φ.call0.c.ref, φ.call0.v1_0.ref, φ.call0.v1_1.ref, φ.call1.c.ref, φ.call1.v0.ref, φ.call1.v1.ref, φ.call1.c_0.ref, φ.call1.v2.ref, φ.call1.v3.ref, φ.call1.call0.v0.ref, φ.call1.v5.ref, φ.call1.c_1.ref, φ.call1.c_2.ref, φ.call1.v6.ref, φ.call1.v7.ref, φ.call1.v8.ref, φ.call1.v9.ref, φ.call1.v10.ref, φ.call1.v11.ref, φ.call1.c_3.ref, φ.call1.v12.ref, φ.call1.v13.ref, φ.call1.v14.ref, φ.call1.cst.ref, φ.call1.v15.ref, φ.call1.v16.ref, φ.v16.ref, φ.v17.ref, φ.cst_2.ref, φ.v18.ref, φ.cst_3.ref, φ.v19.ref, φ.cst_4.ref, φ.v20.ref, φ.v21.ref, φ.v22.ref, φ.cst_5.ref, φ.v23.ref, φ.cst_6.ref, φ.v24.ref, φ.v25.ref, φ.v26.ref, φ.v27.ref, φ.v28.ref, φ.v29.ref]

/-- The encoder, the zero sum and the first codebook. -/
def encOps : List (HloOp τ sig (Elt F)) := [
  reshape main_arg0 main_v0 (rfl : (.f32 : EltTy) = .f32) shapeCasts_S2048x16x32_S2048x512,
  binary main_v0 main_arg1 main_v1 ((fun l r => Host.dotGeneral dot_S2048x512_S512x1024_S2048x1024_1_0_0_1_n_n none l r) : (⟨S2048x512, .f32⟩ : BufTy).Contents (Elt F) → (⟨S512x1024, .f32⟩ : BufTy).Contents (Elt F) → (⟨S2048x1024, .f32⟩ : BufTy).Contents (Elt F)),
  unary main_arg2 main_v2 (broadcastInDim S1x1024 ![1] bcast_S1024_S1x1024_1 : (⟨S1024, .f32⟩ : BufTy).Contents (Elt F) → (⟨S1x1024, .f32⟩ : BufTy).Contents (Elt F)),
  unary main_v2 main_v3 (broadcastInDim S2048x1024 ![0, 1] bcast_S1x1024_S2048x1024_0_1 : (⟨S1x1024, .f32⟩ : BufTy).Contents (Elt F) → (⟨S2048x1024, .f32⟩ : BufTy).Contents (Elt F)),
  binary main_v1 main_v3 main_v4 (addf : (⟨S2048x1024, .f32⟩ : BufTy).Contents (Elt F) → (⟨S2048x1024, .f32⟩ : BufTy).Contents (Elt F) → (⟨S2048x1024, .f32⟩ : BufTy).Contents (Elt F)),
  nullary main_cst (constant S_ .f32 0x00000000#32),
  unary main_cst main_v5 (broadcastInDim S2048x1024 ![] bcast_S_S2048x1024 : (⟨S_, .f32⟩ : BufTy).Contents (Elt F) → (⟨S2048x1024, .f32⟩ : BufTy).Contents (Elt F)),
  binary main_v4 main_v5 main_v6 (maximumf : (⟨S2048x1024, .f32⟩ : BufTy).Contents (Elt F) → (⟨S2048x1024, .f32⟩ : BufTy).Contents (Elt F) → (⟨S2048x1024, .f32⟩ : BufTy).Contents (Elt F)),
  binary main_v6 main_arg3 main_v7 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
  unary main_arg4 main_v8 (broadcastInDim S1x1024 ![1] bcast_S1024_S1x1024_1 : (⟨S1024, .f32⟩ : BufTy).Contents (Elt F) → (⟨S1x1024, .f32⟩ : BufTy).Contents (Elt F)),
  unary main_v8 main_v9 (broadcastInDim S2048x1024 ![0, 1] bcast_S1x1024_S2048x1024_0_1 : (⟨S1x1024, .f32⟩ : BufTy).Contents (Elt F) → (⟨S2048x1024, .f32⟩ : BufTy).Contents (Elt F)),
  binary main_v7 main_v9 main_v10 (addf : (⟨S2048x1024, .f32⟩ : BufTy).Contents (Elt F) → (⟨S2048x1024, .f32⟩ : BufTy).Contents (Elt F) → (⟨S2048x1024, .f32⟩ : BufTy).Contents (Elt F)),
  nullary main_cst_0 (constant S_ .f32 0x00000000#32),
  unary main_cst_0 main_v11 (broadcastInDim S2048x1024 ![] bcast_S_S2048x1024 : (⟨S_, .f32⟩ : BufTy).Contents (Elt F) → (⟨S2048x1024, .f32⟩ : BufTy).Contents (Elt F)),
  binary main_v10 main_v11 main_v12 (maximumf : (⟨S2048x1024, .f32⟩ : BufTy).Contents (Elt F) → (⟨S2048x1024, .f32⟩ : BufTy).Contents (Elt F) → (⟨S2048x1024, .f32⟩ : BufTy).Contents (Elt F)),
  binary main_v12 main_arg5 main_v13 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
  unary main_arg6 main_v14 (broadcastInDim S1x1024 ![1] bcast_S1024_S1x1024_1 : (⟨S1024, .f32⟩ : BufTy).Contents (Elt F) → (⟨S1x1024, .f32⟩ : BufTy).Contents (Elt F)),
  unary main_v14 main_v15 (broadcastInDim S2048x1024 ![0, 1] bcast_S1x1024_S2048x1024_0_1 : (⟨S1x1024, .f32⟩ : BufTy).Contents (Elt F) → (⟨S2048x1024, .f32⟩ : BufTy).Contents (Elt F)),
  binary main_v13 main_v15 main_v16 (addf : (⟨S2048x1024, .f32⟩ : BufTy).Contents (Elt F) → (⟨S2048x1024, .f32⟩ : BufTy).Contents (Elt F) → (⟨S2048x1024, .f32⟩ : BufTy).Contents (Elt F)),
  nullary main_cst_1 (constant S_ .f32 0x00000000#32),
  unary main_cst_1 main_v17 (broadcastInDim S2048x1024 ![] bcast_S_S2048x1024 : (⟨S_, .f32⟩ : BufTy).Contents (Elt F) → (⟨S2048x1024, .f32⟩ : BufTy).Contents (Elt F)),
  unary main_arg13 main_v18 ((extractStridedSlice S1x1024x1024 ![0, 0, 0] · slices_S8x1024x1024_S1x1024x1024_0_0_0) : (⟨S8x1024x1024, .f32⟩ : BufTy).Contents (Elt F) → (⟨S1x1024x1024, .f32⟩ : BufTy).Contents (Elt F)),
  reshape main_v18 main_v19 (rfl : (.f32 : EltTy) = .f32) shapeCasts_S1x1024x1024_S1024x1024]

/-- The loss so far and the next codebook, after level 0. -/
def midOps0 : List (HloOp τ sig (Elt F)) := [
  nullary main_cst_2 (constant S_ .f32 0x00000000#32),
  binary main_cst_2 main_v20_1 main_v21 (addf : (⟨S_, .f32⟩ : BufTy).Contents (Elt F) → (⟨S_, .f32⟩ : BufTy).Contents (Elt F) → (⟨S_, .f32⟩ : BufTy).Contents (Elt F)),
  unary main_arg13 main_v22 ((extractStridedSlice S1x1024x1024 ![1, 0, 0] · slices_S8x1024x1024_S1x1024x1024_1_0_0) : (⟨S8x1024x1024, .f32⟩ : BufTy).Contents (Elt F) → (⟨S1x1024x1024, .f32⟩ : BufTy).Contents (Elt F)),
  reshape main_v22 main_v23 (rfl : (.f32 : EltTy) = .f32) shapeCasts_S1x1024x1024_S1024x1024]

/-- The loss so far and the next codebook, after level 1. -/
def midOps1 : List (HloOp τ sig (Elt F)) := [
  binary main_v21 main_v24_1 main_v25 (addf : (⟨S_, .f32⟩ : BufTy).Contents (Elt F) → (⟨S_, .f32⟩ : BufTy).Contents (Elt F) → (⟨S_, .f32⟩ : BufTy).Contents (Elt F)),
  unary main_arg13 main_v26 ((extractStridedSlice S1x1024x1024 ![2, 0, 0] · slices_S8x1024x1024_S1x1024x1024_2_0_0) : (⟨S8x1024x1024, .f32⟩ : BufTy).Contents (Elt F) → (⟨S1x1024x1024, .f32⟩ : BufTy).Contents (Elt F)),
  reshape main_v26 main_v27 (rfl : (.f32 : EltTy) = .f32) shapeCasts_S1x1024x1024_S1024x1024]

/-- The loss so far and the next codebook, after level 2. -/
def midOps2 : List (HloOp τ sig (Elt F)) := [
  binary main_v25 main_v28_1 main_v29 (addf : (⟨S_, .f32⟩ : BufTy).Contents (Elt F) → (⟨S_, .f32⟩ : BufTy).Contents (Elt F) → (⟨S_, .f32⟩ : BufTy).Contents (Elt F)),
  unary main_arg13 main_v30 ((extractStridedSlice S1x1024x1024 ![3, 0, 0] · slices_S8x1024x1024_S1x1024x1024_3_0_0) : (⟨S8x1024x1024, .f32⟩ : BufTy).Contents (Elt F) → (⟨S1x1024x1024, .f32⟩ : BufTy).Contents (Elt F)),
  reshape main_v30 main_v31 (rfl : (.f32 : EltTy) = .f32) shapeCasts_S1x1024x1024_S1024x1024]

/-- The loss so far and the next codebook, after level 3. -/
def midOps3 : List (HloOp τ sig (Elt F)) := [
  binary main_v29 main_v32_1 main_v33 (addf : (⟨S_, .f32⟩ : BufTy).Contents (Elt F) → (⟨S_, .f32⟩ : BufTy).Contents (Elt F) → (⟨S_, .f32⟩ : BufTy).Contents (Elt F)),
  unary main_arg13 main_v34 ((extractStridedSlice S1x1024x1024 ![4, 0, 0] · slices_S8x1024x1024_S1x1024x1024_4_0_0) : (⟨S8x1024x1024, .f32⟩ : BufTy).Contents (Elt F) → (⟨S1x1024x1024, .f32⟩ : BufTy).Contents (Elt F)),
  reshape main_v34 main_v35 (rfl : (.f32 : EltTy) = .f32) shapeCasts_S1x1024x1024_S1024x1024]

/-- The loss so far and the next codebook, after level 4. -/
def midOps4 : List (HloOp τ sig (Elt F)) := [
  binary main_v33 main_v36_1 main_v37 (addf : (⟨S_, .f32⟩ : BufTy).Contents (Elt F) → (⟨S_, .f32⟩ : BufTy).Contents (Elt F) → (⟨S_, .f32⟩ : BufTy).Contents (Elt F)),
  unary main_arg13 main_v38 ((extractStridedSlice S1x1024x1024 ![5, 0, 0] · slices_S8x1024x1024_S1x1024x1024_5_0_0) : (⟨S8x1024x1024, .f32⟩ : BufTy).Contents (Elt F) → (⟨S1x1024x1024, .f32⟩ : BufTy).Contents (Elt F)),
  reshape main_v38 main_v39 (rfl : (.f32 : EltTy) = .f32) shapeCasts_S1x1024x1024_S1024x1024]

/-- The loss so far and the next codebook, after level 5. -/
def midOps5 : List (HloOp τ sig (Elt F)) := [
  binary main_v37 main_v40_1 main_v41 (addf : (⟨S_, .f32⟩ : BufTy).Contents (Elt F) → (⟨S_, .f32⟩ : BufTy).Contents (Elt F) → (⟨S_, .f32⟩ : BufTy).Contents (Elt F)),
  unary main_arg13 main_v42 ((extractStridedSlice S1x1024x1024 ![6, 0, 0] · slices_S8x1024x1024_S1x1024x1024_6_0_0) : (⟨S8x1024x1024, .f32⟩ : BufTy).Contents (Elt F) → (⟨S1x1024x1024, .f32⟩ : BufTy).Contents (Elt F)),
  reshape main_v42 main_v43 (rfl : (.f32 : EltTy) = .f32) shapeCasts_S1x1024x1024_S1024x1024]

/-- The loss so far and the next codebook, after level 6. -/
def midOps6 : List (HloOp τ sig (Elt F)) := [
  binary main_v41 main_v44_1 main_v45 (addf : (⟨S_, .f32⟩ : BufTy).Contents (Elt F) → (⟨S_, .f32⟩ : BufTy).Contents (Elt F) → (⟨S_, .f32⟩ : BufTy).Contents (Elt F)),
  unary main_arg13 main_v46 ((extractStridedSlice S1x1024x1024 ![7, 0, 0] · slices_S8x1024x1024_S1x1024x1024_7_0_0) : (⟨S8x1024x1024, .f32⟩ : BufTy).Contents (Elt F) → (⟨S1x1024x1024, .f32⟩ : BufTy).Contents (Elt F)),
  reshape main_v46 main_v47 (rfl : (.f32 : EltTy) = .f32) shapeCasts_S1x1024x1024_S1024x1024]

/-- The last loss, the indices side by side, the decoder and the total loss. -/
def decOps : List (HloOp τ sig (Elt F)) := [
  binary main_v45 main_v48_1 main_v49 (addf : (⟨S_, .f32⟩ : BufTy).Contents (Elt F) → (⟨S_, .f32⟩ : BufTy).Contents (Elt F) → (⟨S_, .f32⟩ : BufTy).Contents (Elt F)),
  unary main_v20_0 main_v50 (broadcastInDim S2048x1 ![0] bcast_S2048_S2048x1_0 : (⟨S2048, .i32⟩ : BufTy).Contents (Elt F) → (⟨S2048x1, .i32⟩ : BufTy).Contents (Elt F)),
  unary main_v24_0 main_v51 (broadcastInDim S2048x1 ![0] bcast_S2048_S2048x1_0 : (⟨S2048, .i32⟩ : BufTy).Contents (Elt F) → (⟨S2048x1, .i32⟩ : BufTy).Contents (Elt F)),
  unary main_v28_0 main_v52 (broadcastInDim S2048x1 ![0] bcast_S2048_S2048x1_0 : (⟨S2048, .i32⟩ : BufTy).Contents (Elt F) → (⟨S2048x1, .i32⟩ : BufTy).Contents (Elt F)),
  unary main_v32_0 main_v53 (broadcastInDim S2048x1 ![0] bcast_S2048_S2048x1_0 : (⟨S2048, .i32⟩ : BufTy).Contents (Elt F) → (⟨S2048x1, .i32⟩ : BufTy).Contents (Elt F)),
  unary main_v36_0 main_v54 (broadcastInDim S2048x1 ![0] bcast_S2048_S2048x1_0 : (⟨S2048, .i32⟩ : BufTy).Contents (Elt F) → (⟨S2048x1, .i32⟩ : BufTy).Contents (Elt F)),
  unary main_v40_0 main_v55 (broadcastInDim S2048x1 ![0] bcast_S2048_S2048x1_0 : (⟨S2048, .i32⟩ : BufTy).Contents (Elt F) → (⟨S2048x1, .i32⟩ : BufTy).Contents (Elt F)),
  unary main_v44_0 main_v56 (broadcastInDim S2048x1 ![0] bcast_S2048_S2048x1_0 : (⟨S2048, .i32⟩ : BufTy).Contents (Elt F) → (⟨S2048x1, .i32⟩ : BufTy).Contents (Elt F)),
  unary main_v48_0 main_v57 (broadcastInDim S2048x1 ![0] bcast_S2048_S2048x1_0 : (⟨S2048, .i32⟩ : BufTy).Contents (Elt F) → (⟨S2048x1, .i32⟩ : BufTy).Contents (Elt F)),
  nary ![main_v50, main_v51, main_v52, main_v53, main_v54, main_v55, main_v56, main_v57] main_v58 (fun u => (concatenate S2048x8 1 [⟨S2048x1, (u 0 : (⟨S2048x1, .i32⟩ : BufTy).Contents (Elt F))⟩, ⟨S2048x1, (u 1 : (⟨S2048x1, .i32⟩ : BufTy).Contents (Elt F))⟩, ⟨S2048x1, (u 2 : (⟨S2048x1, .i32⟩ : BufTy).Contents (Elt F))⟩, ⟨S2048x1, (u 3 : (⟨S2048x1, .i32⟩ : BufTy).Contents (Elt F))⟩, ⟨S2048x1, (u 4 : (⟨S2048x1, .i32⟩ : BufTy).Contents (Elt F))⟩, ⟨S2048x1, (u 5 : (⟨S2048x1, .i32⟩ : BufTy).Contents (Elt F))⟩, ⟨S2048x1, (u 6 : (⟨S2048x1, .i32⟩ : BufTy).Contents (Elt F))⟩, ⟨S2048x1, (u 7 : (⟨S2048x1, .i32⟩ : BufTy).Contents (Elt F))⟩] concatenates_S2048x1_S2048x1_S2048x1_S2048x1_S2048x1_S2048x1_S2048x1_S2048x1_S2048x8_d1 : (⟨S2048x8, .i32⟩ : BufTy).Contents (Elt F))),
  binary main_v48_2 main_arg7 main_v59 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
  unary main_arg8 main_v60 (broadcastInDim S1x1024 ![1] bcast_S1024_S1x1024_1 : (⟨S1024, .f32⟩ : BufTy).Contents (Elt F) → (⟨S1x1024, .f32⟩ : BufTy).Contents (Elt F)),
  unary main_v60 main_v61 (broadcastInDim S2048x1024 ![0, 1] bcast_S1x1024_S2048x1024_0_1 : (⟨S1x1024, .f32⟩ : BufTy).Contents (Elt F) → (⟨S2048x1024, .f32⟩ : BufTy).Contents (Elt F)),
  binary main_v59 main_v61 main_v62 (addf : (⟨S2048x1024, .f32⟩ : BufTy).Contents (Elt F) → (⟨S2048x1024, .f32⟩ : BufTy).Contents (Elt F) → (⟨S2048x1024, .f32⟩ : BufTy).Contents (Elt F)),
  nullary main_cst_3 (constant S_ .f32 0x00000000#32),
  unary main_cst_3 main_v63 (broadcastInDim S2048x1024 ![] bcast_S_S2048x1024 : (⟨S_, .f32⟩ : BufTy).Contents (Elt F) → (⟨S2048x1024, .f32⟩ : BufTy).Contents (Elt F)),
  binary main_v62 main_v63 main_v64 (maximumf : (⟨S2048x1024, .f32⟩ : BufTy).Contents (Elt F) → (⟨S2048x1024, .f32⟩ : BufTy).Contents (Elt F) → (⟨S2048x1024, .f32⟩ : BufTy).Contents (Elt F)),
  binary main_v64 main_arg9 main_v65 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
  unary main_arg10 main_v66 (broadcastInDim S1x1024 ![1] bcast_S1024_S1x1024_1 : (⟨S1024, .f32⟩ : BufTy).Contents (Elt F) → (⟨S1x1024, .f32⟩ : BufTy).Contents (Elt F)),
  unary main_v66 main_v67 (broadcastInDim S2048x1024 ![0, 1] bcast_S1x1024_S2048x1024_0_1 : (⟨S1x1024, .f32⟩ : BufTy).Contents (Elt F) → (⟨S2048x1024, .f32⟩ : BufTy).Contents (Elt F)),
  binary main_v65 main_v67 main_v68 (addf : (⟨S2048x1024, .f32⟩ : BufTy).Contents (Elt F) → (⟨S2048x1024, .f32⟩ : BufTy).Contents (Elt F) → (⟨S2048x1024, .f32⟩ : BufTy).Contents (Elt F)),
  nullary main_cst_4 (constant S_ .f32 0x00000000#32),
  unary main_cst_4 main_v69 (broadcastInDim S2048x1024 ![] bcast_S_S2048x1024 : (⟨S_, .f32⟩ : BufTy).Contents (Elt F) → (⟨S2048x1024, .f32⟩ : BufTy).Contents (Elt F)),
  binary main_v68 main_v69 main_v70 (maximumf : (⟨S2048x1024, .f32⟩ : BufTy).Contents (Elt F) → (⟨S2048x1024, .f32⟩ : BufTy).Contents (Elt F) → (⟨S2048x1024, .f32⟩ : BufTy).Contents (Elt F)),
  binary main_v70 main_arg11 main_v71 ((fun l r => Host.dotGeneral dot_S2048x1024_S1024x512_S2048x512_1_0_0_1_n_n none l r) : (⟨S2048x1024, .f32⟩ : BufTy).Contents (Elt F) → (⟨S1024x512, .f32⟩ : BufTy).Contents (Elt F) → (⟨S2048x512, .f32⟩ : BufTy).Contents (Elt F)),
  unary main_arg12 main_v72 (broadcastInDim S1x512 ![1] bcast_S512_S1x512_1 : (⟨S512, .f32⟩ : BufTy).Contents (Elt F) → (⟨S1x512, .f32⟩ : BufTy).Contents (Elt F)),
  unary main_v72 main_v73 (broadcastInDim S2048x512 ![0, 1] bcast_S1x512_S2048x512_0_1 : (⟨S1x512, .f32⟩ : BufTy).Contents (Elt F) → (⟨S2048x512, .f32⟩ : BufTy).Contents (Elt F)),
  binary main_v71 main_v73 main_v74 (addf : (⟨S2048x512, .f32⟩ : BufTy).Contents (Elt F) → (⟨S2048x512, .f32⟩ : BufTy).Contents (Elt F) → (⟨S2048x512, .f32⟩ : BufTy).Contents (Elt F)),
  reshape main_v74 main_v75 (rfl : (.f32 : EltTy) = .f32) shapeCasts_S2048x512_S2048x16x32,
  binary main_v74 main_v0 main_v76 (subf : (⟨S2048x512, .f32⟩ : BufTy).Contents (Elt F) → (⟨S2048x512, .f32⟩ : BufTy).Contents (Elt F) → (⟨S2048x512, .f32⟩ : BufTy).Contents (Elt F)),
  binary main_v76 main_v76 main_v77 (mulf : (⟨S2048x512, .f32⟩ : BufTy).Contents (Elt F) → (⟨S2048x512, .f32⟩ : BufTy).Contents (Elt F) → (⟨S2048x512, .f32⟩ : BufTy).Contents (Elt F)),
  nullary main_cst_5 (constant S_ .f32 0x00000000#32),
  binary main_v77 main_cst_5 main_v78 ((fun x v => Host.reduceAdd x v reducesTo_S2048x512_S_d0_1 h_S_) : (⟨S2048x512, .f32⟩ : BufTy).Contents (Elt F) → (⟨S_, .f32⟩ : BufTy).Contents (Elt F) → (⟨S_, .f32⟩ : BufTy).Contents (Elt F)),
  nullary main_cst_6 (constant S_ .f32 0x49800000#32),
  binary main_v78 main_cst_6 main_v79 (Host.divf : (⟨S_, .f32⟩ : BufTy).Contents (Elt F) → (⟨S_, .f32⟩ : BufTy).Contents (Elt F) → (⟨S_, .f32⟩ : BufTy).Contents (Elt F)),
  binary main_v49 main_v79 main_v80 (addf : (⟨S_, .f32⟩ : BufTy).Contents (Elt F) → (⟨S_, .f32⟩ : BufTy).Contents (Elt F) → (⟨S_, .f32⟩ : BufTy).Contents (Elt F))]

/-- @main's operations. -/
def ops : List (HloOp τ sig (Elt F)) :=
  encOps
    ++ (levelOps (.of main_v19) (.of main_v16) (.of main_v16) (.of main_v17) main_call0
    ++ (midOps0
    ++ (levelOps (.of main_v23) (.of main_v16) (.of main_v20_3) (.of main_v20_2) main_call1
    ++ (midOps1
    ++ (levelOps (.of main_v27) (.of main_v16) (.of main_v24_3) (.of main_v24_2) main_call2
    ++ (midOps2
    ++ (levelOps (.of main_v31) (.of main_v16) (.of main_v28_3) (.of main_v28_2) main_call3
    ++ (midOps3
    ++ (levelOps (.of main_v35) (.of main_v16) (.of main_v32_3) (.of main_v32_2) main_call4
    ++ (midOps4
    ++ (levelOps (.of main_v39) (.of main_v16) (.of main_v36_3) (.of main_v36_2) main_call5
    ++ (midOps5
    ++ (levelOps (.of main_v43) (.of main_v16) (.of main_v40_3) (.of main_v40_2) main_call6
    ++ (midOps6
    ++ (levelOps (.of main_v47) (.of main_v16) (.of main_v44_3) (.of main_v44_2) main_call7
    ++ (decOps))))))))))))))))

set_option maxHeartbeats 8000000 in
/-- A level's body is its line. -/
theorem level_eq (a0 : TRef sig ⟨S1024x1024, .f32⟩) (a1 a2 a3 : TRef sig ⟨S2048x1024, .f32⟩) (φ : fn_level.Bufs) :
    fn_level.body (F := F) a0 a1 a2 a3 φ = seq (levelOps a0 a1 a2 a3 φ) := rfl

set_option maxHeartbeats 40000000 in
/-- @main is its line. -/
theorem main_eq (d : Dev nD) : main (F := F) d = seq ops := rfl

end Cert.ReferenceIdeal.Mine

end
-- ==== Proof.RefChain.lean ====
/-
  The reference's line of operations is a chain, so its run ends in one valuation of which every operation's equation holds.
-/
module

public import proofs.«01_k».proof.Proof.RefOps

@[expose] public section

set_option maxRecDepth 16384

noncomputable section

namespace Cert.ReferenceIdeal.Mine

open Cert.ReferenceIdeal Cert.ReferenceIdeal.Gen Cert.Mine

open Idealize.ShloMosaic Idealize.ShloMosaic.StableHlo Idealize.SL.Sem
open Idealize.ShloMosaic.TcCoe

variable {F : FTy → Type} [FloatOps F]

set_option maxHeartbeats 8000000 in
/-- A level's line is a chain when its buffers are numbered in order, after its arguments. -/
theorem level_chain (a0 : TRef sig ⟨S1024x1024, .f32⟩) (a1 a2 a3 : TRef sig ⟨S2048x1024, .f32⟩) (φ : fn_level.Bufs) {s : ℕ}
    (h : (levelRefs φ).map numR = List.range' s 64) (h0 : numR a0.ref < s) (h1 : numR a1.ref < s) (h2 : numR a2.ref < s)
    (h3 : numR a3.ref < s) : Chain s (levelOps (F := F) a0 a1 a2 a3 φ) (s + 64) := by
  simp only [levelRefs, List.map_cons, List.map_nil, List.range', List.cons.injEq] at h
  simp only [levelOps, Chain]
  repeat' first
    | apply step_nullary | apply step_unary | apply step_binary | apply step_ternary | apply step_quaternary | apply And.intro
  all_goals first
    | (clear h; omega)
    | (simp only [h]; done)
    | (simp only [h]; clear h; omega)

set_option maxHeartbeats 8000000 in
/-- The encoder's line is a chain. -/
theorem enc_chain : Chain 14 (encOps (F := F)) 37 := by
  simp only [encOps, Chain]
  repeat' first
    | apply step_nullary | apply step_unary | apply step_binary | apply step_reshape | apply And.intro
  all_goals decide

set_option maxHeartbeats 8000000 in
/-- The decoder's line is a chain. -/
theorem dec_chain : Chain 571 (decOps (F := F)) 607 := by
  simp only [decOps, Chain]
  repeat' first
    | apply step_nullary | apply step_unary | apply step_binary | apply step_reshape | apply step_nary | apply And.intro
  all_goals decide

/-- A step between levels is a chain. -/
theorem mid_chain0 : Chain 101 (midOps0 (F := F)) 105 := by
  simp only [midOps0, Chain]
  repeat' first
    | apply step_nullary | apply step_unary | apply step_binary | apply step_reshape | apply And.intro
  all_goals decide

/-- A step between levels is a chain. -/
theorem mid_chain1 : Chain 169 (midOps1 (F := F)) 172 := by
  simp only [midOps1, Chain]
  repeat' first
    | apply step_nullary | apply step_unary | apply step_binary | apply step_reshape | apply And.intro
  all_goals decide

/-- A step between levels is a chain. -/
theorem mid_chain2 : Chain 236 (midOps2 (F := F)) 239 := by
  simp only [midOps2, Chain]
  repeat' first
    | apply step_nullary | apply step_unary | apply step_binary | apply step_reshape | apply And.intro
  all_goals decide

/-- A step between levels is a chain. -/
theorem mid_chain3 : Chain 303 (midOps3 (F := F)) 306 := by
  simp only [midOps3, Chain]
  repeat' first
    | apply step_nullary | apply step_unary | apply step_binary | apply step_reshape | apply And.intro
  all_goals decide

/-- A step between levels is a chain. -/
theorem mid_chain4 : Chain 370 (midOps4 (F := F)) 373 := by
  simp only [midOps4, Chain]
  repeat' first
    | apply step_nullary | apply step_unary | apply step_binary | apply step_reshape | apply And.intro
  all_goals decide

/-- A step between levels is a chain. -/
theorem mid_chain5 : Chain 437 (midOps5 (F := F)) 440 := by
  simp only [midOps5, Chain]
  repeat' first
    | apply step_nullary | apply step_unary | apply step_binary | apply step_reshape | apply And.intro
  all_goals decide

/-- A step between levels is a chain. -/
theorem mid_chain6 : Chain 504 (midOps6 (F := F)) 507 := by
  simp only [midOps6, Chain]
  repeat' first
    | apply step_nullary | apply step_unary | apply step_binary | apply step_reshape | apply And.intro
  all_goals decide

/-- @main's line is a chain, from the first buffer after the arguments to the last. -/
theorem ops_chain : Chain 14 (ops (F := F)) 607 :=
  enc_chain.append
    ((level_chain _ _ _ _ main_call0 (s := 37) (by decide) (by decide) (by decide) (by decide) (by decide)).append
    (mid_chain0.append
    ((level_chain _ _ _ _ main_call1 (s := 105) (by decide) (by decide) (by decide) (by decide) (by decide)).append
    (mid_chain1.append
    ((level_chain _ _ _ _ main_call2 (s := 172) (by decide) (by decide) (by decide) (by decide) (by decide)).append
    (mid_chain2.append
    ((level_chain _ _ _ _ main_call3 (s := 239) (by decide) (by decide) (by decide) (by decide) (by decide)).append
    (mid_chain3.append
    ((level_chain _ _ _ _ main_call4 (s := 306) (by decide) (by decide) (by decide) (by decide) (by decide)).append
    (mid_chain4.append
    ((level_chain _ _ _ _ main_call5 (s := 373) (by decide) (by decide) (by decide) (by decide) (by decide)).append
    (mid_chain5.append
    ((level_chain _ _ _ _ main_call6 (s := 440) (by decide) (by decide) (by decide) (by decide) (by decide)).append
    (mid_chain6.append
    ((level_chain _ _ _ _ main_call7 (s := 507) (by decide) (by decide) (by decide) (by decide) (by decide)).append
    (dec_chain))))))))))))))))

/-- No buffer is scoped. -/
theorem scopedRefs_eq : (Finset.univ.filter fun b : Ref sig .tc => b.isScoped) = ∅ := by decide +kernel

/-- No semaphore is scoped. -/
theorem scopedSems_eq : (Finset.univ.filter fun sm : SemLoc sig => sm.isScoped .tc) = ∅ := by decide +kernel

variable (m : (ℓ : Loc nD τ sig) → Buf (Elt F) ℓ) (ρ : Dev nD → PrngReg)

/-- The valuation at the end. -/
def fin (c : Dev nD) : Valuation τ sig (Elt F) := after ops (launchContents m c)

/-- The reference's run: every buffer at the fold of the operations. -/
theorem run_main : θ_run defs (onTc (τ := τ) (main (F := F))) ⟨m, fun _ => 0, ρ⟩ (fun r =>
    ∀ (c : Dev nD) (b : Ref sig .tc), r.2.mem ((c.tc : Thread nD τ).loc b) = fin m c (Proc.devRef .tc b)) :=
  run_seq scopedRefs_eq scopedSems_eq defs main (fun _ => ops) main_eq
    (fun _ => List.forall_iff_forall_mem.2 (ops_chain.forall fun _ _ h => h.near)) m ρ (fun _ => ops_chain.forall fun _ _ h => h.decided)

/-- Every operation's equation holds at the end. -/
theorem fin_holds (c : Dev nD) : ∀ op ∈ ops (F := F), Holds (fin m c) op := ops_chain.holds _

/-- An argument ends as launched. -/
theorem fin_arg (c : Dev nD) (b : Ref sig .tc) (hb : numR b < 14) : fin m c (Proc.devRef .tc b) = m ((c.tc : Thread nD τ).loc b) :=
  ops_chain.low _ _ hb

end Cert.ReferenceIdeal.Mine

end
-- ==== Proof.RefFrame.lean ====
/-
  The reference's frame: its run leaves every argument as launched, and it declares no semaphore.
-/
module

public import proofs.«01_k».proof.Proof.RefChain
public import proofs.«01_k».proof.Defs
public import Idealize.ShloMosaic.Lib.Quiescent

@[expose] public section

set_option maxRecDepth 16384

noncomputable section

namespace Cert.ReferenceIdeal.Mine

open Cert.ReferenceIdeal Cert.ReferenceIdeal.Gen Cert.Mine

open Idealize.ShloMosaic Idealize.ShloMosaic.StableHlo Idealize.SL.Sem
open Idealize.ShloMosaic.TcCoe

/-- The reference's frame. -/
theorem frame_ref : Cert.quiescent_ReferenceIdeal := by
  intro m g _
  refine (θ_run defs _ _).mono (fun r h => ⟨fun c => ?_, sem_eq_zero_of_no_sems (by decide) r.2⟩) (run_main m g)
  have k : ∀ b : Ref sig .tc, numR b < 14 → r.2.mem ((c.tc : Thread nD τ).loc b) = m ((c.tc : Thread nD τ).loc b) :=
    fun b hb => (h c b).trans (fin_arg m c b hb)
  exact ⟨k _ (by decide), k _ (by decide), k _ (by decide), k _ (by decide), k _ (by decide), k _ (by decide), k _ (by decide),
    k _ (by decide), k _ (by decide), k _ (by decide), k _ (by decide), k _ (by decide), k _ (by decide), k _ (by decide)⟩

end Cert.ReferenceIdeal.Mine

end
-- ==== Proof.Spec.lean ====
/-
  The mathematics of one row: the affine layers, the distances to a codebook, the nearest entry, and the running sum of
  nearest entries.
-/
module

public import Mathlib.Data.EReal.Inv
public import Mathlib.Algebra.BigOperators.Fin

@[expose] public section

noncomputable section

namespace Cert.Mine

open Finset

/-- An affine layer. -/
def lin {K N : ℕ} (x : Fin K → EReal) (W : Fin K → Fin N → EReal) (b : Fin N → EReal) (j : Fin N) : EReal := ∑ k, x k * W k j + b j

/-- The positive part. -/
def relu {N : ℕ} (x : Fin N → EReal) (j : Fin N) : EReal := max (x j) 0

/-- Three affine layers, the positive part after the first two. -/
def mlp {A B C D : ℕ} (x : Fin A → EReal) (W1 : Fin A → Fin B → EReal) (b1 : Fin B → EReal) (W2 : Fin B → Fin C → EReal) (b2 : Fin C → EReal)
    (W3 : Fin C → Fin D → EReal) (b3 : Fin D → EReal) : Fin D → EReal := lin (relu (lin (relu (lin x W1 b1)) W2 b2)) W3 b3

/-- A codebook: entry by entry. -/
abbrev Book := Fin 1024 → Fin 1024 → EReal

/-- The squared distance of a row to an entry, expanded. -/
def dist (r : Fin 1024 → EReal) (E : Book) (k : Fin 1024) : EReal := ∑ j, r j * r j - 2 * ∑ j, r j * E k j + ∑ j, E k j * E k j

/-- Entry `k` is the first of the least values. -/
def First (d : Fin 1024 → EReal) (k : Fin 1024) : Prop := (∀ i, d k ≤ d i) ∧ ∀ i, i < k → d k < d i

/-- There is a first of the least values. -/
theorem exists_first (d : Fin 1024 → EReal) : ∃ k, First d k := by
  obtain ⟨m, -, hm⟩ := Finset.exists_min_image Finset.univ d ⟨0, mem_univ _⟩
  have hne : (univ.filter fun k => d k = d m).Nonempty := ⟨m, mem_filter.2 ⟨mem_univ _, rfl⟩⟩
  refine ⟨(univ.filter fun k => d k = d m).min' hne, ?_, ?_⟩
  · intro i
    rw [(mem_filter.1 (min'_mem _ hne)).2]
    exact hm i (mem_univ _)
  · intro i hi
    rw [(mem_filter.1 (min'_mem _ hne)).2]
    refine lt_of_le_of_ne (hm i (mem_univ _)) fun e => ?_
    exact absurd (min'_le _ i (mem_filter.2 ⟨mem_univ _, e.symm⟩)) (not_le.2 hi)

/-- The first of the least values. -/
def first (d : Fin 1024 → EReal) : Fin 1024 := Classical.choose (exists_first d)

/-- The first least place is one. -/
theorem first_spec (d : Fin 1024 → EReal) : First d (first d) := Classical.choose_spec (exists_first d)

/-- The first of the least values is one. -/
theorem First.eq {d : Fin 1024 → EReal} {k : Fin 1024} (h : First d k) : k = first d := by
  have h' := first_spec d
  rcases lt_trichotomy k (first d) with hlt | rfl | hlt
  · exact absurd (h'.2 k hlt) (not_lt.2 (h.1 _))
  · rfl
  · exact absurd (h.2 _ hlt) (not_lt.2 (h'.1 _))

/-- The number of the entry nearest to a row. -/
def near (r : Fin 1024 → EReal) (E : Book) : Fin 1024 := first (dist r E)

/-- What is left of a row. -/
def left (z q : Fin 1024 → EReal) (j : Fin 1024) : EReal := z j - q j

/-- The sum with one more entry. -/
def more (z : Fin 1024 → EReal) (E : Book) (q : Fin 1024 → EReal) (j : Fin 1024) : EReal :=
  q j + (left z q j + (E (near (left z q) E) j - left z q j))

/-- The sum of the first `g` entries. -/
def sumTo (z : Fin 1024 → EReal) (E : ℕ → Book) : ℕ → Fin 1024 → EReal
  | 0 => fun _ => 0
  | g + 1 => more z (E g) (sumTo z E g)

/-- The number chosen at level `g`. -/
def pick (z : Fin 1024 → EReal) (E : ℕ → Book) (g : ℕ) : Fin 1024 := near (left z (sumTo z E g)) (E g)

/-- A row's squared error at level `g`. -/
def err (z : Fin 1024 → EReal) (E : ℕ → Book) (g : ℕ) : EReal :=
  ∑ j, (left z (sumTo z E g) j - E g (pick z E g) j) * (left z (sumTo z E g) j - E g (pick z E g) j)

end Cert.Mine

end
-- ==== Proof.Least.lean ====
/-
  The kernel's way to the nearest entry: the least distance, the least number of those reaching it, and the entry read off by
  a sum with one term.
-/
module

public import proofs.«01_k».proof.Proof.Spec
public import Idealize.ShloMosaic.Lib.Pointwise
public import Idealize.ShloMosaic.PureOps.Ideal.Laws
public import Idealize.ShloMosaic.Lib.SortNet.Extract

@[expose] public section

noncomputable section

namespace Cert.Mine

open Idealize.ShloMosaic Finset

/-- The least of the values is the value at the first of the least. -/
theorem fold_min_first (d : Fin 1024 → EReal) : Finset.fold min ⊤ d univ = d (first d) := by
  refine le_antisymm ((Finset.fold_min_le _).mpr (Or.inr ⟨first d, mem_univ _, le_refl _⟩)) ?_
  exact (Finset.le_fold_min _).mpr ⟨le_top, fun x _ => (first_spec d).1 x⟩

/-- A number below 1024, as a word, read back. -/
theorem toInt_num (k : Fin 1024) : (BitVec.ofNat 32 k.val).toInt = (k.val : ℤ) := by
  have := k.isLt
  simp only [BitVec.toInt_ofNat', Int.bmod]
  split_ifs <;> omega

/-- The least number of the entries where the flag is up, when the flag marks the least distances. -/
theorem fold_minsi_first (d : Fin 1024 → EReal) (h : Fin 1024 → BitVec 1) (hh : ∀ x, h x = BitVec.ofBool (decide (d x = d (first d)))) :
    Finset.fold IntOp.minsi 2147483647#32 (fun x : Fin 1024 => Scalar.select (h x) (BitVec.ofNat 32 x.val) 1024#32) univ = BitVec.ofNat 32 (first d).val := by
  apply BitVec.eq_of_toInt_eq
  have hhom := Finset.fold_hom (op := IntOp.minsi) (op' := (min : ℤ → ℤ → ℤ)) (m := BitVec.toInt) (b := 2147483647#32)
    (f := fun x : Fin 1024 => Scalar.select (h x) (BitVec.ofNat 32 x.val) 1024#32) (s := univ) (fun x y => SortNet.toInt_minsi x y)
  rw [← hhom, toInt_num]
  refine le_antisymm ((Finset.fold_min_le _).mpr (Or.inr ⟨first d, mem_univ _, ?_⟩)) ((Finset.le_fold_min _).mpr ⟨?_, fun x _ => ?_⟩)
  · rw [hh]
    simp [Scalar.select, toInt_num]
  · have := (first d).isLt
    rw [show (2147483647#32).toInt = 2147483647 from rfl]
    omega
  · by_cases hx : d x = d (first d)
    · have hle : (first d).val ≤ x.val := by
        by_contra hlt
        exact absurd hx ((first_spec d).2 x (by rw [Fin.lt_def]; omega)).ne'
      rw [hh, decide_eq_true hx]
      simpa [Scalar.select, toInt_num] using hle
    · have := (first d).isLt
      rw [hh, decide_eq_false hx]
      simp [Scalar.select]
      try omega

/-- The flag that two numbers are equal, as an extended real. -/
theorem flag_num (x k : Fin 1024) :
    (FloatOps.sitofp (F := Ideal) .bf16 (BitVec.setWidth 32 (IntOp.cmpi .eq (BitVec.ofNat 32 x.val) (BitVec.ofNat 32 k.val))) : EReal) = if x = k then 1 else 0 := by
  have hx := x.isLt
  have hk := k.isLt
  have he : (BitVec.ofNat 32 x.val = BitVec.ofNat 32 k.val) ↔ x = k := by
    constructor
    · intro h
      have h := congrArg BitVec.toNat h
      simp only [BitVec.toNat_ofNat] at h
      exact Fin.ext (by omega)
    · rintro rfl; rfl
  show (((BitVec.setWidth 32 (IntOp.cmpi .eq (BitVec.ofNat 32 x.val) (BitVec.ofNat 32 k.val))).toInt : ℝ) : EReal) = _
  by_cases h : x = k
  · subst h
    simp [IntOp.cmpi]
  · have h' : ¬ (BitVec.ofNat 32 x.val = BitVec.ofNat 32 k.val) := mt he.mp h
    simp [IntOp.cmpi, h, beq_eq_false_iff_ne.mpr h']

/-- A sum with one term. -/
theorem sum_flag (k : Fin 1024) (f : Fin 1024 → EReal) : ∑ x, (if x = k then 1 else 0) * f x = f k := by
  simp [ite_mul, Finset.sum_ite_eq']

/-- A finite entry read in three parts, the second and third of them nothing. -/
theorem three_parts (k : Fin 1024) (f : Fin 1024 → EReal) (hf : ∀ x, f x ≠ ⊤ ∧ f x ≠ ⊥) :
    ∑ x, (if x = k then 1 else 0) * f x + ∑ x, (if x = k then 1 else 0) * (f x - f x) + ∑ x, (if x = k then 1 else 0) * (f x - f x - (f x - f x)) = f k := by
  rw [sum_flag k f, sum_flag k (fun x => f x - f x), sum_flag k (fun x => f x - f x - (f x - f x))]
  rw [EReal.sub_self (hf k).1 (hf k).2]
  simp

end Cert.Mine

end
-- ==== Proof.Consts.lean ====
/-
  The numbers that the programs' constants stand for.
-/
module

public import Idealize.ShloMosaic.PureOps.Ideal.Laws

@[expose] public section

noncomputable section

namespace Cert.Mine

open Idealize.ShloMosaic

/-- Two. -/
theorem bits_two : Ideal.ofBits .f32 0x40000000#32 = 2 := by
  simp [Ideal.ofBits, Ideal.ieee]
  norm_num [← EReal.coe_mul]
  try rfl

/-- Infinity. -/
theorem bits_top : Ideal.ofBits .f32 0x7F800000#32 = ⊤ := by
  simp [Ideal.ofBits, Ideal.ieee]

/-- A quarter. -/
theorem bits_quarter : Ideal.ofBits .f32 0x3E800000#32 = ((1 / 4 : ℝ) : EReal) := by
  simp [Ideal.ofBits, Ideal.ieee]
  norm_num [← EReal.coe_mul]

/-- The number of elements of the latent. -/
theorem bits_n : Ideal.ofBits .f32 0x4A000000#32 = ((2097152 : ℝ) : EReal) := by
  simp [Ideal.ofBits, Ideal.ieee]
  norm_num [← EReal.coe_mul]

/-- The number of elements of the reconstruction. -/
theorem bits_m : Ideal.ofBits .f32 0x49800000#32 = ((1048576 : ℝ) : EReal) := by
  simp [Ideal.ofBits, Ideal.ieee]
  norm_num [← EReal.coe_mul]

/-- Five quarters over the number of elements of the latent. -/
theorem bits_cn : Ideal.ofBits .f32 0x35200000#32 = ((5 / 4 / 2097152 : ℝ) : EReal) := by
  simp [Ideal.ofBits, Ideal.ieee]
  norm_num [← EReal.coe_mul]

/-- One over the number of elements of the reconstruction. -/
theorem bits_cm : Ideal.ofBits .f32 0x35800000#32 = ((1 / 1048576 : ℝ) : EReal) := by
  simp [Ideal.ofBits, Ideal.ieee]
  norm_num [← EReal.coe_mul]

end Cert.Mine

end
-- ==== Proof.KerLevel.lean ====
/-
  One level of the kernel's quantiser, row by row, over the extended reals.
-/
module

public import proofs.«01_k».proof.Proof.VqArr
public import proofs.«01_k».proof.Proof.Least
public import proofs.«01_k».proof.Proof.Consts

@[expose] public section

set_option maxRecDepth 16384

noncomputable section

namespace Cert.KernelIdeal.Mine

open Cert.KernelIdeal Cert.KernelIdeal.Gen Cert.Mine
open Idealize.ShloMosaic

/-- A row of a table. -/
def row {A B : ℕ} (x : (⟨2, ![A, B]⟩ : Shape).Idx → EReal) (a : Fin A) (j : Fin B) : EReal := x (ix2 a j)

/-- A codebook held as a block. -/
def bk (e : Vec Ideal S1x1024x1024 .f32) : Book := fun k j => e (ix3 0 k j)

/-- Every number of the book is finite. -/
def _root_.Cert.Mine.Fin' (E : Book) : Prop := ∀ k j, E k j ≠ ⊤ ∧ E k j ≠ ⊥

variable (e : Vec Ideal S1x1024x1024 .f32) (z q r : Vec Ideal S512x1024 .f32)

/-- What is left of the latent. -/
theorem pay16_at (a : Fin 512) (j : Fin 1024) : k1_pay16 z q (ix2 a j) = left (row z a) (row q a) j := by
  pointwise [k1_pay16, left, row]

/-- The mark: the entry's distance is the least. -/
theorem pay17_at (a : Fin 512) (k : Fin 1024) : k1_pay17 e z q (k1_pay14 e) (ix2 a k)
    = BitVec.ofBool (decide (dist (left (row z a) (row q a)) (bk e) k = dist (left (row z a) (row q a)) (bk e) (near (left (row z a) (row q a)) (bk e)))) := by
  unfold near
  rw [← fold_min_first (dist (left (row z a) (row q a)) (bk e))]
  pointwise [k1_pay17, k1_pay14, k1_pay7, pay16_at]
  simp only [bits_top, bits_two]
  rfl

/-- The least of the marked numbers is the nearest entry's. -/
theorem pay18_at (a : Fin 512) : k1_pay18 cols (k1_pay17 e z q (k1_pay14 e)) (ix1 a)
    = BitVec.ofNat 32 (near (left (row z a) (row q a)) (bk e)).val := by
  refine Eq.trans ?_ (fold_minsi_first (dist (left (row z a) (row q a)) (bk e)) (fun k => k1_pay17 e z q (k1_pay14 e) (ix2 a k)) (pay17_at e z q a))
  pointwise [k1_pay18, cols]

/-- The entry read off. -/
theorem pay19_at (he : Fin' (bk e)) (a : Fin 512) (j : Fin 1024) :
    k1_pay19 cols (k1_pay17 e z q (k1_pay14 e)) (k1_pay11 e) (k1_pay12 e) (k1_pay13 e) (ix2 a j)
    = bk e (near (left (row z a) (row q a)) (bk e)) j := by
  refine Eq.trans ?_ (three_parts (near (left (row z a) (row q a)) (bk e)) (fun x => bk e x j) (fun x => he x j))
  have h18 := pay18_at e z q a
  simp only [← flag_num, ← h18]
  pointwise [k1_pay19, k1_pay11, k1_pay12, k1_pay13, k1_pay10, k1_pay9, k1_pay8, k1_pay7, cols]
  rfl

/-- The running sum with one more entry. -/
theorem pay20_at (he : Fin' (bk e)) (a : Fin 512) (j : Fin 1024) :
    k1_pay20 (k1_pay16 z q) cols (k1_pay17 e z q (k1_pay14 e)) (k1_pay11 e) (k1_pay12 e) (k1_pay13 e) q (ix2 a j)
    = more (row z a) (bk e) (row q a) j := by
  refine Eq.trans ?_ (show row q a j + (k1_pay16 z q (ix2 a j) + (k1_pay19 cols (k1_pay17 e z q (k1_pay14 e)) (k1_pay11 e) (k1_pay12 e) (k1_pay13 e) (ix2 a j) - k1_pay16 z q (ix2 a j))) = _ from ?_)
  · pointwise [k1_pay20, row]
  · rw [pay19_at e z q he, pay16_at]
    rfl

/-- The chunk's squared error, scaled, joins the loss. -/
theorem pay22_at (he : Fin' (bk e)) (l : Vec Ideal S1x1 .f32) :
    k1_pay22 (k1_pay16 z q) cols (k1_pay17 e z q (k1_pay14 e)) (k1_pay11 e) (k1_pay12 e) (k1_pay13 e) l (ix2 0 0)
    = l (ix2 0 0) + (∑ a : Fin 512, ∑ j : Fin 1024,
        (left (row z a) (row q a) j - bk e (near (left (row z a) (row q a)) (bk e)) j)
          * (left (row z a) (row q a) j - bk e (near (left (row z a) (row q a)) (bk e)) j)) * ((5 / 4 / 2097152 : ℝ) : EReal) := by
  simp only [← pay19_at e z q he, ← pay16_at, ← bits_cn]
  pointwise [k1_pay22]

/-- The chosen numbers as kept. -/
theorem pay23_at (a : Fin 512) : k1_pay23 cols (k1_pay17 e z q (k1_pay14 e)) (ix3 0 0 a)
    = BitVec.ofNat 32 (near (left (row z a) (row q a)) (bk e)).val := by
  rw [← pay18_at]
  pointwise [k1_pay23]

/-- A bias row. -/
def bias {B : ℕ} (x : (⟨2, ![1, B]⟩ : Shape).Idx → EReal) (j : Fin B) : EReal := x (ix2 0 j)

/-- The decoder's rows. -/
theorem pay2_at (w1 : Vec Ideal S1024x1024 .f32) (b1 : Vec Ideal S1x1024 .f32) (w2 : Vec Ideal S1024x1024 .f32) (b2 : Vec Ideal S1x1024 .f32) (w3 : Vec Ideal S1024x512 .f32) (b3 : Vec Ideal S1x512 .f32) (a : Fin 512) (j : Fin 512) :
    k1_pay2 q w1 b1 w2 b2 w3 b3 (ix2 a j) = mlp (row q a) (row w1) (bias b1) (row w2) (bias b2) (row w3) (bias b3) j := by
  pointwise [k1_pay2]
  rfl

/-- The decoder's squared error over a chunk, scaled. -/
theorem pay4_at (w1 : Vec Ideal S1024x1024 .f32) (b1 : Vec Ideal S1x1024 .f32) (w2 : Vec Ideal S1024x1024 .f32) (b2 : Vec Ideal S1x1024 .f32) (w3 : Vec Ideal S1024x512 .f32) (b3 : Vec Ideal S1x512 .f32) (x : Vec Ideal S512x512 .f32) :
    k1_pay4 q w1 b1 w2 b2 w3 b3 x = (∑ a : Fin 512, ∑ j : Fin 512,
      (k1_pay2 q w1 b1 w2 b2 w3 b3 (ix2 a j) - row x a j) * (k1_pay2 q w1 b1 w2 b2 w3 b3 (ix2 a j) - row x a j)) * ((1 / 1048576 : ℝ) : EReal) := by
  rw [← bits_cm]
  pointwise [k1_pay4, row]

/-- The scaled error joins the loss. -/
theorem pay1_at (l : Vec Ideal S1x1 .f32) (v : EReal) : k1_pay1 (F := Ideal) (k1_pay3 l) v (ix2 0 0) = l (ix2 0 0) + v := by
  pointwise [k1_pay1, k1_pay3]

/-- The encoder's rows. -/
theorem enc_at (x : Vec Ideal S512x512 .f32) (w1 : Vec Ideal S512x1024 .f32) (b1 : Vec Ideal S1x1024 .f32) (w2 : Vec Ideal S1024x1024 .f32) (b2 : Vec Ideal S1x1024 .f32) (w3 : Vec Ideal S1024x1024 .f32) (b3 : Vec Ideal S1x1024 .f32) (a : Fin 512) (j : Fin 1024) :
    k0_pay1 x w1 b1 w2 b2 w3 b3 (ix2 a j) = mlp (row x a) (row w1) (bias b1) (row w2) (bias b2) (row w3) (bias b3) j := by
  pointwise [k0_pay1]
  rfl

end Cert.KernelIdeal.Mine

end
-- ==== Proof.Windows.lean ====
/-
  What the operands' windows show of their arrays.
-/
module

public import proofs.«01_k».proof.Proof.VqArr

@[expose] public section

set_option maxRecDepth 16384

noncomputable section

namespace Cert.KernelIdeal.Mine

open Cert.KernelIdeal Cert.KernelIdeal.Gen Cert.Mine
open Idealize.ShloMosaic
open Idealize.ShloMosaic.TcCoe

variable {F : FTy → Type} [FloatOps F] (V : Dev nD → Valuation τ sig (Elt F)) (c : Dev nD)

/-- The quantiser's operand 0 at a point: its one block. -/
theorem index1_0 : ∀ t : Fin cfg1.N, win1_0.index t = ![0, 0] := by decide +kernel
/-- The quantiser's operand 2 at a point: its one block. -/
theorem index1_2 : ∀ t : Fin cfg1.N, win1_2.index t = ![0, 0] := by decide +kernel
/-- The quantiser's operand 3 at a point: its one block. -/
theorem index1_3 : ∀ t : Fin cfg1.N, win1_3.index t = ![0, 0] := by decide +kernel
/-- The quantiser's operand 4 at a point: its one block. -/
theorem index1_4 : ∀ t : Fin cfg1.N, win1_4.index t = ![0, 0] := by decide +kernel
/-- The quantiser's operand 5 at a point: its one block. -/
theorem index1_5 : ∀ t : Fin cfg1.N, win1_5.index t = ![0, 0] := by decide +kernel
/-- The quantiser's operand 6 at a point: its one block. -/
theorem index1_6 : ∀ t : Fin cfg1.N, win1_6.index t = ![0, 0] := by decide +kernel
/-- The quantiser's operand 7 at a point: its one block. -/
theorem index1_7 : ∀ t : Fin cfg1.N, win1_7.index t = ![0, 0] := by decide +kernel
/-- The quantiser's operand 8 at a point: its one block. -/
theorem index1_8 : ∀ t : Fin cfg1.N, win1_8.index t = ![0, 0] := by decide +kernel
/-- The encoder's operand 0 at a point: the point's block of rows. -/
theorem index0_0 : ∀ t : Fin cfg0.N, win0_0.index t = ![t.val, 0] := by decide +kernel
/-- The encoder's operand 1 at a point: its one block. -/
theorem index0_1 : ∀ t : Fin cfg0.N, win0_1.index t = ![0, 0] := by decide +kernel
/-- The encoder's operand 2 at a point: its one block. -/
theorem index0_2 : ∀ t : Fin cfg0.N, win0_2.index t = ![0, 0] := by decide +kernel
/-- The encoder's operand 3 at a point: its one block. -/
theorem index0_3 : ∀ t : Fin cfg0.N, win0_3.index t = ![0, 0] := by decide +kernel
/-- The encoder's operand 4 at a point: its one block. -/
theorem index0_4 : ∀ t : Fin cfg0.N, win0_4.index t = ![0, 0] := by decide +kernel
/-- The encoder's operand 5 at a point: its one block. -/
theorem index0_5 : ∀ t : Fin cfg0.N, win0_5.index t = ![0, 0] := by decide +kernel
/-- The encoder's operand 6 at a point: its one block. -/
theorem index0_6 : ∀ t : Fin cfg0.N, win0_6.index t = ![0, 0] := by decide +kernel

/-- Two places of a table are one when their coordinates agree. -/
theorem ext2 {A B : ℕ} {i y : (⟨2, ![A, B]⟩ : Shape).Idx} (h0 : (i 0).val = (y 0).val) (h1 : (i 1).val = (y 1).val) : i = y :=
  funext fun a => Fin.ext (match a with | ⟨0, _⟩ => h0 | ⟨1, _⟩ => h1)

/-- A block at the origin begins at nothing, along rows. -/
theorem org0 {f : Fin 2 → ℕ} (h : f = ![0, 0]) (n a : ℕ) : f 0 * n + 1 * a = a := by
  subst h; show 0 * n + 1 * a = a; omega
/-- A block at the origin begins at nothing, along columns. -/
theorem org1 {f : Fin 2 → ℕ} (h : f = ![0, 0]) (n a : ℕ) : f 1 * n + 1 * a = a := by
  subst h; show 0 * n + 1 * a = a; omega

/-- The quantiser's operand 0 is its whole array. -/
theorem b1_0 (t : Fin cfg1.N) (y : S2048x1024.Idx) : (B1 V c 0 t : Vec F S2048x1024 .f32) y = (V c (Proc.devRef .tc main_v4) : S2048x1024.Idx → Elt F .f32) y :=
  congrArg (V c (Proc.devRef .tc main_v4) : S2048x1024.Idx → Elt F .f32) (ext2 (org0 (index1_0 t) _ _) (org1 (index1_0 t) _ _))
/-- The quantiser's operand 2 is its whole array. -/
theorem b1_2 (t : Fin cfg1.N) (y : S2048x512.Idx) : (B1 V c 2 t : Vec F S2048x512 .f32) y = (V c (Proc.devRef .tc main_v0) : S2048x512.Idx → Elt F .f32) y :=
  congrArg (V c (Proc.devRef .tc main_v0) : S2048x512.Idx → Elt F .f32) (ext2 (org0 (index1_2 t) _ _) (org1 (index1_2 t) _ _))
/-- The quantiser's operand 3 is its whole array. -/
theorem b1_3 (t : Fin cfg1.N) (y : S1024x1024.Idx) : (B1 V c 3 t : Vec F S1024x1024 .f32) y = (V c (Proc.devRef .tc main_arg7) : S1024x1024.Idx → Elt F .f32) y :=
  congrArg (V c (Proc.devRef .tc main_arg7) : S1024x1024.Idx → Elt F .f32) (ext2 (org0 (index1_3 t) _ _) (org1 (index1_3 t) _ _))
/-- The quantiser's operand 4 is its whole array. -/
theorem b1_4 (t : Fin cfg1.N) (y : S1x1024.Idx) : (B1 V c 4 t : Vec F S1x1024 .f32) y = (V c (Proc.devRef .tc main_v5) : S1x1024.Idx → Elt F .f32) y :=
  congrArg (V c (Proc.devRef .tc main_v5) : S1x1024.Idx → Elt F .f32) (ext2 (org0 (index1_4 t) _ _) (org1 (index1_4 t) _ _))
/-- The quantiser's operand 5 is its whole array. -/
theorem b1_5 (t : Fin cfg1.N) (y : S1024x1024.Idx) : (B1 V c 5 t : Vec F S1024x1024 .f32) y = (V c (Proc.devRef .tc main_arg9) : S1024x1024.Idx → Elt F .f32) y :=
  congrArg (V c (Proc.devRef .tc main_arg9) : S1024x1024.Idx → Elt F .f32) (ext2 (org0 (index1_5 t) _ _) (org1 (index1_5 t) _ _))
/-- The quantiser's operand 6 is its whole array. -/
theorem b1_6 (t : Fin cfg1.N) (y : S1x1024.Idx) : (B1 V c 6 t : Vec F S1x1024 .f32) y = (V c (Proc.devRef .tc main_v6) : S1x1024.Idx → Elt F .f32) y :=
  congrArg (V c (Proc.devRef .tc main_v6) : S1x1024.Idx → Elt F .f32) (ext2 (org0 (index1_6 t) _ _) (org1 (index1_6 t) _ _))
/-- The quantiser's operand 7 is its whole array. -/
theorem b1_7 (t : Fin cfg1.N) (y : S1024x512.Idx) : (B1 V c 7 t : Vec F S1024x512 .f32) y = (V c (Proc.devRef .tc main_arg11) : S1024x512.Idx → Elt F .f32) y :=
  congrArg (V c (Proc.devRef .tc main_arg11) : S1024x512.Idx → Elt F .f32) (ext2 (org0 (index1_7 t) _ _) (org1 (index1_7 t) _ _))
/-- The quantiser's operand 8 is its whole array. -/
theorem b1_8 (t : Fin cfg1.N) (y : S1x512.Idx) : (B1 V c 8 t : Vec F S1x512 .f32) y = (V c (Proc.devRef .tc main_v7) : S1x512.Idx → Elt F .f32) y :=
  congrArg (V c (Proc.devRef .tc main_v7) : S1x512.Idx → Elt F .f32) (ext2 (org0 (index1_8 t) _ _) (org1 (index1_8 t) _ _))
/-- The encoder's operand 1 is its whole array. -/
theorem b0_1 (t : Fin cfg0.N) (y : S512x1024.Idx) : (B0 V c 1 t : Vec F S512x1024 .f32) y = (V c (Proc.devRef .tc main_arg1) : S512x1024.Idx → Elt F .f32) y :=
  congrArg (V c (Proc.devRef .tc main_arg1) : S512x1024.Idx → Elt F .f32) (ext2 (org0 (index0_1 t) _ _) (org1 (index0_1 t) _ _))
/-- The encoder's operand 2 is its whole array. -/
theorem b0_2 (t : Fin cfg0.N) (y : S1x1024.Idx) : (B0 V c 2 t : Vec F S1x1024 .f32) y = (V c (Proc.devRef .tc main_v1) : S1x1024.Idx → Elt F .f32) y :=
  congrArg (V c (Proc.devRef .tc main_v1) : S1x1024.Idx → Elt F .f32) (ext2 (org0 (index0_2 t) _ _) (org1 (index0_2 t) _ _))
/-- The encoder's operand 3 is its whole array. -/
theorem b0_3 (t : Fin cfg0.N) (y : S1024x1024.Idx) : (B0 V c 3 t : Vec F S1024x1024 .f32) y = (V c (Proc.devRef .tc main_arg3) : S1024x1024.Idx → Elt F .f32) y :=
  congrArg (V c (Proc.devRef .tc main_arg3) : S1024x1024.Idx → Elt F .f32) (ext2 (org0 (index0_3 t) _ _) (org1 (index0_3 t) _ _))
/-- The encoder's operand 4 is its whole array. -/
theorem b0_4 (t : Fin cfg0.N) (y : S1x1024.Idx) : (B0 V c 4 t : Vec F S1x1024 .f32) y = (V c (Proc.devRef .tc main_v2) : S1x1024.Idx → Elt F .f32) y :=
  congrArg (V c (Proc.devRef .tc main_v2) : S1x1024.Idx → Elt F .f32) (ext2 (org0 (index0_4 t) _ _) (org1 (index0_4 t) _ _))
/-- The encoder's operand 5 is its whole array. -/
theorem b0_5 (t : Fin cfg0.N) (y : S1024x1024.Idx) : (B0 V c 5 t : Vec F S1024x1024 .f32) y = (V c (Proc.devRef .tc main_arg5) : S1024x1024.Idx → Elt F .f32) y :=
  congrArg (V c (Proc.devRef .tc main_arg5) : S1024x1024.Idx → Elt F .f32) (ext2 (org0 (index0_5 t) _ _) (org1 (index0_5 t) _ _))
/-- The encoder's operand 6 is its whole array. -/
theorem b0_6 (t : Fin cfg0.N) (y : S1x1024.Idx) : (B0 V c 6 t : Vec F S1x1024 .f32) y = (V c (Proc.devRef .tc main_v3) : S1x1024.Idx → Elt F .f32) y :=
  congrArg (V c (Proc.devRef .tc main_v3) : S1x1024.Idx → Elt F .f32) (ext2 (org0 (index0_6 t) _ _) (org1 (index0_6 t) _ _))

/-- The encoder's operand at point `t`: rows from `512 t`. -/
theorem b0_0 (t : Fin cfg0.N) (y : S512x512.Idx) (i : S2048x512.Idx) (h0 : (i 0).val = t.val * 512 + (y 0).val) (h1 : (i 1).val = (y 1).val) :
    (B0 V c 0 t : Vec F S512x512 .f32) y = (V c (Proc.devRef .tc main_v0) : S2048x512.Idx → Elt F .f32) i := by
  refine congrArg (V c (Proc.devRef .tc main_v0) : S2048x512.Idx → Elt F .f32) (ext2 ?_ ?_)
  · rw [h0]
    show win0_0.index t 0 * 512 + 1 * (y 0).val = _
    rw [index0_0]; show t.val * 512 + _ = _; omega
  · rw [h1]
    show win0_0.index t 1 * 512 + 1 * (y 1).val = _
    rw [index0_0]; show 0 * 512 + _ = _; omega

/-- The codebook at point `t`. -/
theorem b1_1 (t : Fin cfg1.N) (k j : Fin 1024) (i : S8x1024x1024.Idx) (h0 : (i 0).val = t.val / 4) (h1 : (i 1).val = k.val) (h2 : (i 2).val = j.val) :
    (B1 V c 1 t : Vec F S1x1024x1024 .f32) (ix3 0 k j) = (V c (Proc.devRef .tc main_arg13) : S8x1024x1024.Idx → Elt F .f32) i := by
  refine congrArg (V c (Proc.devRef .tc main_arg13) : S8x1024x1024.Idx → Elt F .f32) (funext fun a => Fin.ext ?_)
  match a with
  | ⟨0, _⟩ => rw [show (i ⟨0, _⟩).val = t.val / 4 from h0]; show win1_1.index t 0 * 1 + 1 * 0 = _; rw [index1_1]; show t.val / 4 * 1 + _ = _; omega
  | ⟨1, _⟩ => rw [show (i ⟨1, _⟩).val = k.val from h1]; show win1_1.index t 1 * 1024 + 1 * k.val = _; rw [index1_1]; show 0 * 1024 + _ = _; omega
  | ⟨2, _⟩ => rw [show (i ⟨2, _⟩).val = j.val from h2]; show win1_1.index t 2 * 1024 + 1 * j.val = _; rw [index1_1]; show 0 * 1024 + _ = _; omega

/-- The encoder's rows at point `t`: rows from `512 (t % 4)`. -/
theorem zRow_at (t : Fin cfg1.N) (a : Fin 512) (j : Fin 1024) (i : S2048x1024.Idx) (h0 : (i 0).val = 512 * (t.val % 4) + a.val) (h1 : (i 1).val = j.val) :
    zRow V c t (ix2 a j) = (V c (Proc.devRef .tc main_v4) : S2048x1024.Idx → Elt F .f32) i := by
  unfold zRow
  refine (b1_0 V c t _).trans (congrArg (V c (Proc.devRef .tc main_v4) : S2048x1024.Idx → Elt F .f32) (ext2 ?_ ?_))
  · rw [h0]
    show k1_off2 (grid1.coords t) 0 + 1 * a.val = _
    rw [off2_eq]; show 512 * (t.val % 4) + _ = _; omega
  · rw [h1]
    show k1_off2 (grid1.coords t) 1 + 1 * j.val = _
    rw [off2_eq]; show 0 + _ = _; omega

/-- Where the input's rows of a step begin. -/
theorem off3_eq : ∀ t : Fin cfg1.N, k1_off3 (grid1.coords t) = ![512 * (t.val % 4), 0] := by decide +kernel

/-- The network's input rows at a point of the last codebook. -/
theorem xRows_at (t : Fin cfg1.N) (ht : 28 ≤ t.val) (a j : Fin 512) (i : S2048x512.Idx) (h0 : (i 0).val = 512 * (t.val % 4) + a.val) (h1 : (i 1).val = j.val) :
    xRows (grid1.coords t) (B1 V c 2 t) (ix2 a j) = (V c (Proc.devRef .tc main_v0) : S2048x512.Idx → Elt F .f32) i := by
  rw [xRows_pos ((atLast_iff t).mpr ht)]
  refine (b1_2 V c t _).trans (congrArg (V c (Proc.devRef .tc main_v0) : S2048x512.Idx → Elt F .f32) (ext2 ?_ ?_))
  · rw [h0]
    show k1_off3 (grid1.coords t) 0 + 1 * a.val = _
    rw [off3_eq]; show 512 * (t.val % 4) + _ = _; omega
  · rw [h1]
    show k1_off3 (grid1.coords t) 1 + 1 * j.val = _
    rw [off3_eq]; show 0 + _ = _; omega

end Cert.KernelIdeal.Mine

end
-- ==== Proof.KerValue.lean ====
/-
  What the kernel's arrays hold, as the mathematics: sums of nearest entries, their numbers, the losses.
-/
module

public import proofs.«01_k».proof.Proof.KerLevel
public import proofs.«01_k».proof.Proof.Windows

@[expose] public section

set_option maxRecDepth 16384

noncomputable section

namespace Cert.KernelIdeal.Mine

open Cert.KernelIdeal Cert.KernelIdeal.Gen Cert.Mine
open Idealize.ShloMosaic
open Idealize.ShloMosaic.TcCoe

variable (V : Dev nD → Valuation τ sig (Elt Ideal)) (c : Dev nD)

/-- Row `n` of the encoder's result. -/
def zt (n : ℕ) (j : Fin 1024) : EReal := (V c (Proc.devRef .tc main_v4) : S2048x1024.Idx → EReal) (ix2 ⟨n % 2048, by omega⟩ j)
/-- Row `n` of the network's input. -/
def xt (n : ℕ) (j : Fin 512) : EReal := (V c (Proc.devRef .tc main_v0) : S2048x512.Idx → EReal) (ix2 ⟨n % 2048, by omega⟩ j)
/-- Codebook `g`. -/
def bks (g : ℕ) : Book := fun k j => (V c (Proc.devRef .tc main_arg13) : S8x1024x1024.Idx → EReal) (ix3 ⟨g % 8, by omega⟩ k j)
/-- The decoder. -/
def decM (x : Fin 1024 → EReal) : Fin 512 → EReal :=
  mlp x (row (V c (Proc.devRef .tc main_arg7) : S1024x1024.Idx → EReal)) (bias (V c (Proc.devRef .tc main_v5) : S1x1024.Idx → EReal))
    (row (V c (Proc.devRef .tc main_arg9) : S1024x1024.Idx → EReal)) (bias (V c (Proc.devRef .tc main_v6) : S1x1024.Idx → EReal))
    (row (V c (Proc.devRef .tc main_arg11) : S1024x512.Idx → EReal)) (bias (V c (Proc.devRef .tc main_v7) : S1x512.Idx → EReal))
/-- The encoder. -/
def encM (x : Fin 512 → EReal) : Fin 1024 → EReal :=
  mlp x (row (V c (Proc.devRef .tc main_arg1) : S512x1024.Idx → EReal)) (bias (V c (Proc.devRef .tc main_v1) : S1x1024.Idx → EReal))
    (row (V c (Proc.devRef .tc main_arg3) : S1024x1024.Idx → EReal)) (bias (V c (Proc.devRef .tc main_v2) : S1x1024.Idx → EReal))
    (row (V c (Proc.devRef .tc main_arg5) : S1024x1024.Idx → EReal)) (bias (V c (Proc.devRef .tc main_v3) : S1x1024.Idx → EReal))

/-- The codebook of a step. -/
theorem bk_book (t : Fin cfg1.N) : bk (book V c t) = bks V c (t.val / 4) := by
  have hN : t.val < 32 := lt_of_lt_of_eq t.isLt N_1
  funext k j
  exact b1_1 V c t k j _ (show t.val / 4 % 8 = t.val / 4 by omega) rfl rfl

/-- A row of the latent's tile. -/
theorem row_zRow (t : Fin cfg1.N) (a : Fin 512) : row (zRow V c t) a = zt V c (512 * (t.val % 4) + a.val) := by
  funext j
  exact zRow_at V c t a j _ (show (512 * (t.val % 4) + a.val) % 2048 = _ by have := a.isLt; omega) rfl

/-- The encoder's rows. -/
theorem encA_row (i : Fin 2048) (j : Fin 1024) : encA V c (ix2 i j) = encM V c (xt V c i.val) j := by
  have hi := i.isLt
  have hx : row (B0 V c 0 ⟨i.val / 512, by rw [show cfg0.N = 4 from N_0]; omega⟩ : S512x512.Idx → EReal) ⟨i.val % 512, by omega⟩ = xt V c i.val := by
    funext k
    exact b0_0 V c _ _ _ (show i.val % 2048 = i.val / 512 * 512 + i.val % 512 by omega) rfl
  show encV V c ⟨i.val / 512, _⟩ (ix2 ⟨i.val % 512, _⟩ j) = _
  unfold encV
  rw [enc_at, hx, show (B0 V c 1 _ : S512x1024.Idx → EReal) = _ from funext (b0_1 V c _), show (B0 V c 2 _ : S1x1024.Idx → EReal) = _ from funext (b0_2 V c _),
    show (B0 V c 3 _ : S1024x1024.Idx → EReal) = _ from funext (b0_3 V c _), show (B0 V c 4 _ : S1x1024.Idx → EReal) = _ from funext (b0_4 V c _),
    show (B0 V c 5 _ : S1024x1024.Idx → EReal) = _ from funext (b0_5 V c _), show (B0 V c 6 _ : S1x1024.Idx → EReal) = _ from funext (b0_6 V c _)]
  rfl

section
variable (hE : ∀ g, Fin' (bks V c g))
include hE

/-- One level's sum. -/
theorem stepQ_row (t : Fin cfg1.N) (q : Vec Ideal S512x1024 .f32) (a : Fin 512) :
    row (stepQ V c t q) a = more (zt V c (512 * (t.val % 4) + a.val)) (bks V c (t.val / 4)) (row q a) := by
  funext j
  have h := pay20_at (book V c t) (zRow V c t) q (by rw [bk_book]; exact hE _) a j
  rw [bk_book, row_zRow] at h
  exact h

/-- The sum of the first `g` nearest entries. -/
theorem sumQ_row (k : ℕ) (hk : k < 4) (a : Fin 512) : ∀ g : ℕ, g ≤ 8 → row (sumQ V c k g) a = sumTo (zt V c (512 * k + a.val)) (bks V c) g
  | 0, _ => by funext j; show k1_pay15 (F := Ideal) (ix2 a j) = 0; pointwise [k1_pay15]
  | g + 1, hg => by
    show row (stepQ V c (pnt (4 * g + k)) (sumQ V c k g)) a = _
    rw [stepQ_row V c hE, sumQ_row k hk a g (by omega), show (pnt (4 * g + k)).val % 4 = k by show (4 * g + k) % 32 % 4 = k; omega,
      show (pnt (4 * g + k)).val / 4 = g by show (4 * g + k) % 32 / 4 = g; omega]
    rfl

/-- A row of the sum at a step's entry. -/
theorem qAt_row (t : Fin cfg1.N) (a : Fin 512) : row (qAt V c t) a = sumTo (zt V c (512 * (t.val % 4) + a.val)) (bks V c) (t.val / 4) :=
  sumQ_row V c hE _ (by omega) a _ (by have : t.val < 32 := lt_of_lt_of_eq t.isLt N_1; omega)

/-- The chosen numbers. -/
theorem idxA_row (g : Fin 8) (i : Fin 2048) : idxA V c (ix3 g 0 i) = BitVec.ofNat 32 (pick (zt V c i.val) (bks V c) g.val).val := by
  have hi := i.isLt
  have hg := g.isLt
  show idxV V c (pnt (4 * g.val + i.val / 512)) (ix3 0 0 ⟨i.val % 512, _⟩) = _
  unfold idxV hitOf
  rw [pay23_at, bk_book, row_zRow, qAt_row V c hE, show (pnt (4 * g.val + i.val / 512)).val / 4 = g.val by show (4 * g.val + i.val / 512) % 32 / 4 = g.val; omega,
    show 512 * ((pnt (4 * g.val + i.val / 512)).val % 4) + i.val % 512 = i.val by show 512 * ((4 * g.val + i.val / 512) % 32 % 4) + i.val % 512 = i.val; omega]
  rfl

/-- The quantiser's loss. -/
theorem lossB_at : ∀ n : ℕ, n ≤ 32 → lossB V c n (ix2 0 0)
    = ∑ t ∈ Finset.range n, (∑ a : Fin 512, err (zt V c (512 * (t % 4) + a.val)) (bks V c) (t / 4)) * ((5 / 4 / 2097152 : ℝ) : EReal)
  | 0, _ => by show k1_pay5 (F := Ideal) (ix2 0 0) = _; rw [Finset.sum_range_zero]; pointwise [k1_pay5]
  | n + 1, hn => by
    rw [Finset.sum_range_succ, ← lossB_at n (by omega)]
    refine (pay22_at (book V c (pnt n)) (zRow V c (pnt n)) (qAt V c (pnt n)) (by rw [bk_book]; exact hE _) (lossB V c n)).trans ?_
    have hv : (pnt n).val = n := by show n % 32 = n; omega
    simp only [bk_book, row_zRow, qAt_row V c hE, hv]
    rfl

/-- The decoder's rows. -/
theorem recV_at (t : Fin cfg1.N) (ht : 28 ≤ t.val) (a j : Fin 512) :
    recV V c t (ix2 a j) = decM V c (sumTo (zt V c (512 * (t.val % 4) + a.val)) (bks V c) 8) j := by
  have hN : t.val < 32 := lt_of_lt_of_eq t.isLt N_1
  have h7 : t.val / 4 = 7 := by omega
  unfold recV
  rw [pay2_at, stepQ_row V c hE, qAt_row V c hE, h7, show (B1 V c 3 t : S1024x1024.Idx → EReal) = _ from funext (b1_3 V c t), show (B1 V c 4 t : S1x1024.Idx → EReal) = _ from funext (b1_4 V c t),
    show (B1 V c 5 t : S1024x1024.Idx → EReal) = _ from funext (b1_5 V c t), show (B1 V c 6 t : S1x1024.Idx → EReal) = _ from funext (b1_6 V c t),
    show (B1 V c 7 t : S1024x512.Idx → EReal) = _ from funext (b1_7 V c t), show (B1 V c 8 t : S1x512.Idx → EReal) = _ from funext (b1_8 V c t)]
  rfl

/-- A row of the reconstruction. -/
theorem recA_row (i : Fin 2048) (j : Fin 512) : recA V c (ix2 i j) = decM V c (sumTo (zt V c i.val) (bks V c) 8) j := by
  have hi := i.isLt
  show recV V c (pnt (28 + i.val / 512)) (ix2 ⟨i.val % 512, _⟩ j) = _
  have hv : (pnt (28 + i.val / 512)).val = 28 + i.val / 512 := by show (28 + i.val / 512) % 32 = _; omega
  rw [recV_at V c hE _ (by rw [hv]; omega), hv, show 512 * ((28 + i.val / 512) % 4) + i.val % 512 = i.val by omega]

/-- The squared error of the decoder's row `n`. -/
def rerr (n : ℕ) : EReal := ∑ j, (decM V c (sumTo (zt V c n) (bks V c) 8) j - xt V c n j) * (decM V c (sumTo (zt V c n) (bks V c) 8) j - xt V c n j)

/-- What a step of the last level adds to the reconstruction's loss. -/
theorem rlAt_at (t : Fin cfg1.N) (ht : 28 ≤ t.val) :
    rlAt V c t = (∑ a : Fin 512, rerr V c (512 * (t.val % 4) + a.val)) * ((1 / 1048576 : ℝ) : EReal) := by
  unfold rlAt
  rw [pay4_at]
  refine congrArg (· * ((1 / 1048576 : ℝ) : EReal)) (Finset.sum_congr rfl fun a _ => Finset.sum_congr rfl fun j _ => ?_)
  have h1 := recV_at V c hE t ht a j
  have h2 : row (xRows (grid1.coords t) (B1 V c 2 t)) a j = xt V c (512 * (t.val % 4) + a.val) j :=
    xRows_at V c t ht a j _ (show (512 * (t.val % 4) + a.val) % 2048 = _ by have := a.isLt; omega) rfl
  unfold recV at h1
  rw [h1, h2]

/-- The decoder's loss. -/
theorem rlossB_at : ∀ n : ℕ, n ≤ 32 → rlossB V c n (ix2 0 0)
    = ∑ t ∈ Finset.range n, if 28 ≤ t then (∑ a : Fin 512, rerr V c (512 * (t % 4) + a.val)) * ((1 / 1048576 : ℝ) : EReal) else 0
  | 0, _ => by show k1_pay6 (F := Ideal) (ix2 0 0) = _; rw [Finset.sum_range_zero]; pointwise [k1_pay6]
  | n + 1, hn => by
    rw [Finset.sum_range_succ, ← rlossB_at n (by omega)]
    have hv : (pnt n).val = n := by show n % 32 = n; omega
    show (if 28 ≤ n then k1_pay1 (k1_pay3 (rlossB V c n)) (rlAt V c (pnt n)) else rlossB V c n) (ix2 0 0) = _
    by_cases h : 28 ≤ n
    · rw [if_pos h, if_pos h, pay1_at, rlAt_at V c hE _ (by omega), hv]
    · rw [if_neg h, if_neg h, add_zero]

end

end Cert.KernelIdeal.Mine

end
-- ==== Proof.KerEnds.lean ====
/-
  What the program's host operations leave: the arrays the two kernels are given, and the results.
-/
module

public import proofs.«01_k».proof.Proof.KerValue
public import proofs.«01_k».proof.Proof.Items

@[expose] public section

set_option maxRecDepth 16384

noncomputable section

namespace Cert.KernelIdeal.Mine

open Cert.KernelIdeal Cert.KernelIdeal.Gen Cert.Mine
open Idealize.ShloMosaic
open Idealize.ShloMosaic.TcCoe

variable (m : (ℓ : Loc nD τ sig) → Buf (Elt Ideal) ℓ) (c : Dev nD)

/-- An argument as launched. -/
abbrev arg (b : Ref sig .tc) : Buf (Elt Ideal) ((c : Thread nD τ).loc b) := m ((c : Thread nD τ).loc b)

/-- What the quantiser finds is what the encoder was given, but for the latent and the three biases. -/
theorem U3_of (b : Ref sig .tc) (h1 : b ∉ hostOps1_W) (h2 : b ∉ ([main_v4] : List (Ref sig .tc))) : U3 m c b = V1 m c b := by
  rw [← V3_eq, V3_of m (outs m) c b h1, V2_of m (outs m) c b h2]

/-- The quantiser finds the latent in place. -/
theorem U3_v4 : U3 m c main_v4 = encA (V1 m) c := by
  rw [← U2_4 m c]
  exact StableHlo.after_of_writes_sub hostOps1 _ hostOps1_writes (by decide : main_v4 ∉ hostOps1_W)

/-- An argument is unchanged at the quantiser's entry. -/
theorem U3_arg (b : Ref sig .tc) (h1 : b ∉ hostOps1_W) (h2 : b ∉ ([main_v4] : List (Ref sig .tc))) (h3 : b ∉ hostOps0_W) : U3 m c b = arg m c b :=
  (U3_of m c b h1 h2).trans (V1_of m c b h3)

/-- The input's rows. -/
theorem V1_v0 : V1 m c main_v0 = shapeCast S2048x512 (arg m c main_arg0 : FVec Ideal S2048x16x32 .f32) shapeCasts_S2048x16x32_S2048x512 := by
  unfold V1
  after_results
  rfl
/-- The encoder's first bias, as one row. -/
theorem V1_v1 : V1 m c main_v1 = shapeCast S1x1024 (arg m c main_arg2 : FVec Ideal S1024 .f32) shapeCasts_S1024_S1x1024 := by
  unfold V1
  after_results
  rfl
/-- The encoder's second bias, as one row. -/
theorem V1_v2 : V1 m c main_v2 = shapeCast S1x1024 (arg m c main_arg4 : FVec Ideal S1024 .f32) shapeCasts_S1024_S1x1024 := by
  unfold V1
  after_results
  rfl
/-- The encoder's third bias, as one row. -/
theorem V1_v3 : V1 m c main_v3 = shapeCast S1x1024 (arg m c main_arg6 : FVec Ideal S1024 .f32) shapeCasts_S1024_S1x1024 := by
  unfold V1
  after_results
  rfl

/-- What the encoder leaves of an argument it does not write. -/
theorem U2_arg (b : Ref sig .tc) (h2 : b ∉ ([main_v4] : List (Ref sig .tc))) (h3 : b ∉ hostOps0_W) : U2 m c b = arg m c b := by
  rw [← V2_eq, V2_of m (outs m) c b h2]
  exact V1_of m c b h3

/-- The decoder's first bias, as one row. -/
theorem U3_v5 : U3 m c main_v5 = shapeCast S1x1024 (arg m c main_arg8 : FVec Ideal S1024 .f32) shapeCasts_S1024_S1x1024 := by
  rw [← U2_arg m c main_arg8 (by decide) (by decide)]
  unfold U3
  after_results
  rfl
/-- The decoder's second bias, as one row. -/
theorem U3_v6 : U3 m c main_v6 = shapeCast S1x1024 (arg m c main_arg10 : FVec Ideal S1024 .f32) shapeCasts_S1024_S1x1024 := by
  rw [← U2_arg m c main_arg10 (by decide) (by decide)]
  unfold U3
  after_results
  rfl
/-- The decoder's third bias, as one row. -/
theorem U3_v7 : U3 m c main_v7 = shapeCast S1x512 (arg m c main_arg12 : FVec Ideal S512 .f32) shapeCasts_S512_S1x512 := by
  rw [← U2_arg m c main_arg12 (by decide) (by decide)]
  unfold U3
  after_results
  rfl

/-- The reconstruction returned. -/
theorem U5_v9 : U5 m c main_v9 = shapeCast S2048x16x32 (recA (U3 m) c : FVec Ideal S2048x512 .f32) shapeCasts_S2048x512_S2048x16x32 := by
  rw [← U4_1 m c]
  unfold U5
  after_results
  rfl
/-- The numbers returned. -/
theorem U5_v11 : U5 m c main_v11 = transpose S2048x8 [1, 0] (shapeCast S8x2048 (idxA (U3 m) c : IVec S8x1x2048 32) shapeCasts_S8x1x2048_S8x2048) transposes_S8x2048_S2048x8_1_0 := by
  rw [← U4_0 m c]
  unfold U5
  after_results
  rfl
/-- The loss returned. -/
theorem U5_v14 : U5 m c main_v14 =
    (addf (shapeCast S_ (lossB (U3 m) c 32 : FVec Ideal S1x1 .f32) shapeCasts_S1x1_S_) (shapeCast S_ (rlossB (U3 m) c 32 : FVec Ideal S1x1 .f32) shapeCasts_S1x1_S_) : FVec Ideal S_ .f32) := by
  rw [← U4_2 m c, ← U4_3 m c]
  unfold U5
  after_results
  rfl

end Cert.KernelIdeal.Mine

end
-- ==== Proof.RefTake.lean ====
/-
  The reference's arg-min along a row and its gather of rows.
-/
module

public import proofs.«01_k».proof.Proof.RefOps
public import proofs.«01_k».proof.Proof.Least
public import proofs.«01_k».proof.Proof.Consts

@[expose] public section

set_option maxRecDepth 16384

noncomputable section

namespace Cert.ReferenceIdeal.Mine

open Cert.ReferenceIdeal Cert.ReferenceIdeal.Gen Cert.Mine
open Idealize.ShloMosaic

/-- A fold of choices ends at the element that wins against every other, once it is met. -/
theorem foldl_winner {α : Type} (f : α → α → α) (w : α) (hsel : ∀ a b, f a b = a ∨ f a b = b) :
    ∀ (L : List α) (_ : ∀ p ∈ L, f w p = w ∧ f p w = w) (a : α) (_ : f w a = w ∧ f a w = w) (_ : w ∈ L ∨ a = w), L.foldl f a = w
  | [], _, a, _, hm => by simpa using hm
  | p :: L, hL, a, ha, hm => by
    have hp := hL p List.mem_cons_self
    refine foldl_winner f w hsel L (fun q hq => hL q (List.mem_cons_of_mem _ hq)) (f a p) ?_ ?_
    · rcases hsel a p with h | h <;> rw [h]
      · exact ha
      · exact hp
    · rcases hm with hm | rfl
      · rcases List.mem_cons.mp hm with rfl | hm
        · exact Or.inr ha.2
        · exact Or.inl hm
      · exact Or.inr hp.1

/-- A choice by a bit. -/
theorem select_bit {α : Type} (p : Bool) (a b : α) : Scalar.select (BitVec.ofBool p) a b = if p then a else b := by cases p <;> rfl
/-- Or of two bits. -/
theorem ori_bit (p q : Bool) : IntOp.ori (BitVec.ofBool p) (BitVec.ofBool q) = BitVec.ofBool (p || q) := by cases p <;> cases q <;> rfl
/-- And of two bits. -/
theorem andi_bit (p q : Bool) : IntOp.andi (BitVec.ofBool p) (BitVec.ofBool q) = BitVec.ofBool (p && q) := by cases p <;> cases q <;> rfl

/-- The reducer, by cases. -/
theorem argmin_eq (v v' : EReal) (k k' : BitVec 32) : reducer_argmin_f32_i32 (F := Ideal) (v, k) (v', k')
    = (if v < v' then v else v', if v < v' ∨ v = v' ∧ k.slt k' = true then k else k') := by
  have h2 : FloatOps.cmpf (F := Ideal) (φ := .f32) .olt v v' = BitVec.ofBool (decide (v < v')) := rfl
  have h3 : FloatOps.cmpf (F := Ideal) (φ := .f32) .une v v = BitVec.ofBool (decide (v ≠ v)) := rfl
  have h5 : FloatOps.cmpf (F := Ideal) (φ := .f32) .oeq v v' = BitVec.ofBool (decide (v = v')) := rfl
  have h6 : IntOp.cmpi .slt k k' = BitVec.ofBool (k.slt k') := rfl
  unfold reducer_argmin_f32_i32
  dsimp only
  rw [h2, h3, h5, h6, ori_bit, andi_bit, ori_bit, select_bit, select_bit]
  congr 1 <;> refine if_congr ?_ rfl rfl <;> simp

/-- The reducer chooses one of its pairs. -/
theorem argmin_sel (a b : EReal × BitVec 32) : reducer_argmin_f32_i32 (F := Ideal) a b = a ∨ reducer_argmin_f32_i32 (F := Ideal) a b = b := by
  rcases a with ⟨v, k⟩
  rcases b with ⟨v', k'⟩
  rw [argmin_eq]
  by_cases h : v < v'
  · left; rw [if_pos h, if_pos (Or.inl h)]
  · by_cases h' : v = v' ∧ k.slt k' = true
    · left; rw [if_neg h, if_pos (Or.inr h'), h'.1]
    · right; rw [if_neg h, if_neg (not_or.mpr ⟨h, h'⟩)]

/-- A lesser value, or an equal value at a number not greater, wins. -/
theorem argmin_wins (v v' : EReal) (k k' : Fin 1024) (h : v < v' ∨ v = v' ∧ k ≤ k') :
    reducer_argmin_f32_i32 (F := Ideal) (v, BitVec.ofNat 32 k.val) (v', BitVec.ofNat 32 k'.val) = (v, BitVec.ofNat 32 k.val)
      ∧ reducer_argmin_f32_i32 (F := Ideal) (v', BitVec.ofNat 32 k'.val) (v, BitVec.ofNat 32 k.val) = (v, BitVec.ofNat 32 k.val) := by
  have hs : ∀ x y : Fin 1024, (BitVec.ofNat 32 x.val).slt (BitVec.ofNat 32 y.val) = decide (x < y) := by
    intro x y
    rw [BitVec.slt, toInt_num, toInt_num]
    exact decide_eq_decide.mpr (by rw [Fin.lt_def]; exact Nat.cast_lt)
  rw [argmin_eq, argmin_eq, hs, hs]
  rcases h with h | ⟨e, h⟩
  · rw [if_pos h, if_pos (Or.inl h), if_neg h.not_gt, if_neg (not_or.mpr ⟨h.not_gt, fun e => h.ne' e.1⟩)]
    exact ⟨rfl, rfl⟩
  · subst e
    rw [if_neg (lt_irrefl v), if_neg (show ¬ (v < v ∨ v = v ∧ decide (k' < k) = true) from not_or.mpr ⟨lt_irrefl v, fun e => absurd (of_decide_eq_true e.2) h.not_gt⟩)]
    refine ⟨?_, rfl⟩
    rcases h.lt_or_eq with h | e
    · rw [if_pos (Or.inr ⟨rfl, decide_eq_true h⟩)]
    · rw [e, ite_self]

/-- The arg-min of a row is the first of the least. -/
theorem argmin_at (x : Vec Ideal S2048x1024 .f32) (a : Fin 2048) :
    (Host.argReduce reducer_argmin_f32_i32 x (iotaInDim S2048x1024 32 1) (constant (F := Ideal) S_ .f32 0x7F800000#32) (constantI S_ 32 0#32)
      reducesTo_S2048x1024_S2048_d1 h_S_ (ix1 a)).2 = BitVec.ofNat 32 (first (fun k => x (ix2 a k))).val := by
  set d : Fin 1024 → EReal := fun k => x (ix2 a k) with hd
  have hf := first_spec d
  rw [Ideal.argReduce_eq_reduce2, Host.reduce2_eq_foldl_fiber]
  rw [foldl_winner (reducer_argmin_f32_i32 (F := Ideal)) (d (first d), BitVec.ofNat 32 (first d).val) argmin_sel]
  · intro p hp
    simp only [Host.argReduceFiber, List.mem_map, List.mem_filter, decide_eq_true_eq] at hp
    obtain ⟨n, ⟨-, hn⟩, rfl⟩ := hp
    generalize S2048x1024.rowMajor.symm n = i at hn
    have h0 : (i 0).val = a.val := congrArg Fin.val (congrFun hn 0)
    have hi : i = ix2 a ⟨(i 1).val, (i 1).isLt⟩ := funext fun b => Fin.ext (match b with | ⟨0, _⟩ => h0 | ⟨1, _⟩ => rfl)
    rw [hi]
    refine argmin_wins (d (first d)) (d ⟨(i 1).val, (i 1).isLt⟩) (first d) ⟨(i 1).val, (i 1).isLt⟩ ?_
    rcases (hf.1 ⟨(i 1).val, (i 1).isLt⟩).lt_or_eq with h | h
    · exact Or.inl h
    · refine Or.inr ⟨h, not_lt.mp fun hlt => ?_⟩
      exact absurd (hf.2 _ hlt) (by rw [h]; exact lt_irrefl _)
  · have hc : (constant (F := Ideal) S_ .f32 0x7F800000#32) (Shape.Idx.first h_S_) = (⊤ : EReal) := bits_top
    rw [hc]
    refine argmin_wins (d (first d)) ⊤ (first d) 0 ?_
    rcases (le_top : d (first d) ≤ ⊤).lt_or_eq with h | h
    · exact Or.inl h
    · refine Or.inr ⟨h, not_lt.mp fun hlt => ?_⟩
      exact absurd (hf.2 _ hlt) (by rw [h]; exact not_top_lt)
  · left
    simp only [Host.argReduceFiber, List.mem_map, List.mem_filter, decide_eq_true_eq]
    refine ⟨S2048x1024.rowMajor (ix2 a (first d)), ⟨List.mem_finRange _, ?_⟩, ?_⟩
    · rw [Equiv.symm_apply_apply]
      funext b
      exact Fin.ext (match b with | ⟨0, _⟩ => rfl)
    · rw [Equiv.symm_apply_apply]
      rfl

/-- The gather of rows, read. -/
theorem gather_at (x : Vec Ideal S1024x1024 .f32) (i : IVec S2048x1 32) (a : Fin 2048) (j k : Fin 1024) (h : i (ix2 a 0) = BitVec.ofNat 32 k.val) :
    Host.gather gather_S1024x1024_S2048x1_S2048x1024_1_0_n_n_0_1_11024 x i (ix2 a j) = x (ix2 k j) := by
  unfold Host.gather
  congr 1
  funext b
  refine Fin.ext ?_
  show (gather_S1024x1024_S2048x1_S2048x1024_1_0_n_n_0_1_11024).start (ix2 a j) i b + (gather_S1024x1024_S2048x1_S2048x1024_1_0_n_n_0_1_11024).batchCoord (ix2 a j) b
      + (gather_S1024x1024_S2048x1_S2048x1024_1_0_n_n_0_1_11024).offCoord (ix2 a j) b = _
  rw [GatherDims.batchCoord_eq_zero _ _ _ List.not_mem_nil]
  have h01 : b = 0 ∨ b = 1 := by
    match b with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S1024x1024_S2048x1_S2048x1024_1_0_n_n_0_1_11024).startIndexMap from List.mem_singleton.mpr rfl)]
    have hsi : (gather_S1024x1024_S2048x1_S2048x1024_1_0_n_n_0_1_11024).siIdx (ix2 a j) ⟨List.idxOf (0 : Fin 2) (gather_S1024x1024_S2048x1_S2048x1024_1_0_n_n_0_1_11024).startIndexMap,
        List.idxOf_lt_length_iff.2 (List.mem_singleton.mpr rfl)⟩ = ix2 a 0 := by
      funext b; refine Fin.ext ?_
      match b with
      | ⟨0, _⟩ => rfl
      | ⟨1, _⟩ => rfl
    rw [hsi, h, toInt_num]
    have := k.isLt
    show min k.val 1023 = k.val
    omega
  · unfold GatherDims.start GatherDims.offCoord
    rw [dif_neg (show ¬ (1 : Fin 2) ∈ (gather_S1024x1024_S2048x1_S2048x1024_1_0_n_n_0_1_11024).startIndexMap from fun h => by simp [gather_S1024x1024_S2048x1_S2048x1024_1_0_n_n_0_1_11024] at h),
      dif_pos (show (1 : Fin 2) ∈ (gather_S1024x1024_S2048x1_S2048x1024_1_0_n_n_0_1_11024).sKept from (GatherDims.mem_sKept _ _).mpr ⟨fun h => by simp [gather_S1024x1024_S2048x1_S2048x1024_1_0_n_n_0_1_11024] at h, List.not_mem_nil⟩)]
    show 0 + 0 + j.val = j.val
    omega

end Cert.ReferenceIdeal.Mine

end
-- ==== Proof.RefLevel.lean ====
/-
  One level of the reference, row by row, over the extended reals.
-/
module

public import proofs.«01_k».proof.Proof.RefTake

@[expose] public section

set_option maxRecDepth 16384

noncomputable section

namespace Cert.ReferenceIdeal.Mine

open Cert.ReferenceIdeal Cert.ReferenceIdeal.Gen Cert.Mine
open Idealize.ShloMosaic Idealize.ShloMosaic.StableHlo

/-- A row of a table. -/
def row {A B : ℕ} (x : (⟨2, ![A, B]⟩ : Shape).Idx → EReal) (a : Fin A) (j : Fin B) : EReal := x (ix2 a j)

/-- Twice a sum. -/
theorem two_sum {n : ℕ} (f : Fin n → EReal) : ∑ j, 2 * f j = 2 * ∑ j, f j := by
  classical
  induction (Finset.univ : Finset (Fin n)) using Finset.induction_on with
  | empty => simp
  | insert a s ha ih =>
    rw [Finset.sum_insert ha, Finset.sum_insert ha, ih, EReal.left_distrib_of_nonneg_of_ne_top (by norm_num) (by decide)]

/-- The distances, as computed. -/
def distF (E : FVec Ideal S1024x1024 .f32) (r : FVec Ideal S2048x1024 .f32) : FVec Ideal S2048x1024 .f32 :=
  addf (subf (broadcastInDim S2048x1024 ![0, 1] bcast_S2048x1_S2048x1024_0_1 (broadcastInDim S2048x1 ![0] bcast_S2048_S2048x1_0
        (Host.reduceAdd (F := Ideal) (φ := .f32) (mulf (F := Ideal) (φ := .f32) r r) (constant (F := Ideal) S_ .f32 0x00000000#32) reducesTo_S2048x1024_S2048_d1 h_S_)))
      (Host.dotGeneral (F := Ideal) dot_S2048x1024_S1024x1024_S2048x1024_1_0_0_1_n_n none
        (mulf (F := Ideal) (φ := .f32) (broadcastInDim S2048x1024 ![] bcast_S_S2048x1024 (constant (F := Ideal) S_ .f32 0x40000000#32)) r)
        (transpose S1024x1024 [1, 0] (E : FVec Ideal S1024x1024 .f32) transposes_S1024x1024_S1024x1024_1_0 : FVec Ideal S1024x1024 .f32)))
    (broadcastInDim S2048x1024 ![0, 1] bcast_S1x1024_S2048x1024_0_1 (broadcastInDim S1x1024 ![1] bcast_S1024_S1x1024_1
      (Host.reduceAdd (F := Ideal) (φ := .f32) (mulf (F := Ideal) (φ := .f32) E E) (constant (F := Ideal) S_ .f32 0x00000000#32) reducesTo_S1024x1024_S1024_d1 h_S_)))

/-- A distance at one entry. -/
theorem distF_at (E : FVec Ideal S1024x1024 .f32) (r : FVec Ideal S2048x1024 .f32) (a : Fin 2048) (k : Fin 1024) :
    distF E r (ix2 a k) = Mine.dist (row r a) (row E) k := by
  unfold Mine.dist
  rw [← two_sum]
  simp only [← mul_assoc, ← bits_two]
  pointwise [distF, row]

/-- A quotient by a real. -/
theorem div_real (S : EReal) {n : ℝ} (hn : n ≠ 0) : Ideal.div S n = S * ((1 / n : ℝ) : EReal) := by
  unfold Ideal.div
  rw [if_neg (by exact_mod_cast hn), one_div, EReal.coe_inv]

/-- The mean square, as computed. -/
def meanF (r q : FVec Ideal S2048x1024 .f32) : FVec Ideal S_ .f32 :=
  Host.divf (F := Ideal) (φ := .f32) (Host.reduceAdd (F := Ideal) (φ := .f32) (mulf (F := Ideal) (φ := .f32) (subf (F := Ideal) (φ := .f32) r q) (subf (F := Ideal) (φ := .f32) r q)) (constant (F := Ideal) S_ .f32 0x00000000#32) reducesTo_S2048x1024_S_d0_1 h_S_)
    (constant (F := Ideal) S_ .f32 0x4A000000#32)

/-- The mean squared error is the sum over its count. -/
theorem meanF_at (r q : FVec Ideal S2048x1024 .f32) (i : S_.Idx) :
    meanF r q i = (∑ a : Fin 2048, ∑ j : Fin 1024, (row r a j - row q a j) * (row r a j - row q a j)) * ((1 / 2097152 : ℝ) : EReal) := by
  rw [← div_real _ (by norm_num), ← bits_n]
  pointwise [meanF, row]

/-- The row numbers as taken: a negative one counts from the end. -/
def wrapF (i : IVec S2048 32) : IVec S2048x1 32 :=
  broadcastInDim S2048x1 ![0] bcast_S2048_S2048x1_0 (select (cmpi .slt i (broadcastInDim S2048 ![] bcast_S_S2048 (constantI S_ 32 0#32)))
    (addi i (broadcastInDim S2048 ![] bcast_S_S2048 (constantI S_ 32 1024#32))) i)

/-- A number in range is not wrapped. -/
theorem wrapF_at (i : IVec S2048 32) (a : Fin 2048) (k : Fin 1024) (h : i (ix1 a) = BitVec.ofNat 32 k.val) : wrapF i (ix2 a 0) = BitVec.ofNat 32 k.val := by
  have hlt : IntOp.cmpi .slt (BitVec.ofNat 32 k.val) 0#32 = 0#1 := by
    show BitVec.ofBool ((BitVec.ofNat 32 k.val).slt 0#32) = BitVec.ofBool false
    rw [BitVec.slt, toInt_num, decide_eq_false]
    simp
  pointwise [wrapF]
  rw [h, hlt]
  rfl

/-- Whether the numbers are in range. -/
def okF (i : IVec S2048x1 32) : IVec S2048 1 :=
  Host.reduce IntOp.andi (andi (cmpi .sge i (broadcastInDim S2048x1 ![] bcast_S_S2048x1 (constantI S_ 32 0#32)))
    (cmpi .sle i (broadcastInDim S2048x1 ![0, 1] bcast_S1x1_S2048x1_0_1 (broadcastInDim S1x1 ![1] bcast_S1_S1x1_1 (constantI S1 32 1023#32)))))
    (constantI S_ 1 1#1) reducesTo_S2048x1_S2048_d1 h_S_

/-- A number in range is accepted. -/
theorem okF_at (i : IVec S2048x1 32) (a : Fin 2048) (k : Fin 1024) (h : i (ix2 a 0) = BitVec.ofNat 32 k.val) : okF i (ix1 a) = 1#1 := by
  have hk := k.isLt
  have hge : IntOp.cmpi .sge (BitVec.ofNat 32 k.val) 0#32 = 1#1 := by
    show BitVec.ofBool ((0#32).sle (BitVec.ofNat 32 k.val)) = BitVec.ofBool true
    rw [BitVec.sle, toInt_num, decide_eq_true]
    simp
  have hle : IntOp.cmpi .sle (BitVec.ofNat 32 k.val) 1023#32 = 1#1 := by
    show BitVec.ofBool ((BitVec.ofNat 32 k.val).sle 1023#32) = BitVec.ofBool true
    rw [BitVec.sle, toInt_num, decide_eq_true]
    show (k.val : ℤ) ≤ 1023
    omega
  pointwise [okF]
  rw [Finset.univ_unique, Finset.fold_singleton]
  show IntOp.andi (IntOp.andi (IntOp.cmpi .sge (i (ix2 a 0)) 0#32) (IntOp.cmpi .sle (i (ix2 a 0)) 1023#32)) 1#1 = 1#1
  rw [h, hge, hle]
  rfl

section
variable {W : Valuation τ sig (Elt Ideal)} {a0 : TRef sig ⟨S1024x1024, .f32⟩} {a1 a2 a3 : TRef sig ⟨S2048x1024, .f32⟩} {φ : fn_level.Bufs}
  (H : ∀ op ∈ levelOps (F := Ideal) a0 a1 a2 a3 φ, Holds W op)
include H

/-- A level's distances. -/
theorem level_dist : (rd W φ.v13 : Vec Ideal S2048x1024 .f32) = distF (rd W a0) (rd W a2) := by
  simp only [levelOps, List.forall_mem_cons] at H
  obtain ⟨h1, h2, h3, h4, h5, h6, h7, h8, h9, h10, h11, h12, h13, h14, h15, h16, h17, -⟩ := H
  rw [rd_binary h17, rd_unary h16, rd_unary h15, rd_binary h14, rd_nullary h13, rd_binary h12, rd_binary h11, rd_unary h10, rd_binary h9, rd_unary h8, rd_binary h7,
    rd_unary h6, rd_nullary h5, rd_unary h4, rd_binary h3, rd_nullary h2, rd_binary h1]
  rfl

/-- A level's number is the nearest entry's. -/
theorem level_idx (a : Fin 2048) : (rd W φ.call0.v1_1 : IVec S2048 32) (ix1 a)
    = BitVec.ofNat 32 (near (row (rd W a2 : FVec Ideal S2048x1024 .f32) a) (row (rd W a0 : FVec Ideal S1024x1024 .f32))).val := by
  have hd := level_dist H
  simp only [levelOps, List.forall_mem_cons] at H
  obtain ⟨-, -, -, -, -, -, -, -, -, -, -, -, -, -, -, -, -, h18, h19, h20, -, h22, -⟩ := H
  rw [rd_quaternary h22, rd_nullary h18, rd_nullary h19, rd_nullary h20, hd]
  refine (argmin_at _ a).trans ?_
  unfold near
  simp only [distF_at]

/-- A level's picked row is the nearest entry. -/
theorem level_pick (a : Fin 2048) (j : Fin 1024) : (rd W φ.call1.v16 : FVec Ideal S2048x1024 .f32) (ix2 a j)
    = row (rd W a0 : FVec Ideal S1024x1024 .f32) (near (row (rd W a2 : FVec Ideal S2048x1024 .f32) a) (row (rd W a0 : FVec Ideal S1024x1024 .f32))) j := by
  have hi := level_idx H a
  simp only [levelOps, List.forall_mem_cons] at H
  obtain ⟨-, -, -, -, -, -, -, -, -, -, -, -, -, -, -, -, -, -, -, -, -, -, h23, h24, h25, h26, h27, h28, h29, h30, h31, h32, h33, h34, h35, h36, h37, h38, h39, h40, h41, h42, h43, h44, h45, -⟩ := H
  have h5 : (rd W φ.call1.v5 : IVec S2048x1 32) = wrapF (rd W φ.call0.v1_1) := by
    rw [rd_unary h30, rd_ternary h29, rd_binary h28, rd_unary h27, rd_nullary h26, rd_binary h25, rd_unary h24, rd_nullary h23]
    rfl
  have h12 : (rd W φ.call1.v12 : IVec S2048 1) = okF (rd W φ.call1.v5) := by
    rw [rd_binary h40, rd_nullary h39, rd_binary h38, rd_binary h37, rd_unary h36, rd_unary h35, rd_binary h34, rd_unary h33, rd_nullary h32, rd_nullary h31]
    rfl
  have hw := wrapF_at _ a _ hi
  rw [← h5] at hw
  have ho := okF_at _ a _ hw
  rw [← h12] at ho
  rw [rd_ternary h45, rd_unary h42, rd_binary h41]
  show Scalar.select ((broadcastInDim S2048x1024 ![0] bcast_S2048_S2048x1024_0 (rd W φ.call1.v12 : IVec S2048 1)) (ix2 a j)) _ _ = _
  have hb : (broadcastInDim S2048x1024 ![0] bcast_S2048_S2048x1024_0 (rd W φ.call1.v12 : IVec S2048 1)) (ix2 a j) = 1#1 := by
    refine Eq.trans ?_ ho
    pointwise []
  rw [hb]
  exact gather_at _ _ a j _ hw

/-- A level's new sum. -/
theorem level_sum (a : Fin 2048) : row (rd W φ.v28 : FVec Ideal S2048x1024 .f32) a = fun j => row (rd W a3 : FVec Ideal S2048x1024 .f32) a j
    + (row (rd W a2 : FVec Ideal S2048x1024 .f32) a j + (row (rd W a0 : FVec Ideal S1024x1024 .f32) (near (row (rd W a2 : FVec Ideal S2048x1024 .f32) a) (row (rd W a0 : FVec Ideal S1024x1024 .f32))) j - row (rd W a2 : FVec Ideal S2048x1024 .f32) a j)) := by
  funext j
  rw [← level_pick H]
  simp only [levelOps, List.forall_mem_cons] at H
  obtain ⟨-, -, -, -, -, -, -, -, -, -, -, -, -, -, -, -, -, -, -, -, -, -, -, -, -, -, -, -, -, -, -, -, -, -, -, -, -, -, -, -, -, -, -, -, -, -, -, -, -, -, -, -, -, -, -, -, -, -, -, -, h61, h62, h63, -⟩ := H
  rw [rd_binary h63, rd_binary h62, rd_binary h61]
  rfl

/-- A level's new rest. -/
theorem level_left (a : Fin 2048) : row (rd W φ.v29 : FVec Ideal S2048x1024 .f32) a = left (row (rd W a1 : FVec Ideal S2048x1024 .f32) a) (row (rd W φ.v28 : FVec Ideal S2048x1024 .f32) a) := by
  simp only [levelOps, List.forall_mem_cons] at H
  obtain ⟨-, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, h64, -⟩ := H
  rw [rd_binary h64]
  rfl

/-- A level's loss from its picked rows. -/
theorem level_loss (i : S_.Idx) : (rd W φ.v25 : FVec Ideal S_ .f32) i
    = ((1 / 4 : ℝ) : EReal) * meanF (rd W a2) (rd W φ.call1.v16) i + meanF (rd W a2) (rd W φ.call1.v16) i := by
  simp only [levelOps, List.forall_mem_cons] at H
  obtain ⟨-, -, -, -, -, -, -, -, -, -, -, -, -, -, -, -, -, -, -, -, -, -, -, -, -, -, -, -, -, -, -, -, -, -, -, -, -, -, -, -, -, -, -, -, -, h46, h47, h48, h49, h50, h51, h52, h53, h54, h55, h56, h57, h58, h59, h60, -⟩ := H
  rw [rd_binary h60, rd_binary h59, rd_nullary h58, rd_binary h57, rd_nullary h56, rd_binary h55, rd_binary h54, rd_binary h53, rd_nullary h52, rd_binary h51, rd_nullary h50, rd_binary h49, rd_nullary h48,
    rd_binary h47, rd_binary h46, ← bits_quarter]
  rfl

end

end Cert.ReferenceIdeal.Mine

end
-- ==== Proof.RefEnds.lean ====
/-
  The reference's encoder, codebooks and decoder, read over the extended reals.
-/
module

public import proofs.«01_k».proof.Proof.RefLevel

@[expose] public section

set_option maxRecDepth 16384

noncomputable section

namespace Cert.ReferenceIdeal.Mine

open Cert.ReferenceIdeal Cert.ReferenceIdeal.Gen Cert.Mine
open Idealize.ShloMosaic Idealize.ShloMosaic.StableHlo

/-- A bias. -/
def bias {B : ℕ} (x : (⟨1, ![B]⟩ : Shape).Idx → EReal) (j : Fin B) : EReal := x (ix1 j)

/-- A bias spread over the rows. -/
def spread (b : FVec Ideal S1024 .f32) : FVec Ideal S2048x1024 .f32 :=
  broadcastInDim S2048x1024 ![0, 1] bcast_S1x1024_S2048x1024_0_1 (broadcastInDim S1x1024 ![1] bcast_S1024_S1x1024_1 b)
/-- A table of zeros. -/
def zeros : FVec Ideal S2048x1024 .f32 := broadcastInDim S2048x1024 ![] bcast_S_S2048x1024 (constant (F := Ideal) S_ .f32 0x00000000#32)

/-- The encoder, as computed. -/
def encF (x : FVec Ideal S2048x512 .f32) (w1 : FVec Ideal S512x1024 .f32) (b1 : FVec Ideal S1024 .f32) (w2 : FVec Ideal S1024x1024 .f32) (b2 : FVec Ideal S1024 .f32)
    (w3 : FVec Ideal S1024x1024 .f32) (b3 : FVec Ideal S1024 .f32) : FVec Ideal S2048x1024 .f32 :=
  addf (Host.dotGeneral dot_S2048x1024_S1024x1024_S2048x1024_1_0_0_1_n_n none
    (maximumf (addf (Host.dotGeneral dot_S2048x1024_S1024x1024_S2048x1024_1_0_0_1_n_n none
      (maximumf (addf (Host.dotGeneral dot_S2048x512_S512x1024_S2048x1024_1_0_0_1_n_n none x w1) (spread b1)) zeros) w2) (spread b2)) zeros) w3) (spread b3)

/-- The encoder at one entry. -/
theorem encF_at (x : FVec Ideal S2048x512 .f32) (w1 : FVec Ideal S512x1024 .f32) (b1 : FVec Ideal S1024 .f32) (w2 : FVec Ideal S1024x1024 .f32) (b2 : FVec Ideal S1024 .f32)
    (w3 : FVec Ideal S1024x1024 .f32) (b3 : FVec Ideal S1024 .f32) (a : Fin 2048) (j : Fin 1024) :
    encF x w1 b1 w2 b2 w3 b3 (ix2 a j) = mlp (row x a) (row w1) (bias b1) (row w2) (bias b2) (row w3) (bias b3) j := by
  pointwise [encF, spread, zeros]
  rfl

/-- The decoder, as computed. -/
def decF (x : FVec Ideal S2048x1024 .f32) (w1 : FVec Ideal S1024x1024 .f32) (b1 : FVec Ideal S1024 .f32) (w2 : FVec Ideal S1024x1024 .f32) (b2 : FVec Ideal S1024 .f32)
    (w3 : FVec Ideal S1024x512 .f32) (b3 : FVec Ideal S512 .f32) : FVec Ideal S2048x512 .f32 :=
  addf (Host.dotGeneral dot_S2048x1024_S1024x512_S2048x512_1_0_0_1_n_n none
    (maximumf (addf (Host.dotGeneral dot_S2048x1024_S1024x1024_S2048x1024_1_0_0_1_n_n none
      (maximumf (addf (Host.dotGeneral dot_S2048x1024_S1024x1024_S2048x1024_1_0_0_1_n_n none x w1) (spread b1)) zeros) w2) (spread b2)) zeros) w3)
    (broadcastInDim S2048x512 ![0, 1] bcast_S1x512_S2048x512_0_1 (broadcastInDim S1x512 ![1] bcast_S512_S1x512_1 b3))

/-- The decoder at one entry. -/
theorem decF_at (x : FVec Ideal S2048x1024 .f32) (w1 : FVec Ideal S1024x1024 .f32) (b1 : FVec Ideal S1024 .f32) (w2 : FVec Ideal S1024x1024 .f32) (b2 : FVec Ideal S1024 .f32)
    (w3 : FVec Ideal S1024x512 .f32) (b3 : FVec Ideal S512 .f32) (a : Fin 2048) (j : Fin 512) :
    decF x w1 b1 w2 b2 w3 b3 (ix2 a j) = mlp (row x a) (row w1) (bias b1) (row w2) (bias b2) (row w3) (bias b3) j := by
  pointwise [decF, spread, zeros]
  rfl

/-- The decoder's mean square, as computed. -/
def rmeanF (r q : FVec Ideal S2048x512 .f32) : FVec Ideal S_ .f32 :=
  Host.divf (F := Ideal) (φ := .f32) (Host.reduceAdd (F := Ideal) (φ := .f32) (mulf (F := Ideal) (φ := .f32) (subf (F := Ideal) (φ := .f32) r q) (subf (F := Ideal) (φ := .f32) r q)) (constant (F := Ideal) S_ .f32 0x00000000#32) reducesTo_S2048x512_S_d0_1 h_S_)
    (constant (F := Ideal) S_ .f32 0x49800000#32)

/-- The reconstruction's mean squared error is the sum over its count. -/
theorem rmeanF_at (r q : FVec Ideal S2048x512 .f32) (i : S_.Idx) :
    rmeanF r q i = (∑ a : Fin 2048, ∑ j : Fin 512, (row r a j - row q a j) * (row r a j - row q a j)) * ((1 / 1048576 : ℝ) : EReal) := by
  rw [← div_real _ (by norm_num), ← bits_m]
  pointwise [rmeanF, row]

/-- A codebook cut from the eight. -/
def cutF (g : ℕ) (h : S8x1024x1024.Slices ![g, 0, 0] S1x1024x1024) (E : FVec Ideal S8x1024x1024 .f32) : FVec Ideal S1024x1024 .f32 :=
  shapeCast S1024x1024 (extractStridedSlice S1x1024x1024 ![g, 0, 0] E h) shapeCasts_S1x1024x1024_S1024x1024

/-- A codebook cut out, at one entry. -/
theorem cutF_at (g : Fin 8) (h : S8x1024x1024.Slices ![g.val, 0, 0] S1x1024x1024) (E : FVec Ideal S8x1024x1024 .f32) (k j : Fin 1024) :
    cutF g.val h E (ix2 k j) = E (ix3 g k j) := by
  pointwise [cutF]

/-- Eight columns side by side. -/
def colsF (u : Fin 8 → IVec S2048 32) : IVec S2048x8 32 :=
  concatenate S2048x8 1 [⟨S2048x1, broadcastInDim S2048x1 ![0] bcast_S2048_S2048x1_0 (u 0)⟩, ⟨S2048x1, broadcastInDim S2048x1 ![0] bcast_S2048_S2048x1_0 (u 1)⟩,
    ⟨S2048x1, broadcastInDim S2048x1 ![0] bcast_S2048_S2048x1_0 (u 2)⟩, ⟨S2048x1, broadcastInDim S2048x1 ![0] bcast_S2048_S2048x1_0 (u 3)⟩,
    ⟨S2048x1, broadcastInDim S2048x1 ![0] bcast_S2048_S2048x1_0 (u 4)⟩, ⟨S2048x1, broadcastInDim S2048x1 ![0] bcast_S2048_S2048x1_0 (u 5)⟩,
    ⟨S2048x1, broadcastInDim S2048x1 ![0] bcast_S2048_S2048x1_0 (u 6)⟩, ⟨S2048x1, broadcastInDim S2048x1 ![0] bcast_S2048_S2048x1_0 (u 7)⟩]
    concatenates_S2048x1_S2048x1_S2048x1_S2048x1_S2048x1_S2048x1_S2048x1_S2048x1_S2048x8_d1

/-- The columns at one entry. -/
theorem colsF_at (u : Fin 8 → IVec S2048 32) (a : Fin 2048) (g : Fin 8) : colsF u (ix2 a g) = u g (ix1 a) := by
  fin_cases g <;> pointwise [colsF]

variable {W : Valuation τ sig (Elt Ideal)}

section
variable (H : ∀ op ∈ encOps (F := Ideal), Holds W op)
include H

/-- The input's rows. -/
theorem enc_x : W (Proc.devRef .tc main_v0) = (shapeCast S2048x512 (W (Proc.devRef .tc main_arg0) : FVec Ideal S2048x16x32 .f32) shapeCasts_S2048x16x32_S2048x512 : FVec Ideal S2048x512 .f32) := by
  simp only [encOps, List.forall_mem_cons] at H
  obtain ⟨h1, -⟩ := H
  exact (at_reshape h1).trans (reshape_result' ..)

/-- The latent. -/
theorem enc_z : W (Proc.devRef .tc main_v16) = encF (W (Proc.devRef .tc main_v0)) (W (Proc.devRef .tc main_arg1)) (W (Proc.devRef .tc main_arg2)) (W (Proc.devRef .tc main_arg3))
    (W (Proc.devRef .tc main_arg4)) (W (Proc.devRef .tc main_arg5)) (W (Proc.devRef .tc main_arg6)) := by
  simp only [encOps, List.forall_mem_cons] at H
  obtain ⟨-, h2, h3, h4, h5, h6, h7, h8, h9, h10, h11, h12, h13, h14, h15, h16, h17, h18, h19, -⟩ := H
  rw [at_binary h19, at_unary h18, at_unary h17, at_binary h16, at_binary h15, at_unary h14, at_nullary h13, at_binary h12, at_unary h11, at_unary h10, at_binary h9, at_binary h8,
    at_unary h7, at_nullary h6, at_binary h5, at_unary h4, at_unary h3, at_binary h2]
  rfl

/-- The sum starts at zero. -/
theorem enc_zero : W (Proc.devRef .tc main_v17) = zeros := by
  simp only [encOps, List.forall_mem_cons] at H
  obtain ⟨-, -, -, -, -, -, -, -, -, -, -, -, -, -, -, -, -, -, -, h20, h21, -⟩ := H
  rw [at_unary h21, at_nullary h20]
  rfl

/-- The first codebook. -/
theorem enc_book : W (Proc.devRef .tc main_v19) = cutF 0 slices_S8x1024x1024_S1x1024x1024_0_0_0 (W (Proc.devRef .tc main_arg13)) := by
  simp only [encOps, List.forall_mem_cons] at H
  obtain ⟨-, -, -, -, -, -, -, -, -, -, -, -, -, -, -, -, -, -, -, -, -, h22, h23, -⟩ := H
  refine ((at_reshape h23).trans (reshape_result' ..)).trans ?_
  rw [at_unary h22]
  rfl

end

section
variable (H : ∀ op ∈ decOps (F := Ideal), Holds W op)
include H

/-- The levels' losses added up. -/
theorem dec_loss : W (Proc.devRef .tc main_v49) = addf (F := Ideal) (φ := .f32) (W (Proc.devRef .tc main_v45) : FVec Ideal S_ .f32) (W (Proc.devRef .tc main_v48_1) : FVec Ideal S_ .f32) := by
  simp only [decOps, List.forall_mem_cons] at H
  obtain ⟨h1, -⟩ := H
  exact at_binary h1

/-- The numbers, side by side. -/
theorem dec_cols : W (Proc.devRef .tc main_v58) = colsF ![W (Proc.devRef .tc main_v20_0), W (Proc.devRef .tc main_v24_0), W (Proc.devRef .tc main_v28_0), W (Proc.devRef .tc main_v32_0),
    W (Proc.devRef .tc main_v36_0), W (Proc.devRef .tc main_v40_0), W (Proc.devRef .tc main_v44_0), W (Proc.devRef .tc main_v48_0)] := by
  simp only [decOps, List.forall_mem_cons] at H
  obtain ⟨-, h2, h3, h4, h5, h6, h7, h8, h9, h10, -⟩ := H
  refine (at_nary h10).trans ?_
  show concatenate S2048x8 1 [⟨S2048x1, (W (Proc.devRef .tc main_v50) : IVec S2048x1 32)⟩, ⟨S2048x1, (W (Proc.devRef .tc main_v51) : IVec S2048x1 32)⟩, ⟨S2048x1, (W (Proc.devRef .tc main_v52) : IVec S2048x1 32)⟩,
    ⟨S2048x1, (W (Proc.devRef .tc main_v53) : IVec S2048x1 32)⟩, ⟨S2048x1, (W (Proc.devRef .tc main_v54) : IVec S2048x1 32)⟩, ⟨S2048x1, (W (Proc.devRef .tc main_v55) : IVec S2048x1 32)⟩,
    ⟨S2048x1, (W (Proc.devRef .tc main_v56) : IVec S2048x1 32)⟩, ⟨S2048x1, (W (Proc.devRef .tc main_v57) : IVec S2048x1 32)⟩] _ = _
  rw [at_unary h2, at_unary h3, at_unary h4, at_unary h5, at_unary h6, at_unary h7, at_unary h8, at_unary h9]
  rfl

/-- The decoded rows. -/
theorem dec_rows : W (Proc.devRef .tc main_v74) = decF (W (Proc.devRef .tc main_v48_2)) (W (Proc.devRef .tc main_arg7)) (W (Proc.devRef .tc main_arg8)) (W (Proc.devRef .tc main_arg9))
    (W (Proc.devRef .tc main_arg10)) (W (Proc.devRef .tc main_arg11)) (W (Proc.devRef .tc main_arg12)) := by
  simp only [decOps, List.forall_mem_cons] at H
  obtain ⟨-, -, -, -, -, -, -, -, -, -, h11, h12, h13, h14, h15, h16, h17, h18, h19, h20, h21, h22, h23, h24, h25, h26, h27, h28, -⟩ := H
  rw [at_binary h28, at_unary h27, at_unary h26, at_binary h25, at_binary h24, at_unary h23, at_nullary h22, at_binary h21, at_unary h20, at_unary h19, at_binary h18, at_binary h17,
    at_unary h16, at_nullary h15, at_binary h14, at_unary h13, at_unary h12, at_binary h11]
  rfl

/-- The reconstruction returned. -/
theorem dec_rec : W (Proc.devRef .tc main_v75) = (shapeCast S2048x16x32 (W (Proc.devRef .tc main_v74) : FVec Ideal S2048x512 .f32) shapeCasts_S2048x512_S2048x16x32 : FVec Ideal S2048x16x32 .f32) := by
  simp only [decOps, List.forall_mem_cons] at H
  obtain ⟨-, -, -, -, -, -, -, -, -, -, -, -, -, -, -, -, -, -, -, -, -, -, -, -, -, -, -, -, h29, -⟩ := H
  exact (at_reshape h29).trans (reshape_result' ..)

/-- The loss returned. -/
theorem dec_total : W (Proc.devRef .tc main_v80) = addf (F := Ideal) (φ := .f32) (W (Proc.devRef .tc main_v49) : FVec Ideal S_ .f32) (rmeanF (W (Proc.devRef .tc main_v74)) (W (Proc.devRef .tc main_v0))) := by
  simp only [decOps, List.forall_mem_cons] at H
  obtain ⟨-, -, -, -, -, -, -, -, -, -, -, -, -, -, -, -, -, -, -, -, -, -, -, -, -, -, -, -, -, h30, h31, h32, h33, h34, h35, h36, -⟩ := H
  rw [at_binary h36, at_binary h35, at_nullary h34, at_binary h33, at_nullary h32, at_binary h31, at_binary h30]
  rfl

end

end Cert.ReferenceIdeal.Mine

end
-- ==== Proof.RefValue.lean ====
/-
  What the reference leaves, as the mathematics.
-/
module

public import proofs.«01_k».proof.Proof.RefEnds

@[expose] public section

set_option maxRecDepth 16384

noncomputable section

namespace Cert.ReferenceIdeal.Mine

open Cert.ReferenceIdeal Cert.ReferenceIdeal.Gen Cert.Mine
open Idealize.ShloMosaic Idealize.ShloMosaic.StableHlo

/-- A level's loss from the squared errors of all rows. -/
def levelLoss (S : EReal) : EReal := S * ((5 / 4 / 2097152 : ℝ) : EReal)

/-- A quarter of the mean and the mean. -/
theorem quarter_and (S : EReal) : ((1 / 4 : ℝ) : EReal) * (S * ((1 / 2097152 : ℝ) : EReal)) + S * ((1 / 2097152 : ℝ) : EReal) = levelLoss S := by
  unfold levelLoss
  rw [mul_comm, mul_assoc, ← EReal.coe_mul, ← EReal.left_distrib_of_nonneg (by exact_mod_cast (by norm_num : (0 : ℝ) ≤ 1 / 2097152 * (1 / 4))) (by exact_mod_cast (by norm_num : (0 : ℝ) ≤ 1 / 2097152)), ← EReal.coe_add]
  norm_num

variable {W : Valuation τ sig (Elt Ideal)}

/-- One level: the sum, the rest, the numbers and the loss. -/
theorem level_step {a0 : TRef sig ⟨S1024x1024, .f32⟩} {a1 a2 a3 : TRef sig ⟨S2048x1024, .f32⟩} {φ : fn_level.Bufs} (H : ∀ op ∈ levelOps (F := Ideal) a0 a1 a2 a3 φ, Holds W op)
    {g : ℕ} {z : Fin 2048 → Fin 1024 → EReal} {E : ℕ → Book} (hE : row (rd W a0 : FVec Ideal S1024x1024 .f32) = E g) (hz : row (rd W a1 : FVec Ideal S2048x1024 .f32) = z)
    (hr : ∀ a, row (rd W a2 : FVec Ideal S2048x1024 .f32) a = left (z a) (sumTo (z a) E g)) (hq : ∀ a, row (rd W a3 : FVec Ideal S2048x1024 .f32) a = sumTo (z a) E g) :
    (∀ a, row (rd W φ.v28 : FVec Ideal S2048x1024 .f32) a = sumTo (z a) E (g + 1)) ∧ (∀ a, row (rd W φ.v29 : FVec Ideal S2048x1024 .f32) a = left (z a) (sumTo (z a) E (g + 1)))
      ∧ (∀ a, (rd W φ.call0.v1_1 : IVec S2048 32) (ix1 a) = BitVec.ofNat 32 (pick (z a) E g).val)
      ∧ ∀ i, (rd W φ.v25 : FVec Ideal S_ .f32) i = levelLoss (∑ a, err (z a) E g) := by
  have hs : ∀ a, row (rd W φ.v28 : FVec Ideal S2048x1024 .f32) a = sumTo (z a) E (g + 1) := by
    intro a
    rw [level_sum H, hE, hr, hq]
    rfl
  refine ⟨hs, fun a => ?_, fun a => ?_, fun i => ?_⟩
  · rw [level_left H, hs, hz]
  · rw [level_idx H, hE, hr]
    rfl
  · rw [level_loss H, meanF_at, quarter_and]
    refine congrArg levelLoss (Finset.sum_congr rfl fun a _ => Finset.sum_congr rfl fun j _ => ?_)
    have hp : row (rd W φ.call1.v16 : FVec Ideal S2048x1024 .f32) a j = _ := level_pick H a j
    rw [hp, hE, hr]
    rfl

/-- The eight codebooks. -/
def books (W : Valuation τ sig (Elt Ideal)) (g : ℕ) : Book := fun k j => (W (Proc.devRef .tc main_arg13) : FVec Ideal S8x1024x1024 .f32) (ix3 ⟨g % 8, by omega⟩ k j)
/-- The latent's rows. -/
def zs (W : Valuation τ sig (Elt Ideal)) : Fin 2048 → Fin 1024 → EReal := row (W (Proc.devRef .tc main_v16) : FVec Ideal S2048x1024 .f32)

/-- A codebook cut out. -/
theorem book_cut (g : Fin 8) {h : S8x1024x1024.Slices ![g.val, 0, 0] S1x1024x1024} {e : FVec Ideal S1024x1024 .f32} (he : e = cutF g.val h (W (Proc.devRef .tc main_arg13))) : row e = books W g.val := by
  have hg := g.isLt
  funext k j
  show e (ix2 k j) = _
  rw [he, cutF_at]
  unfold books
  congr 2
  exact Fin.ext (show g.val = g.val % 8 by omega)

/-- The step between levels: the loss so far and the next codebook. -/
theorem mid_step {l l' n s e : Ref sig .tc} {fl : l.ty.Contents (Elt Ideal) → n.ty.Contents (Elt Ideal) → l'.ty.Contents (Elt Ideal)} {fs : (main_arg13 : Ref sig .tc).ty.Contents (Elt Ideal) → s.ty.Contents (Elt Ideal)}
    {x1 x2 x3 y1 y2 w1 w2 w3 w4} (H : ∀ op ∈ [StableHlo.binary (τ := τ) l n l' fl x1 x2 x3, StableHlo.unary (τ := τ) main_arg13 s fs y1 y2, StableHlo.reshape (τ := τ) s e w1 w2 w3 w4], Holds W op) :
    W (Proc.devRef .tc l') = fl (W (Proc.devRef .tc l)) (W (Proc.devRef .tc n)) ∧ W (Proc.devRef .tc e) = fun i => w1 ▸ shapeCast e.ty.shape (fs (W (Proc.devRef .tc main_arg13))) w2 i := by
  simp only [List.forall_mem_cons] at H
  obtain ⟨h1, h2, h3, -⟩ := H
  refine ⟨at_binary h1, (at_reshape h3).trans ((reshape_result' ..).trans ?_)⟩
  rw [at_unary h2]

/-- The whole line: the last sum, the losses so far and the numbers. -/
theorem levels (H : ∀ op ∈ ops (F := Ideal), Holds W op) :
    (∀ a, row (W (Proc.devRef .tc main_v48_2) : FVec Ideal S2048x1024 .f32) a = sumTo (zs W a) (books W) 8)
      ∧ (∀ i, (W (Proc.devRef .tc main_v49) : FVec Ideal S_ .f32) i = ∑ g ∈ Finset.range 8, levelLoss (∑ a, err (zs W a) (books W) g))
      ∧ ∀ (a : Fin 2048) (g : Fin 8), (W (Proc.devRef .tc main_v58) : IVec S2048x8 32) (ix2 a g) = BitVec.ofNat 32 (pick (zs W a) (books W) g.val).val := by
  simp only [ops, List.forall_mem_append] at H
  obtain ⟨he, l0, m0, l1, m1, l2, m2, l3, m3, l4, m4, l5, m5, l6, m6, l7, hd⟩ := H
  have hz0 : ∀ a, row (W (Proc.devRef .tc main_v17) : FVec Ideal S2048x1024 .f32) a = fun _ => 0 := by
    intro a
    rw [enc_zero he]
    funext j
    pointwise [row, zeros]
  obtain ⟨q0, r0, i0, s0⟩ := level_step l0 (g := 0) (z := zs W) (E := books W) (book_cut 0 (enc_book he)) rfl
    (fun a => by funext j; exact (sub_zero (zs W a j)).symm) hz0
  have m0 := (List.forall_mem_cons.mp m0)
  have t0 := at_nullary m0.1
  have m0 := m0.2
  obtain ⟨t1, b1⟩ := mid_step m0
  obtain ⟨q1, r1, i1, s1⟩ := level_step l1 (g := 1) (z := zs W) (E := books W) (book_cut 1 b1) rfl r0 q0
  obtain ⟨t2, b2⟩ := mid_step m1
  obtain ⟨q2, r2, i2, s2⟩ := level_step l2 (g := 2) (z := zs W) (E := books W) (book_cut 2 b2) rfl r1 q1
  obtain ⟨t3, b3⟩ := mid_step m2
  obtain ⟨q3, r3, i3, s3⟩ := level_step l3 (g := 3) (z := zs W) (E := books W) (book_cut 3 b3) rfl r2 q2
  obtain ⟨t4, b4⟩ := mid_step m3
  obtain ⟨q4, r4, i4, s4⟩ := level_step l4 (g := 4) (z := zs W) (E := books W) (book_cut 4 b4) rfl r3 q3
  obtain ⟨t5, b5⟩ := mid_step m4
  obtain ⟨q5, r5, i5, s5⟩ := level_step l5 (g := 5) (z := zs W) (E := books W) (book_cut 5 b5) rfl r4 q4
  obtain ⟨t6, b6⟩ := mid_step m5
  obtain ⟨q6, r6, i6, s6⟩ := level_step l6 (g := 6) (z := zs W) (E := books W) (book_cut 6 b6) rfl r5 q5
  obtain ⟨t7, b7⟩ := mid_step m6
  obtain ⟨q7, r7, i7, s7⟩ := level_step l7 (g := 7) (z := zs W) (E := books W) (book_cut 7 b7) rfl r6 q6
  have hl := dec_loss hd
  have hc := dec_cols hd
  refine ⟨q7, fun i => ?_, fun a g => ?_⟩
  · rw [hl, t7, t6, t5, t4, t3, t2, t1, t0]
    simp only [Finset.sum_range_succ, Finset.sum_range_zero]
    have e0 : (W (Proc.devRef .tc main_v20_1) : FVec Ideal S_ .f32) i = _ := s0 i
    have e1 : (W (Proc.devRef .tc main_v24_1) : FVec Ideal S_ .f32) i = _ := s1 i
    have e2 : (W (Proc.devRef .tc main_v28_1) : FVec Ideal S_ .f32) i = _ := s2 i
    have e3 : (W (Proc.devRef .tc main_v32_1) : FVec Ideal S_ .f32) i = _ := s3 i
    have e4 : (W (Proc.devRef .tc main_v36_1) : FVec Ideal S_ .f32) i = _ := s4 i
    have e5 : (W (Proc.devRef .tc main_v40_1) : FVec Ideal S_ .f32) i = _ := s5 i
    have e6 : (W (Proc.devRef .tc main_v44_1) : FVec Ideal S_ .f32) i = _ := s6 i
    have e7 : (W (Proc.devRef .tc main_v48_1) : FVec Ideal S_ .f32) i = _ := s7 i
    show ((((((((Ideal.ofBits .f32 0x00000000#32 + (W (Proc.devRef .tc main_v20_1) : FVec Ideal S_ .f32) i : EReal) + (W (Proc.devRef .tc main_v24_1) : FVec Ideal S_ .f32) i : EReal) + (W (Proc.devRef .tc main_v28_1) : FVec Ideal S_ .f32) i : EReal) + (W (Proc.devRef .tc main_v32_1) : FVec Ideal S_ .f32) i : EReal) + (W (Proc.devRef .tc main_v36_1) : FVec Ideal S_ .f32) i : EReal) + (W (Proc.devRef .tc main_v40_1) : FVec Ideal S_ .f32) i : EReal) + (W (Proc.devRef .tc main_v44_1) : FVec Ideal S_ .f32) i : EReal) + (W (Proc.devRef .tc main_v48_1) : FVec Ideal S_ .f32) i : EReal) = _
    rw [e0, e1, e2, e3, e4, e5, e6, e7, Ideal.ofBits_zero_f32]
  · rw [hc, colsF_at]
    fin_cases g
    · exact i0 a
    · exact i1 a
    · exact i2 a
    · exact i3 a
    · exact i4 a
    · exact i5 a
    · exact i6 a
    · exact i7 a

end Cert.ReferenceIdeal.Mine

end
-- ==== Proof.Tiles.lean ====
/-
  Sums over the rows, taken tile by tile.
-/
module

public import proofs.«01_k».proof.Proof.Spec
public import Idealize.ShloMosaic.Lib.Pointwise.Sums

@[expose] public section

noncomputable section

namespace Cert.Mine

open Idealize.ShloMosaic

/-- A nonnegative real factor comes out of a sum. -/
theorem sum_mul_real {ι : Type} (s : Finset ι) (f : ι → EReal) {r : ℝ} (hr : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih, mul_comm (_ + _) (r : EReal), EReal.left_distrib_of_nonneg_of_ne_top (by exact_mod_cast hr) (EReal.coe_ne_top r),
      mul_comm (f a), mul_comm (∑ i ∈ s, f i)]

/-- The rows, tile by tile. -/
theorem rows_tiles (f : ℕ → EReal) : ∑ a : Fin 2048, f a.val = ∑ k ∈ Finset.range 4, ∑ a : Fin 512, f (512 * k + a.val) := by
  rw [Finset.sum_range, Fin.sum_univ_tiles 4 512 (by norm_num)]
  refine Finset.sum_congr rfl fun k _ => Finset.sum_congr rfl fun a _ => ?_
  show f (k.val * 512 + a.val) = _
  rw [mul_comm]

/-- The levels' losses, added up step by step. -/
theorem loss_tiles (f : ℕ → ℕ → EReal) {r : ℝ} (hr : 0 ≤ r) :
    ∑ t ∈ Finset.range 32, (∑ a : Fin 512, f (512 * (t % 4) + a.val) (t / 4)) * (r : EReal) = ∑ g ∈ Finset.range 8, (∑ a : Fin 2048, f a.val g) * (r : EReal) := by
  rw [Finset.sum_range, Fin.sum_univ_tiles 8 4 (by norm_num), Finset.sum_range]
  refine Finset.sum_congr rfl fun g _ => ?_
  rw [rows_tiles fun a => f a g.val, ← sum_mul_real _ _ hr, Finset.sum_range]
  refine Finset.sum_congr rfl fun k _ => ?_
  have hk := k.isLt
  show (∑ a : Fin 512, f (512 * ((g.val * 4 + k.val) % 4) + a.val) ((g.val * 4 + k.val) / 4)) * (r : EReal) = _
  rw [show (g.val * 4 + k.val) % 4 = k.val by omega, show (g.val * 4 + k.val) / 4 = g.val by omega]

/-- The reconstruction's loss, added up over the last level's steps. -/
theorem rloss_tiles (f : ℕ → EReal) {r : ℝ} (hr : 0 ≤ r) :
    (∑ t ∈ Finset.range 32, if 28 ≤ t then (∑ a : Fin 512, f (512 * (t % 4) + a.val)) * (r : EReal) else 0) = (∑ a : Fin 2048, f a.val) * (r : EReal) := by
  rw [rows_tiles f, ← sum_mul_real _ _ hr, Finset.sum_range_succ, Finset.sum_range_succ, Finset.sum_range_succ, Finset.sum_range_succ,
    Finset.sum_eq_zero (fun t ht => if_neg (by have := Finset.mem_range.1 ht; omega)), Finset.sum_range_succ, Finset.sum_range_succ, Finset.sum_range_succ, Finset.sum_range_succ,
    Finset.sum_range_zero, if_pos (by norm_num), if_pos (by norm_num), if_pos (by norm_num), if_pos (by norm_num)]

end Cert.Mine

end
-- ==== Proof.Final.lean ====
/-
  The two programs' results are equal.
-/
module

public import proofs.«01_k».proof.Proof.KerEnds
public import proofs.«01_k».proof.Proof.RefValue
public import proofs.«01_k».proof.Proof.Tiles

@[expose] public section

set_option maxRecDepth 16384

noncomputable section

namespace Cert.Mine

open Idealize.ShloMosaic Idealize.ShloMosaic.StableHlo
open Idealize.ShloMosaic.TcCoe
open Cert.KernelIdeal Cert.KernelIdeal.Gen Cert.KernelIdeal.Mine

variable (m : (ℓ : Loc nD τ sig) → Buf (Elt Ideal) ℓ) (c : Dev nD) (W : Valuation Cert.ReferenceIdeal.τ Cert.ReferenceIdeal.sig (Elt Ideal))

/-- The reference's arguments are the program's. -/
structure Agree : Prop where
  a0 : (W (Proc.devRef .tc Cert.ReferenceIdeal.main_arg0) : FVec Ideal S2048x16x32 .f32) = arg m c main_arg0
  a1 : (W (Proc.devRef .tc Cert.ReferenceIdeal.main_arg1) : FVec Ideal S512x1024 .f32) = arg m c main_arg1
  a2 : (W (Proc.devRef .tc Cert.ReferenceIdeal.main_arg2) : FVec Ideal S1024 .f32) = arg m c main_arg2
  a3 : (W (Proc.devRef .tc Cert.ReferenceIdeal.main_arg3) : FVec Ideal S1024x1024 .f32) = arg m c main_arg3
  a4 : (W (Proc.devRef .tc Cert.ReferenceIdeal.main_arg4) : FVec Ideal S1024 .f32) = arg m c main_arg4
  a5 : (W (Proc.devRef .tc Cert.ReferenceIdeal.main_arg5) : FVec Ideal S1024x1024 .f32) = arg m c main_arg5
  a6 : (W (Proc.devRef .tc Cert.ReferenceIdeal.main_arg6) : FVec Ideal S1024 .f32) = arg m c main_arg6
  a7 : (W (Proc.devRef .tc Cert.ReferenceIdeal.main_arg7) : FVec Ideal S1024x1024 .f32) = arg m c main_arg7
  a8 : (W (Proc.devRef .tc Cert.ReferenceIdeal.main_arg8) : FVec Ideal S1024 .f32) = arg m c main_arg8
  a9 : (W (Proc.devRef .tc Cert.ReferenceIdeal.main_arg9) : FVec Ideal S1024x1024 .f32) = arg m c main_arg9
  a10 : (W (Proc.devRef .tc Cert.ReferenceIdeal.main_arg10) : FVec Ideal S1024 .f32) = arg m c main_arg10
  a11 : (W (Proc.devRef .tc Cert.ReferenceIdeal.main_arg11) : FVec Ideal S1024x512 .f32) = arg m c main_arg11
  a12 : (W (Proc.devRef .tc Cert.ReferenceIdeal.main_arg12) : FVec Ideal S512 .f32) = arg m c main_arg12
  a13 : (W (Proc.devRef .tc Cert.ReferenceIdeal.main_arg13) : FVec Ideal S8x1024x1024 .f32) = arg m c main_arg13

/-- A bias laid out as one row. -/
theorem bias_row (b : FVec Ideal S1024 .f32) : Cert.KernelIdeal.Mine.bias (shapeCast S1x1024 b shapeCasts_S1024_S1x1024 : FVec Ideal S1x1024 .f32) = Cert.ReferenceIdeal.Mine.bias b := by
  funext j
  unfold Cert.KernelIdeal.Mine.bias Cert.ReferenceIdeal.Mine.bias
  pointwise

/-- The decoder's last bias laid out as one row. -/
theorem bias_last (b : FVec Ideal S512 .f32) : Cert.KernelIdeal.Mine.bias (shapeCast S1x512 b shapeCasts_S512_S1x512 : FVec Ideal S1x512 .f32) = Cert.ReferenceIdeal.Mine.bias b := by
  funext j
  unfold Cert.KernelIdeal.Mine.bias Cert.ReferenceIdeal.Mine.bias
  pointwise

variable {m c W}
variable (A : Agree m c W) (H : ∀ op ∈ Cert.ReferenceIdeal.Mine.ops (F := Ideal), Holds W op)

include A H in
/-- The input's rows agree. -/
theorem rows_eq : (W (Proc.devRef .tc Cert.ReferenceIdeal.main_v0) : FVec Ideal S2048x512 .f32) = V1 m c main_v0 := by
  simp only [Cert.ReferenceIdeal.Mine.ops, List.forall_mem_append] at H
  refine (Cert.ReferenceIdeal.Mine.enc_x H.1).trans (Eq.trans ?_ (V1_v0 m c).symm)
  exact congrArg (fun x : FVec Ideal S2048x16x32 .f32 => shapeCast S2048x512 x shapeCasts_S2048x16x32_S2048x512) A.a0

include A H in
/-- The latents agree. -/
theorem latent_eq (a : Fin 2048) : Cert.ReferenceIdeal.Mine.zs W a = zt (U3 m) c a.val := by
  funext j
  have hi : (⟨a.val % 2048, by omega⟩ : Fin 2048) = a := Fin.ext (Nat.mod_eq_of_lt a.isLt)
  have hx := rows_eq A H
  simp only [Cert.ReferenceIdeal.Mine.ops, List.forall_mem_append] at H
  have hr := congrFun (Cert.ReferenceIdeal.Mine.enc_z H.1) (ix2 a j)
  rw [Cert.ReferenceIdeal.Mine.encF_at] at hr
  have hk := congrFun (U3_v4 m c) (ix2 a j)
  rw [encA_row] at hk
  unfold zt
  rw [hi]
  refine Eq.trans hr (Eq.trans ?_ hk.symm)
  unfold encM
  rw [V1_v1, V1_v2, V1_v3]
  erw [bias_row, bias_row, bias_row, hx, A.a1, A.a2, A.a3, A.a4, A.a5, A.a6, V1_of m c main_arg1 (by decide), V1_of m c main_arg3 (by decide), V1_of m c main_arg5 (by decide)]
  unfold xt
  rw [hi]
  rfl

include A in
/-- The codebooks agree. -/
theorem books_eq : Cert.ReferenceIdeal.Mine.books W = bks (U3 m) c := by
  funext g k j
  unfold Cert.ReferenceIdeal.Mine.books bks
  erw [A.a13, U3_arg m c main_arg13 (by decide) (by decide) (by decide)]

include A in
/-- The decoders agree. -/
theorem dec_eq (x : Fin 1024 → EReal) (r : FVec Ideal S2048x1024 .f32) (a : Fin 2048) (hx : Cert.ReferenceIdeal.Mine.row r a = x) (j : Fin 512) :
    Cert.ReferenceIdeal.Mine.decF r (W (Proc.devRef .tc Cert.ReferenceIdeal.main_arg7)) (W (Proc.devRef .tc Cert.ReferenceIdeal.main_arg8))
      (W (Proc.devRef .tc Cert.ReferenceIdeal.main_arg9)) (W (Proc.devRef .tc Cert.ReferenceIdeal.main_arg10)) (W (Proc.devRef .tc Cert.ReferenceIdeal.main_arg11))
      (W (Proc.devRef .tc Cert.ReferenceIdeal.main_arg12)) (ix2 a j) = decM (U3 m) c x j := by
  rw [Cert.ReferenceIdeal.Mine.decF_at, hx]
  unfold decM
  rw [U3_v5, U3_v6, U3_v7]
  erw [bias_row, bias_row, bias_last, A.a7, A.a8, A.a9, A.a10, A.a11, A.a12, U3_arg m c main_arg7 (by decide) (by decide) (by decide),
    U3_arg m c main_arg9 (by decide) (by decide) (by decide), U3_arg m c main_arg11 (by decide) (by decide) (by decide)]
  rfl

variable (hE : ∀ g, Fin' (bks (U3 m) c g))

include A H hE in
/-- The decoded rows agree. -/
theorem decoded_eq : (W (Proc.devRef .tc Cert.ReferenceIdeal.main_v74) : FVec Ideal S2048x512 .f32) = recA (U3 m) c := by
  have hs := (Cert.ReferenceIdeal.Mine.levels H).1
  have hd : ∀ op ∈ Cert.ReferenceIdeal.Mine.decOps (F := Ideal), Holds W op := fun op hop => H op (by
    simp only [Cert.ReferenceIdeal.Mine.ops, List.mem_append]
    simp only [hop, or_true])
  funext i
  obtain ⟨a, j, rfl⟩ : ∃ (a : Fin 2048) (j : Fin 512), i = ix2 a j := ⟨i 0, i 1, by funext d; fin_cases d <;> rfl⟩
  refine (congrFun (Cert.ReferenceIdeal.Mine.dec_rows hd) (ix2 a j)).trans ?_
  rw [dec_eq A _ _ a (hs a), recA_row (U3 m) c hE, latent_eq A H, books_eq A]

include A H hE in
/-- The reconstructions agree. -/
theorem rec_eq : (W (Proc.devRef .tc Cert.ReferenceIdeal.main_v75) : FVec Ideal S2048x16x32 .f32) = U5 m c main_v9 := by
  have hd : ∀ op ∈ Cert.ReferenceIdeal.Mine.decOps (F := Ideal), Holds W op := fun op hop => H op (by
    simp only [Cert.ReferenceIdeal.Mine.ops, List.mem_append]
    simp only [hop, or_true])
  refine (Cert.ReferenceIdeal.Mine.dec_rec hd).trans (Eq.trans ?_ (U5_v9 m c).symm)
  exact congrArg (fun x : FVec Ideal S2048x512 .f32 => shapeCast S2048x16x32 x shapeCasts_S2048x512_S2048x16x32) (decoded_eq A H hE)

/-- The numbers, laid out rows first. -/
theorem cols_at (x : IVec S8x1x2048 32) (a : Fin 2048) (g : Fin 8) :
    transpose S2048x8 [1, 0] (shapeCast S8x2048 x shapeCasts_S8x1x2048_S8x2048) transposes_S8x2048_S2048x8_1_0 (ix2 a g) = x (ix3 g 0 a) := by
  pointwise

include A H hE in
/-- The numbers agree. -/
theorem idx_eq : (W (Proc.devRef .tc Cert.ReferenceIdeal.main_v58) : IVec S2048x8 32) = U5 m c main_v11 := by
  have hs := (Cert.ReferenceIdeal.Mine.levels H).2.2
  refine Eq.trans ?_ (U5_v11 m c).symm
  funext i
  obtain ⟨a, g, rfl⟩ : ∃ (a : Fin 2048) (g : Fin 8), i = ix2 a g := ⟨i 0, i 1, by funext d; fin_cases d <;> rfl⟩
  refine (hs a g).trans (Eq.trans ?_ (cols_at _ a g).symm)
  rw [idxA_row (U3 m) c hE, latent_eq A H, books_eq A]

/-- The one entry of a loss. -/
theorem cell_at (x y : FVec Ideal S1x1 .f32) (i : S_.Idx) :
    (addf (shapeCast S_ x shapeCasts_S1x1_S_) (shapeCast S_ y shapeCasts_S1x1_S_) : FVec Ideal S_ .f32) i = x (ix2 0 0) + y (ix2 0 0) := by
  pointwise

include A H hE in
/-- The losses agree. -/
theorem loss_eq : (W (Proc.devRef .tc Cert.ReferenceIdeal.main_v80) : FVec Ideal S_ .f32) = U5 m c main_v14 := by
  have hd : ∀ op ∈ Cert.ReferenceIdeal.Mine.decOps (F := Ideal), Holds W op := fun op hop => H op (by
    simp only [Cert.ReferenceIdeal.Mine.ops, List.mem_append]
    simp only [hop, or_true])
  have hl := (Cert.ReferenceIdeal.Mine.levels H).2.1
  refine (Cert.ReferenceIdeal.Mine.dec_total hd).trans (Eq.trans ?_ (U5_v14 m c).symm)
  funext i
  refine Eq.trans ?_ (cell_at _ _ i).symm
  rw [lossB_at (U3 m) c hE 32 le_rfl, rlossB_at (U3 m) c hE 32 le_rfl,
    loss_tiles (fun n g => err (zt (U3 m) c n) (bks (U3 m) c) g) (by norm_num), rloss_tiles (rerr (U3 m) c) (by norm_num)]
  refine congrArg₂ (fun x y : EReal => x + y) ((hl i).trans ?_) ((Cert.ReferenceIdeal.Mine.rmeanF_at _ _ i).trans ?_)
  · refine Finset.sum_congr (M := EReal) rfl fun g _ => ?_
    unfold Cert.ReferenceIdeal.Mine.levelLoss
    refine congrArg (· * _) (Finset.sum_congr rfl fun a _ => ?_)
    rw [latent_eq A H, books_eq A]
  · refine congrArg (· * _) (Finset.sum_congr rfl fun a _ => Finset.sum_congr rfl fun j _ => ?_)
    have hi : (⟨a.val % 2048, by omega⟩ : Fin 2048) = a := Fin.ext (Nat.mod_eq_of_lt a.isLt)
    have h1 : Cert.ReferenceIdeal.Mine.row (W (Proc.devRef .tc Cert.ReferenceIdeal.main_v74) : FVec Ideal S2048x512 .f32) a j
        = decM (U3 m) c (sumTo (zt (U3 m) c a.val) (bks (U3 m) c) 8) j := by
      unfold Cert.ReferenceIdeal.Mine.row
      rw [decoded_eq A H hE, recA_row (U3 m) c hE]
    have h2 : Cert.ReferenceIdeal.Mine.row (W (Proc.devRef .tc Cert.ReferenceIdeal.main_v0) : FVec Ideal S2048x512 .f32) a j = xt (U3 m) c a.val j := by
      unfold Cert.ReferenceIdeal.Mine.row xt
      rw [rows_eq A H, hi, U3_of m c main_v0 (by decide) (by decide)]
    rw [h1, h2]

end Cert.Mine

end
-- ==== Proof.Algebraic.lean ====
/-
  The idealized program and the reference return equal results on finite codebooks.
-/
module

public import proofs.«01_k».proof.Proof.Final
public import proofs.«01_k».proof.Proof.Frames
public import proofs.«01_k».proof.Proof.RefFrame
public import proofs.«01_k».proof.Proof.Consts

@[expose] public section

set_option maxRecDepth 16384

noncomputable section

namespace Cert.Mine

open Idealize.ShloMosaic Idealize.ShloMosaic.StableHlo Idealize.SL.Sem
open Idealize.ShloMosaic.TcCoe

/-- The precondition's one side condition. -/
theorem pre_facts : Cert.Pre_embed_finite.Facts := ⟨by decide⟩

/-- An entry whose magnitude is below infinity is finite. -/
theorem finite_of_bit {x : EReal} (h : BitVec.ofBool (decide (max x (-x) < (⊤ : EReal))) = 1#1) : x ≠ ⊤ ∧ x ≠ ⊥ := by
  have h' : max x (-x) < (⊤ : EReal) := by
    by_contra hn
    rw [decide_eq_false hn] at h
    exact absurd h (by decide)
  constructor
  · rintro rfl
    simp at h'
  · rintro rfl
    simp at h'

section
open Cert.KernelIdeal Cert.KernelIdeal.Gen Cert.KernelIdeal.Mine

/-- The precondition makes every codebook finite. -/
theorem finite_books [Cert.Pre_embed_finite.Facts] {m : (ℓ : Loc nD τ sig) → Buf (Elt Ideal) ℓ} (hm : Cert.Pre_KernelIdeal_embed_finite m) (c : Dev nD) (g : ℕ) :
    Fin' (bks (U3 m) c g) := by
  intro k j
  have h := congrFun (hm c) (ix3 ⟨g % 8, by omega⟩ k j)
  unfold bks
  rw [U3_arg m c main_arg13 (by decide) (by decide) (by decide)]
  refine finite_of_bit ?_
  rw [← h, ← bits_top]
  pointwise [Cert.Pre_embed_finite.fn]
  rfl
end

/-- The reference's buffers at the end hold the program's arguments. -/
theorem agree_of {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (B : Agree m c fun d => m' (c, d)) : Agree m c (Cert.ReferenceIdeal.Mine.fin m' c) where
  a0 := (Cert.ReferenceIdeal.Mine.fin_arg m' c Cert.ReferenceIdeal.main_arg0 (by decide)).trans B.a0
  a1 := (Cert.ReferenceIdeal.Mine.fin_arg m' c Cert.ReferenceIdeal.main_arg1 (by decide)).trans B.a1
  a2 := (Cert.ReferenceIdeal.Mine.fin_arg m' c Cert.ReferenceIdeal.main_arg2 (by decide)).trans B.a2
  a3 := (Cert.ReferenceIdeal.Mine.fin_arg m' c Cert.ReferenceIdeal.main_arg3 (by decide)).trans B.a3
  a4 := (Cert.ReferenceIdeal.Mine.fin_arg m' c Cert.ReferenceIdeal.main_arg4 (by decide)).trans B.a4
  a5 := (Cert.ReferenceIdeal.Mine.fin_arg m' c Cert.ReferenceIdeal.main_arg5 (by decide)).trans B.a5
  a6 := (Cert.ReferenceIdeal.Mine.fin_arg m' c Cert.ReferenceIdeal.main_arg6 (by decide)).trans B.a6
  a7 := (Cert.ReferenceIdeal.Mine.fin_arg m' c Cert.ReferenceIdeal.main_arg7 (by decide)).trans B.a7
  a8 := (Cert.ReferenceIdeal.Mine.fin_arg m' c Cert.ReferenceIdeal.main_arg8 (by decide)).trans B.a8
  a9 := (Cert.ReferenceIdeal.Mine.fin_arg m' c Cert.ReferenceIdeal.main_arg9 (by decide)).trans B.a9
  a10 := (Cert.ReferenceIdeal.Mine.fin_arg m' c Cert.ReferenceIdeal.main_arg10 (by decide)).trans B.a10
  a11 := (Cert.ReferenceIdeal.Mine.fin_arg m' c Cert.ReferenceIdeal.main_arg11 (by decide)).trans B.a11
  a12 := (Cert.ReferenceIdeal.Mine.fin_arg m' c Cert.ReferenceIdeal.main_arg12 (by decide)).trans B.a12
  a13 := (Cert.ReferenceIdeal.Mine.fin_arg m' c Cert.ReferenceIdeal.main_arg13 (by decide)).trans B.a13

/-- From memories that agree on the arguments, the codebooks finite, both run, return equal results and leave the arguments. -/
theorem algebraic [Cert.KernelIdeal.Facts] [Cert.ReferenceIdeal.Facts] [Cert.Pre_embed_finite.Facts] : Cert.algebraic_KernelIdeal_ReferenceIdeal_pre_embed_finite := by
  intro m g m' g' hm hag
  have hE := fun c => finite_books hm c
  have A : ∀ c, Agree m c (Cert.ReferenceIdeal.Mine.fin m' c) := fun c => by
    obtain ⟨h0, h1, h2, h3, h4, h5, h6, h7, h8, h9, h10, h11, h12, h13⟩ := hag c
    exact agree_of ⟨h0, h1, h2, h3, h4, h5, h6, h7, h8, h9, h10, h11, h12, h13⟩
  have H := fun c => Cert.ReferenceIdeal.Mine.fin_holds m' c
  refine ⟨fun c => Cert.KernelIdeal.Mine.U5 m c Cert.KernelIdeal.main_v9, fun c => Cert.KernelIdeal.Mine.U5 m c Cert.KernelIdeal.main_v11,
    fun c => Cert.KernelIdeal.Mine.U5 m c Cert.KernelIdeal.main_v14, ?_, ?_⟩
  · refine (θ_run Cert.KernelIdeal.defs _ _).mono (fun r h c => ?_) (Cert.KernelIdeal.Mine.run_all m g)
    have k : ∀ b ∈ Cert.KernelIdeal.Mine.argRefs, r.2.mem ((c.tc : Thread _ _).loc b) = m ((c.tc : Thread _ _).loc b) := fun b hb =>
      (h.1 c _ (Cert.KernelIdeal.Mine.uc_mem b (Cert.KernelIdeal.Mine.args_uc b hb))).trans (Cert.KernelIdeal.Mine.args_kept m c b hb)
    exact ⟨h.1 c _ (Cert.KernelIdeal.Mine.uc_mem _ (by decide)), h.1 c _ (Cert.KernelIdeal.Mine.uc_mem _ (by decide)), h.1 c _ (Cert.KernelIdeal.Mine.uc_mem _ (by decide)),
      k _ (by decide), k _ (by decide), k _ (by decide), k _ (by decide), k _ (by decide), k _ (by decide), k _ (by decide),
      k _ (by decide), k _ (by decide), k _ (by decide), k _ (by decide), k _ (by decide), k _ (by decide), k _ (by decide)⟩
  · refine (θ_run Cert.ReferenceIdeal.defs _ _).mono (fun r h c => ?_) (Cert.ReferenceIdeal.Mine.run_main m' g')
    have k : ∀ b : Ref Cert.ReferenceIdeal.sig .tc, numR b < 14 → r.2.mem ((c.tc : Thread _ _).loc b) = m' ((c.tc : Thread _ _).loc b) :=
      fun b hb => (h c b).trans (Cert.ReferenceIdeal.Mine.fin_arg m' c b hb)
    exact ⟨(h c _).trans (rec_eq (A c) (H c) (hE c)), (h c _).trans (idx_eq (A c) (H c) (hE c)), (h c _).trans (loss_eq (A c) (H c) (hE c)),
      k _ (by decide), k _ (by decide), k _ (by decide), k _ (by decide), k _ (by decide), k _ (by decide), k _ (by decide),
      k _ (by decide), k _ (by decide), k _ (by decide), k _ (by decide), k _ (by decide), k _ (by decide), k _ (by decide)⟩

end Cert.Mine

end
-- ==== Proof.lean ====
/-
  The certificate's claim, assembled: the frames of the printed program, of the idealized program and of the reference,
  that the idealized program is the printed one, and that it returns the reference's results.
-/
module

public import proofs.«01_k».proof.Defs
public import proofs.«01_k».proof.Proof.Gen.Kernel
public import proofs.«01_k».proof.Proof.Same
public import proofs.«01_k».proof.Proof.RefFrame
public import proofs.«01_k».proof.Proof.Algebraic

@[expose] public section

noncomputable section

namespace Cert.Proof

open Idealize.ShloMosaic Idealize.SL.Sem

/-- Everything claimed. -/
theorem claim : Cert.Claim :=
  ⟨Cert.Kernel.Gen.facts, Cert.KernelIdeal.Gen.facts, Cert.ReferenceIdeal.Gen.facts, Cert.Mine.pre_facts,
    Cert.KernelIdeal.Mine.frame_printed, Cert.KernelIdeal.Mine.frame_ideal, fun m g _ => Cert.KernelIdeal.Mine.frame_ideal m g trivial,
    Cert.ReferenceIdeal.Mine.frame_ref, fun m g _ => Cert.ReferenceIdeal.Mine.frame_ref m g trivial, trivial,
    @Cert.Mine.algebraic Cert.KernelIdeal.Gen.facts Cert.ReferenceIdeal.Gen.facts Cert.Mine.pre_facts⟩

end Cert.Proof

end
